-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel9_Kernel9Ideal : Prop :=
  IdealRules.named_const.Statement Cert.Kernel9Ideal.κ "mask" .f32 0xF149F2CA#32 ⊥

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v81) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ algebraic_KernelIdeal_ReferenceIdeal_pre_finite (hKernelIdeal := hKernelIdeal) (hReferenceIdeal := hReferenceIdeal) (hPre_finite := hPre_finite)
    ∧ preserves_Kernel9_Kernel9Ideal
    ∧ algebraic_Kernel9Ideal_Reference9Ideal_pre_finite9 (hKernel9Ideal := hKernel9Ideal) (hReference9Ideal := hReference9Ideal) (hPre_finite9 := hPre_finite9)
-- ==== Pre_finite.lean ====
abbrev S8192x3072 : Shape := ⟨2, ![8192, 3072]⟩
abbrev S8192x128 : Shape := ⟨2, ![8192, 128]⟩
abbrev S1x128 : Shape := ⟨2, ![1, 128]⟩
abbrev S8192x2048 : Shape := ⟨2, ![8192, 2048]⟩
abbrev S1x2048 : Shape := ⟨2, ![1, 2048]⟩
abbrev S_ : Shape := ⟨0, ![]⟩

class Facts : Prop where
  bcast_S_S8192x3072 : S_.BroadcastsInDim S8192x3072 (![] : Fin 0 → Fin S8192x3072.rank)
  bcast_S_S8192x128 : S_.BroadcastsInDim S8192x128 (![] : Fin 0 → Fin S8192x128.rank)
  bcast_S_S1x128 : S_.BroadcastsInDim S1x128 (![] : Fin 0 → Fin S1x128.rank)
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x3072 .f32) (main_arg1 : FVec F S8192x128 .f32) (main_arg2 : FVec F S1x128 .f32) (main_arg3 : FVec F S8192x2048 .f32) (main_arg4 : FVec F S1x2048 .f32) : IVec S8192x3072 1 × IVec S8192x128 1 × IVec S1x128 1 × IVec S8192x2048 1 × IVec S1x2048 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_v3 : FVec F S8192x128 .f32 := Host.absf main_arg1
  let main_cst_0 : FVec F S_ .f32 := constant S_ .f32 0x7F800000#32
  let main_v4 : FVec F S8192x128 .f32 := broadcastInDim S8192x128 ![] bcast_S_S8192x128 main_cst_0
  let main_v5 : IVec S8192x128 1 := cmpf .olt main_v3 main_v4
  let main_v6 : FVec F S1x128 .f32 := Host.absf main_arg2
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  let main_v9 : FVec F S8192x2048 .f32 := Host.absf main_arg3
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  (main_v2, main_v5, main_v8, main_v11, main_v14)
-- ==== Pre_finite9.lean ====
abbrev S8192x3072 : Shape := ⟨2, ![8192, 3072]⟩
abbrev S8192x128 : Shape := ⟨2, ![8192, 128]⟩
abbrev S1x128 : Shape := ⟨2, ![1, 128]⟩
abbrev S_ : Shape := ⟨0, ![]⟩

class Facts : Prop where
  bcast_S_S8192x3072 : S_.BroadcastsInDim S8192x3072 (![] : Fin 0 → Fin S8192x3072.rank)
  bcast_S_S8192x128 : S_.BroadcastsInDim S8192x128 (![] : Fin 0 → Fin S8192x128.rank)
  bcast_S_S1x128 : S_.BroadcastsInDim S1x128 (![] : Fin 0 → Fin S1x128.rank)

variable [Facts]

def fn {F : FTy → Type} [FloatOps F] (main_arg0 : FVec F S8192x3072 .f32) (main_arg1 : FVec F S8192x128 .f32) (main_arg2 : FVec F S1x128 .f32) : IVec S8192x3072 1 × IVec S8192x128 1 × IVec S1x128 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_v3 : FVec F S8192x128 .f32 := Host.absf main_arg1
  let main_cst_0 : FVec F S_ .f32 := constant S_ .f32 0x7F800000#32
  let main_v4 : FVec F S8192x128 .f32 := broadcastInDim S8192x128 ![] bcast_S_S8192x128 main_cst_0
  let main_v5 : IVec S8192x128 1 := cmpf .olt main_v3 main_v4
  let main_v6 : FVec F S1x128 .f32 := Host.absf main_arg2
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  (main_v2, main_v5, main_v8)
-- ==== Kernel.lean ====
abbrev S8192x3072 : Shape := ⟨2, ![8192, 3072]⟩
abbrev S8192x128 : Shape := ⟨2, ![8192, 128]⟩
abbrev S1x128 : Shape := ⟨2, ![1, 128]⟩
abbrev S8192x2048 : Shape := ⟨2, ![8192, 2048]⟩
abbrev S1x2048 : Shape := ⟨2, ![1, 2048]⟩
abbrev S32x2048 : Shape := ⟨2, ![32, 2048]⟩
abbrev S_ : Shape := ⟨0, ![]⟩
abbrev S2048x32 : Shape := ⟨2, ![2048, 32]⟩
abbrev S2048x128 : Shape := ⟨2, ![2048, 128]⟩
abbrev S2x4096x4x8x64 : Shape := ⟨5, ![2, 4096, 4, 8, 64]⟩
abbrev S8192x512 : Shape := ⟨2, ![8192, 512]⟩
abbrev S2x4096x4x128 : Shape := ⟨4, ![2, 4096, 4, 128]⟩
abbrev S8192x32 : Shape := ⟨2, ![8192, 32]⟩
abbrev S2x4096x4x8 : Shape := ⟨4, ![2, 4096, 4, 8]⟩
abbrev S1x32 : Shape := ⟨2, ![1, 32]⟩
abbrev S32 : Shape := ⟨1, ![32]⟩
abbrev S4x8 : Shape := ⟨2, ![4, 8]⟩
abbrev S1x1x4x8 : Shape := ⟨4, ![1, 1, 4, 8]⟩
abbrev S2x32x4x8 : Shape := ⟨4, ![2, 32, 4, 8]⟩
abbrev S32x4096 : Shape := ⟨2, ![32, 4096]⟩
abbrev S1x32x4096x1x1 : Shape := ⟨5, ![1, 32, 4096, 1, 1]⟩
abbrev S2x32x1x4x8 : Shape := ⟨5, ![2, 32, 1, 4, 8]⟩
abbrev S2x1x4096x4x8 : Shape := ⟨5, ![2, 1, 4096, 4, 8]⟩
abbrev S2x32x4096x4x8 : Shape := ⟨5, ![2, 32, 4096, 4, 8]⟩
abbrev S2x32x4096x4x8x1 : Shape := ⟨6, ![2, 32, 4096, 4, 8, 1]⟩
abbrev S2x4096x4x8x1 : Shape := ⟨5, ![2, 4096, 4, 8, 1]⟩
abbrev S2x1x4096x4x8x64 : Shape := ⟨6, ![2, 1, 4096, 4, 8, 64]⟩
abbrev S2x32x4096x4x8x64 : Shape := ⟨6, ![2, 32, 4096, 4, 8, 64]⟩
abbrev S2x4x128x32x8x64 : Shape := ⟨6, ![2, 4, 128, 32, 8, 64]⟩
abbrev S2x32x128x4x8x64 : Shape := ⟨6, ![2, 32, 128, 4, 8, 64]⟩
abbrev S64x128x2048 : Shape := ⟨3, ![64, 128, 2048]⟩
abbrev S128x3072 : Shape := ⟨2, ![128, 3072]⟩
abbrev S128x128 : Shape := ⟨2, ![128, 128]⟩
abbrev S1x128x2048 : Shape := ⟨3, ![1, 128, 2048]⟩
abbrev S128x2048 : Shape := ⟨2, ![128, 2048]⟩
abbrev S8x2048 : Shape := ⟨2, ![8, 2048]⟩
abbrev S128x32 : Shape := ⟨2, ![128, 32]⟩
abbrev S1x128x512 : Shape := ⟨3, ![1, 128, 512]⟩
abbrev S128x512 : Shape := ⟨2, ![128, 512]⟩
abbrev S512 : Shape := ⟨1, ![512]⟩
abbrev S1x512 : Shape := ⟨2, ![1, 512]⟩
abbrev S8x512 : Shape := ⟨2, ![8, 512]⟩
abbrev S128x1 : Shape := ⟨2, ![128, 1]⟩
abbrev S128x64 : Shape := ⟨2, ![128, 64]⟩
abbrev S128 : Shape := ⟨1, ![128]⟩
abbrev S8x128 : Shape := ⟨2, ![8, 128]⟩

abbrev nBuf : Space → Nat
  | .hbm => 84
  | .vmem => 21
  | .smem => 0
  | _ => 0

abbrev bufTy : (tb : Table) → Fin (tcTables nBuf tb) → BufTy
  | .hbm, ⟨0, _⟩ => ⟨S8192x3072, .f32⟩
  | .hbm, ⟨1, _⟩ => ⟨S8192x128, .f32⟩
  | .hbm, ⟨2, _⟩ => ⟨S1x128, .f32⟩
  | .hbm, ⟨3, _⟩ => ⟨S8192x2048, .f32⟩
  | .hbm, ⟨4, _⟩ => ⟨S1x2048, .f32⟩
  | .hbm, ⟨5, _⟩ => ⟨S32x2048, .i32⟩
  | .hbm, ⟨6, _⟩ => ⟨S_, .i32⟩
  | .hbm, ⟨7, _⟩ => ⟨S_, .i32⟩
  | .hbm, ⟨8, _⟩ => ⟨S32x2048, .i32⟩
  | .hbm, ⟨9, _⟩ => ⟨S32x2048, .i32⟩
  | .hbm, ⟨10, _⟩ => ⟨S32x2048, .i32⟩
  | .hbm, ⟨11, _⟩ => ⟨S_, .i32⟩
  | .hbm, ⟨12, _⟩ => ⟨S32x2048, .i32⟩
  | .hbm, ⟨13, _⟩ => ⟨S32x2048, .i1⟩
  | .hbm, ⟨14, _⟩ => ⟨S32x2048, .i32⟩
  | .hbm, ⟨15, _⟩ => ⟨S32x2048, .i32⟩
  | .hbm, ⟨16, _⟩ => ⟨S_, .i32⟩
  | .hbm, ⟨17, _⟩ => ⟨S32x2048, .i32⟩
  | .hbm, ⟨18, _⟩ => ⟨S32x2048, .i1⟩
  | .hbm, ⟨19, _⟩ => ⟨S32x2048, .i1⟩
  | .hbm, ⟨20, _⟩ => ⟨S_, .i32⟩
  | .hbm, ⟨21, _⟩ => ⟨S32x2048, .i32⟩
  | .hbm, ⟨22, _⟩ => ⟨S32x2048, .i32⟩
  | .hbm, ⟨23, _⟩ => ⟨S32x2048, .i32⟩
  | .hbm, ⟨24, _⟩ => ⟨S32x2048, .i32⟩
  | .hbm, ⟨25, _⟩ => ⟨S32x2048, .i1⟩
  | .hbm, ⟨26, _⟩ => ⟨S32x2048, .bf16⟩
  | .hbm, ⟨27, _⟩ => ⟨S2048x32, .bf16⟩
  | .hbm, ⟨28, _⟩ => ⟨S_, .i32⟩
  | .hbm, ⟨29, _⟩ => ⟨S_, .bf16⟩
  | .hbm, ⟨30, _⟩ => ⟨S2048x128, .bf16⟩
  | .hbm, ⟨31, _⟩ => ⟨S1x128, .f32⟩
  | .hbm, ⟨32, _⟩ => ⟨S1x128, .f32⟩
  | .hbm, ⟨33, _⟩ => ⟨S8192x2048, .f32⟩
  | .hbm, ⟨34, _⟩ => ⟨S2x4096x4x8x64, .f32⟩
  | .hbm, ⟨35, _⟩ => ⟨S8192x512, .f32⟩
  | .hbm, ⟨36, _⟩ => ⟨S2x4096x4x128, .f32⟩
  | .hbm, ⟨37, _⟩ => ⟨S8192x512, .f32⟩
  | .hbm, ⟨38, _⟩ => ⟨S2x4096x4x128, .f32⟩
  | .hbm, ⟨39, _⟩ => ⟨S8192x32, .f32⟩
  | .hbm, ⟨40, _⟩ => ⟨S2x4096x4x8, .f32⟩
  | .hbm, ⟨41, _⟩ => ⟨S1x32, .f32⟩
  | .hbm, ⟨42, _⟩ => ⟨S32, .f32⟩
  | .hbm, ⟨43, _⟩ => ⟨S4x8, .f32⟩
  | .hbm, ⟨44, _⟩ => ⟨S1x1x4x8, .f32⟩
  | .hbm, ⟨45, _⟩ => ⟨S2x4096x4x8, .f32⟩
  | .hbm, ⟨46, _⟩ => ⟨S2x4096x4x8, .f32⟩
  | .hbm, ⟨47, _⟩ => ⟨S_, .f32⟩
  | .hbm, ⟨48, _⟩ => ⟨S_, .f32⟩
  | .hbm, ⟨49, _⟩ => ⟨S2x4096x4x8, .f32⟩
  | .hbm, ⟨50, _⟩ => ⟨S2x4096x4x8, .f32⟩
  | .hbm, ⟨51, _⟩ => ⟨S2x32x4x8, .f32⟩
  | .hbm, ⟨52, _⟩ => ⟨S32x4096, .i32⟩
  | .hbm, ⟨53, _⟩ => ⟨S_, .i32⟩
  | .hbm, ⟨54, _⟩ => ⟨S32x4096, .i32⟩
  | .hbm, ⟨55, _⟩ => ⟨S32x4096, .i32⟩
  | .hbm, ⟨56, _⟩ => ⟨S32x4096, .i32⟩
  | .hbm, ⟨57, _⟩ => ⟨S32x4096, .i1⟩
  | .hbm, ⟨58, _⟩ => ⟨S1x32x4096x1x1, .i1⟩
  | .hbm, ⟨59, _⟩ => ⟨S2x32x1x4x8, .f32⟩
  | .hbm, ⟨60, _⟩ => ⟨S2x1x4096x4x8, .f32⟩
  | .hbm, ⟨61, _⟩ => ⟨S2x32x4096x4x8, .f32⟩
  | .hbm, ⟨62, _⟩ => ⟨S2x32x4096x4x8, .f32⟩
  | .hbm, ⟨63, _⟩ => ⟨S2x32x4096x4x8, .f32⟩
  | .hbm, ⟨64, _⟩ => ⟨S_, .f32⟩
  | .hbm, ⟨65, _⟩ => ⟨S_, .f32⟩
  | .hbm, ⟨66, _⟩ => ⟨S2x32x4096x4x8, .i1⟩
  | .hbm, ⟨67, _⟩ => ⟨S2x32x4096x4x8, .f32⟩
  | .hbm, ⟨68, _⟩ => ⟨S2x32x4096x4x8, .f32⟩
  | .hbm, ⟨69, _⟩ => ⟨S2x32x4096x4x8, .f32⟩
  | .hbm, ⟨70, _⟩ => ⟨S2x32x4096x4x8x1, .f32⟩
  | .hbm, ⟨71, _⟩ => ⟨S2x4096x4x8x1, .f32⟩
  | .hbm, ⟨72, _⟩ => ⟨S2x4096x4x8x64, .f32⟩
  | .hbm, ⟨73, _⟩ => ⟨S2x4096x4x8x64, .f32⟩
  | .hbm, ⟨74, _⟩ => ⟨S2x1x4096x4x8x64, .f32⟩
  | .hbm, ⟨75, _⟩ => ⟨S2x32x4096x4x8x64, .f32⟩
  | .hbm, ⟨76, _⟩ => ⟨S2x32x4096x4x8x64, .f32⟩
  | .hbm, ⟨77, _⟩ => ⟨S2x32x4096x4x8x64, .f32⟩
  | .hbm, ⟨78, _⟩ => ⟨S2x4x128x32x8x64, .f32⟩
  | .hbm, ⟨79, _⟩ => ⟨S2x32x128x4x8x64, .f32⟩
  | .hbm, ⟨80, _⟩ => ⟨S64x128x2048, .f32⟩
  | .hbm, ⟨81, _⟩ => ⟨S8192x3072, .f32⟩
  | .hbm, ⟨82, _⟩ => ⟨S8192x128, .f32⟩
  | .hbm, ⟨83, _⟩ => ⟨S1x128, .f32⟩
  | .local _ .vmem, ⟨0, _⟩ => ⟨S128x3072, .f32⟩
  | .local _ .vmem, ⟨1, _⟩ => ⟨S128x3072, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S32x2048, .bf16⟩
  | .local _ .vmem, ⟨6, _⟩ => ⟨S2048x128, .bf16⟩
  | .local _ .vmem, ⟨7, _⟩ => ⟨S1x128x2048, .f32⟩
  | .local _ .vmem, ⟨8, _⟩ => ⟨S1x128x2048, .f32⟩
  | .local _ .vmem, ⟨9, _⟩ => ⟨S128x2048, .f32⟩
  | .local _ .vmem, ⟨10, _⟩ => ⟨S128x2048, .f32⟩
  | .local _ .vmem, ⟨11, _⟩ => ⟨S1x2048, .f32⟩
  | .local _ .vmem, ⟨12, _⟩ => ⟨S128x3072, .f32⟩
  | .local _ .vmem, ⟨13, _⟩ => ⟨S128x3072, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S8x2048, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call2_call0_cst : Ref sig .tc := ⟨.hbm, 47, rfl⟩
abbrev main_call2_call0_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_1 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50_0 : Ref sig .tc := ⟨.hbm, 81, rfl⟩
abbrev main_v50_1 : Ref sig .tc := ⟨.hbm, 82, rfl⟩
abbrev main_v50_2 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  let c0_i32_2 : BitVec 32 := 0#32
  ![v3.toNat, c0_i32.toNat, c0_i32_1.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S8192x3072 : Shape := ⟨2, ![8192, 3072]⟩
abbrev S8192x128 : Shape := ⟨2, ![8192, 128]⟩
abbrev S1x128 : Shape := ⟨2, ![1, 128]⟩
abbrev S8192x2048 : Shape := ⟨2, ![8192, 2048]⟩
abbrev S1x2048 : Shape := ⟨2, ![1, 2048]⟩
abbrev S2x4096x4x8x64 : Shape := ⟨5, ![2, 4096, 4, 8, 64]⟩
abbrev S8192x512 : Shape := ⟨2, ![8192, 512]⟩
abbrev S2x4096x4x128 : Shape := ⟨4, ![2, 4096, 4, 128]⟩
abbrev S8192x32 : Shape := ⟨2, ![8192, 32]⟩
abbrev S2x4096x4x8 : Shape := ⟨4, ![2, 4096, 4, 8]⟩
abbrev S1x32 : Shape := ⟨2, ![1, 32]⟩
abbrev S32 : Shape := ⟨1, ![32]⟩
abbrev S4x8 : Shape := ⟨2, ![4, 8]⟩
abbrev S1x1x4x8 : Shape := ⟨4, ![1, 1, 4, 8]⟩
abbrev S_ : Shape := ⟨0, ![]⟩
abbrev S4096x4096 : Shape := ⟨2, ![4096, 4096]⟩
abbrev S1x4096x4096x1x1 : Shape := ⟨5, ![1, 4096, 4096, 1, 1]⟩
abbrev S2x4096x1x4x8 : Shape := ⟨5, ![2, 4096, 1, 4, 8]⟩
abbrev S2x1x4096x4x8 : Shape := ⟨5, ![2, 1, 4096, 4, 8]⟩
abbrev S2x4096x4096x4x8 : Shape := ⟨5, ![2, 4096, 4096, 4, 8]⟩
abbrev S2x4x4096x4096 : Shape := ⟨4, ![2, 4, 4096, 4096]⟩
abbrev S2x4096x4096x4 : Shape := ⟨4, ![2, 4096, 4096, 4]⟩
abbrev S2x4096x4096x4x1 : Shape := ⟨5, ![2, 4096, 4096, 4, 1]⟩
abbrev S2x4096x4x8x1 : Shape := ⟨5, ![2, 4096, 4, 8, 1]⟩
abbrev S2x4x8x64x4096 : Shape := ⟨5, ![2, 4, 8, 64, 4096]⟩
abbrev S2x4x8x4096x4096 : Shape := ⟨5, ![2, 4, 8, 4096, 4096]⟩
abbrev S2x4x4096x128 : Shape := ⟨4, ![2, 4, 4096, 128]⟩

abbrev nBuf : Space → Nat
  | .hbm => 136
  | .vmem => 0
  | .smem => 0
  | _ => 0

abbrev hbmTy0_0 (i : Nat) : BufTy := match i % 128 with
  | 0 => ⟨S8192x3072, .f32⟩
  | 1 => ⟨S8192x128, .f32⟩
  | 2 => ⟨S1x128, .f32⟩
  | 3 => ⟨S8192x2048, .f32⟩
  | 4 => ⟨S1x2048, .f32⟩
  | 5 => ⟨S1x128, .f32⟩
  | 6 => ⟨S1x128, .f32⟩
  | 7 => ⟨S8192x2048, .f32⟩
  | 8 => ⟨S2x4096x4x8x64, .f32⟩
  | 9 => ⟨S8192x512, .f32⟩
  | 10 => ⟨S2x4096x4x128, .f32⟩
  | 11 => ⟨S8192x512, .f32⟩
  | 12 => ⟨S2x4096x4x128, .f32⟩
  | 13 => ⟨S8192x32, .f32⟩
  | 14 => ⟨S2x4096x4x8, .f32⟩
  | 15 => ⟨S1x32, .f32⟩
  | 16 => ⟨S32, .f32⟩
  | 17 => ⟨S4x8, .f32⟩
  | 18 => ⟨S1x1x4x8, .f32⟩
  | 19 => ⟨S2x4096x4x8, .f32⟩
  | 20 => ⟨S2x4096x4x8, .f32⟩
  | 21 => ⟨S_, .f32⟩
  | 22 => ⟨S_, .f32⟩
  | 23 => ⟨S2x4096x4x8, .f32⟩
  | 24 => ⟨S4096x4096, .i32⟩
  | 25 => ⟨S4096x4096, .i32⟩
  | 26 => ⟨S4096x4096, .i1⟩
  | 27 => ⟨S1x4096x4096x1x1, .i1⟩
  | 28 => ⟨S2x4096x1x4x8, .f32⟩
  | 29 => ⟨S2x1x4096x4x8, .f32⟩
  | 30 => ⟨S2x4096x4096x4x8, .f32⟩
  | 31 => ⟨S2x4096x4096x4x8, .f32⟩
  | 32 => ⟨S2x4096x4096x4x8, .f32⟩
  | 33 => ⟨S_, .f32⟩
  | 34 => ⟨S_, .f32⟩
  | 35 => ⟨S2x4096x4096x4x8, .i1⟩
  | 36 => ⟨S2x4096x4096x4x8, .f32⟩
  | 37 => ⟨S2x4096x4096x4x8, .f32⟩
  | 38 => ⟨S_, .f32⟩
  | 39 => ⟨S2x4096x4096x4x8, .f32⟩
  | 40 => ⟨S2x4x4096x4096, .f32⟩
  | 41 => ⟨S2x4096x4096x4, .f32⟩
  | 42 => ⟨S2x4096x4096x4x1, .f32⟩
  | 43 => ⟨S2x4096x4096x4x8, .f32⟩
  | 44 => ⟨S2x4096x4096x4x8, .f32⟩
  | 45 => ⟨S2x4096x4096x4x8, .f32⟩
  | 46 => ⟨S2x4096x4x8x1, .f32⟩
  | 47 => ⟨S2x4096x4x8x64, .f32⟩
  | 48 => ⟨S2x4096x4x8x64, .f32⟩
  | 49 => ⟨S2x4x8x64x4096, .f32⟩
  | 50 => ⟨S2x4096x4x8x64, .f32⟩
  | 51 => ⟨S8192x2048, .f32⟩
  | 52 => ⟨S8192x2048, .f32⟩
  | 53 => ⟨S8192x2048, .f32⟩
  | 54 => ⟨S8192x2048, .f32⟩
  | 55 => ⟨S8192x2048, .f32⟩
  | 56 => ⟨S8192x2048, .f32⟩
  | 57 => ⟨S8192x2048, .f32⟩
  | 58 => ⟨S8192x2048, .f32⟩
  | 59 => ⟨S8192x2048, .f32⟩
  | 60 => ⟨S_, .f32⟩
  | 61 => ⟨S8192x3072, .f32⟩
  | 62 => ⟨S2x4096x4x8x64, .f32⟩
  | 63 => ⟨S2x4x8x64x4096, .f32⟩
  | 64 => ⟨S2x4x8x4096x4096, .f32⟩
  | 65 => ⟨S2x4096x4096x4x8, .f32⟩
  | 66 => ⟨S2x4x8x64x4096, .f32⟩
  | 67 => ⟨S2x4096x4x8x64, .f32⟩
  | 68 => ⟨S2x4096x4x8x64, .f32⟩
  | 69 => ⟨S_, .f32⟩
  | 70 => ⟨S2x4096x4x8, .f32⟩
  | 71 => ⟨S2x4096x4x8x1, .f32⟩
  | 72 => ⟨S2x4096x4x8x64, .f32⟩
  | 73 => ⟨S2x4096x4x8x64, .f32⟩
  | 74 => ⟨S_, .f32⟩
  | 75 => ⟨S2x4096x4x8, .f32⟩
  | 76 => ⟨S2x4096x4096x4x8, .f32⟩
  | 77 => ⟨S2x4096x4096x4x8, .f32⟩
  | 78 => ⟨S2x4096x4096x4x8, .f32⟩
  | 79 => ⟨S_, .f32⟩
  | 80 => ⟨S2x4096x4096x4, .f32⟩
  | 81 => ⟨S2x4096x4096x4x1, .f32⟩
  | 82 => ⟨S2x4096x4096x4x8, .f32⟩
  | 83 => ⟨S_, .f32⟩
  | 84 => ⟨S2x4096x4096x4, .f32⟩
  | 85 => ⟨S2x4x4096x4096, .f32⟩
  | 86 => ⟨S2x4x4096x128, .f32⟩
  | 87 => ⟨S2x4096x4x128, .f32⟩
  | 88 => ⟨S2x4x4096x128, .f32⟩
  | 89 => ⟨S2x4096x4x128, .f32⟩
  | 90 => ⟨S_, .f32⟩
  | 91 => ⟨S2x4096x4096x4x8, .f32⟩
  | 92 => ⟨S2x4096x4096x4x8, .f32⟩
  | 93 => ⟨S_, .f32⟩
  | 94 => ⟨S2x4096x4x8, .f32⟩
  | 95 => ⟨S2x4096x1x4x8, .f32⟩
  | 96 => ⟨S2x4096x4096x4x8, .f32⟩
  | 97 => ⟨S_, .f32⟩
  | 98 => ⟨S2x4096x4x8, .f32⟩
  | 99 => ⟨S2x1x4096x4x8, .f32⟩
  | 100 => ⟨S_, .f32⟩
  | 101 => ⟨S2x4096x4x8, .f32⟩
  | 102 => ⟨S_, .f32⟩
  | 103 => ⟨S2x4096x4x8, .f32⟩
  | 104 => ⟨S2x4096x4x8, .f32⟩
  | 105 => ⟨S_, .f32⟩
  | 106 => ⟨S_, .f32⟩
  | 107 => ⟨S2x4096x4x8, .f32⟩
  | 108 => ⟨S2x4096x4x8, .f32⟩
  | 109 => ⟨S_, .f32⟩
  | 110 => ⟨S4x8, .f32⟩
  | 111 => ⟨S1x1x4x8, .f32⟩
  | 112 => ⟨S2x4096x4x8, .f32⟩
  | 113 => ⟨S2x4096x4x8, .f32⟩
  | 114 => ⟨S2x4096x4x8, .f32⟩
  | 115 => ⟨S_, .f32⟩
  | 116 => ⟨S4x8, .f32⟩
  | 117 => ⟨S32, .f32⟩
  | 118 => ⟨S1x32, .f32⟩
  | 119 => ⟨S_, .f32⟩
  | 120 => ⟨S1x128, .f32⟩
  | 121 => ⟨S8192x32, .f32⟩
  | 122 => ⟨S_, .f32⟩
  | 123 => ⟨S8192x128, .f32⟩
  | 124 => ⟨S8192x512, .f32⟩
  | 125 => ⟨S_, .f32⟩
  | 126 => ⟨S8192x3072, .f32⟩
  | 127 => ⟨S8192x3072, .f32⟩
  | _ => ⟨S8192x3072, .f32⟩

abbrev hbmTy0_1 (i : Nat) : BufTy := match i % 128 with
  | 0 => ⟨S8192x512, .f32⟩
  | 1 => ⟨S_, .f32⟩
  | 2 => ⟨S8192x3072, .f32⟩
  | 3 => ⟨S8192x3072, .f32⟩
  | 4 => ⟨S8192x2048, .f32⟩
  | 5 => ⟨S_, .f32⟩
  | 6 => ⟨S8192x3072, .f32⟩
  | 7 => ⟨S8192x3072, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_call0_cst : Ref sig .tc := ⟨.hbm, 21, rfl⟩
abbrev main_call0_call0_v0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_call1_v0 : Ref sig .tc := ⟨.hbm, 34, rfl⟩
abbrev main_v26_1 : Ref sig .tc := ⟨.hbm, 35, rfl⟩
abbrev main_call1_v2 : Ref sig .tc := ⟨.hbm, 36, rfl⟩
abbrev main_v26_0 : Ref sig .tc := ⟨.hbm, 37, rfl⟩
abbrev main_call1_cst : Ref sig .tc := ⟨.hbm, 38, rfl⟩
abbrev main_v26_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_0 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_1 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_2 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_3 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_4 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_call2_cst : Ref sig .tc := ⟨.hbm, 90, rfl⟩
abbrev main_call2_v0 : Ref sig .tc := ⟨.hbm, 91, rfl⟩
abbrev main_v72 : Ref sig .tc := ⟨.hbm, 92, rfl⟩
abbrev main_cst_5 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_6 : Ref sig .tc := ⟨.hbm, 97, rfl⟩
abbrev main_v76 : Ref sig .tc := ⟨.hbm, 98, rfl⟩
abbrev main_v77 : Ref sig .tc := ⟨.hbm, 99, rfl⟩
abbrev main_cst_7 : Ref sig .tc := ⟨.hbm, 100, rfl⟩
abbrev main_v78 : Ref sig .tc := ⟨.hbm, 101, rfl⟩
abbrev main_cst_8 : Ref sig .tc := ⟨.hbm, 102, rfl⟩
abbrev main_v79 : Ref sig .tc := ⟨.hbm, 103, rfl⟩
abbrev main_v80 : Ref sig .tc := ⟨.hbm, 104, rfl⟩
abbrev main_call3_call0_cst : Ref sig .tc := ⟨.hbm, 105, rfl⟩
abbrev main_call3_call0_v0 : Ref sig .tc := ⟨.hbm, 106, rfl⟩
abbrev main_v81 : Ref sig .tc := ⟨.hbm, 107, rfl⟩
abbrev main_v82 : Ref sig .tc := ⟨.hbm, 108, rfl⟩
abbrev main_cst_9 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_10 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_11 : Ref sig .tc := ⟨.hbm, 119, rfl⟩
abbrev main_v91 : Ref sig .tc := ⟨.hbm, 120, rfl⟩
abbrev main_v92 : Ref sig .tc := ⟨.hbm, 121, rfl⟩
abbrev main_cst_12 : Ref sig .tc := ⟨.hbm, 122, rfl⟩
abbrev main_v93 : Ref sig .tc := ⟨.hbm, 123, rfl⟩
abbrev main_v94 : Ref sig .tc := ⟨.hbm, 124, rfl⟩
abbrev main_cst_13 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_14 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_15 : Ref sig .tc := ⟨.hbm, 133, rfl⟩
abbrev main_v101 : Ref sig .tc := ⟨.hbm, 134, rfl⟩
abbrev main_v102 : Ref sig .tc := ⟨.hbm, 135, rfl⟩

abbrev nD : Nat := 1
abbrev τ : Topo := Topo.v7x

variable {F : FTy → Type} [FloatOps F]
-- ==== Kernel2.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S1024x2048, .f32⟩
  | .hbm, ⟨7, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x5376 : Shape := ⟨2, ![8192, 5376]⟩
abbrev S1024x5376 : Shape := ⟨2, ![1024, 5376]⟩
abbrev S8192x1024 : Shape := ⟨2, ![8192, 1024]⟩
abbrev S1024x1792 : Shape := ⟨2, ![1024, 1792]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5376, .bf16⟩
  | .hbm, ⟨1, _⟩ => ⟨S1024x5376, .bf16⟩
  | .hbm, ⟨2, _⟩ => ⟨S8192x1024, .bf16⟩
  | .local _ .vmem, ⟨0, _⟩ => ⟨S1024x1792, .bf16⟩
  | .local _ .vmem, ⟨1, _⟩ => ⟨S1024x1792, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5376 : Shape := ⟨2, ![8192, 5376]⟩
abbrev S1024x5376 : Shape := ⟨2, ![1024, 5376]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x5376, .bf16⟩
  | .hbm, ⟨1, _⟩ => ⟨S1024x5376, .bf16⟩
  | .hbm, ⟨2, _⟩ => ⟨S_, .f32⟩
  | .hbm, ⟨3, _⟩ => ⟨S8192x1024, .f32⟩
  | .hbm, ⟨4, _⟩ => ⟨S1024x5376, .f32⟩
  | .hbm, ⟨5, _⟩ => ⟨S8192x5376, .f32⟩
  | .hbm, ⟨6, _⟩ => ⟨S8192x5376, .f32⟩
  | .hbm, ⟨7, _⟩ => ⟨S8192x1024, .f32⟩
  | .hbm, ⟨8, _⟩ => ⟨S8192x1024, .bf16⟩
  | _, _ => ⟨S8192x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S8192x5376 : Shape := ⟨2, ![8192, 5376]⟩
abbrev S1024x5376 : Shape := ⟨2, ![1024, 5376]⟩
abbrev S1024x1024 : Shape := ⟨2, ![1024, 1024]⟩
abbrev S1024x1792 : Shape := ⟨2, ![1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5376, .bf16⟩
  | .hbm, ⟨2, _⟩ => ⟨S1024x5376, .f32⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1792, .f32⟩
  | .local _ .vmem, ⟨5, _⟩ => ⟨S1024x1792, .f32⟩
  | .local _ .vmem, ⟨6, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x5376 : Shape := ⟨2, ![8192, 5376]⟩
abbrev S_ : Shape := ⟨0, ![]⟩
abbrev S1024x5376 : Shape := ⟨2, ![1024, 5376]⟩
abbrev S5376x1024 : Shape := ⟨2, ![5376, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5376, .bf16⟩
  | .hbm, ⟨2, _⟩ => ⟨S_, .f32⟩
  | .hbm, ⟨3, _⟩ => ⟨S1024x5376, .f32⟩
  | .hbm, ⟨4, _⟩ => ⟨S8192x1024, .f32⟩
  | .hbm, ⟨5, _⟩ => ⟨S8192x5376, .f32⟩
  | .hbm, ⟨6, _⟩ => ⟨S8192x5376, .f32⟩
  | .hbm, ⟨7, _⟩ => ⟨S5376x1024, .f32⟩
  | .hbm, ⟨8, _⟩ => ⟨S1024x5376, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S2048x1024 : Shape := ⟨2, ![2048, 1024]⟩
abbrev S8192x2048 : Shape := ⟨2, ![8192, 2048]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x2048, .f32⟩
  | .hbm, ⟨7, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x1024 : Shape := ⟨2, ![8192, 1024]⟩
abbrev S8192x7168 : Shape := ⟨2, ![8192, 7168]⟩
abbrev S1024x7168 : Shape := ⟨2, ![1024, 7168]⟩
abbrev S1024x1024 : Shape := ⟨2, ![1024, 1024]⟩
abbrev S1024x1792 : Shape := ⟨2, ![1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S1024x7168, .f32⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1792, .f32⟩
  | .local _ .vmem, ⟨5, _⟩ => ⟨S1024x1792, .f32⟩
  | .local _ .vmem, ⟨6, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S_, .f32⟩
  | .hbm, ⟨3, _⟩ => ⟨S1024x7168, .f32⟩
  | .hbm, ⟨4, _⟩ => ⟨S8192x1024, .f32⟩
  | .hbm, ⟨5, _⟩ => ⟨S8192x7168, .f32⟩
  | .hbm, ⟨6, _⟩ => ⟨S8192x7168, .f32⟩
  | .hbm, ⟨7, _⟩ => ⟨S7168x1024, .f32⟩
  | .hbm, ⟨8, _⟩ => ⟨S1024x7168, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x2048 : Shape := ⟨2, ![8192, 2048]⟩
abbrev S2048x1024 : Shape := ⟨2, ![2048, 1024]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x1024 : Shape := ⟨2, ![8192, 1024]⟩
abbrev S1024x5376 : Shape := ⟨2, ![1024, 5376]⟩
abbrev S8192x5376 : Shape := ⟨2, ![8192, 5376]⟩
abbrev S512x1024 : Shape := ⟨2, ![512, 1024]⟩
abbrev S1024x768 : Shape := ⟨2, ![1024, 768]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5376, .bf16⟩
  | .hbm, ⟨2, _⟩ => ⟨S8192x5376, .bf16⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1024x768, .bf16⟩
  | .local _ .vmem, ⟨4, _⟩ => ⟨S512x768, .bf16⟩
  | .local _ .vmem, ⟨5, _⟩ => ⟨S512x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x5376 : Shape := ⟨2, ![1024, 5376]⟩
abbrev S8192x5376 : Shape := ⟨2, ![8192, 5376]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5376, .bf16⟩
  | .hbm, ⟨2, _⟩ => ⟨S8192x1024, .f32⟩
  | .hbm, ⟨3, _⟩ => ⟨S1024x5376, .f32⟩
  | .hbm, ⟨4, _⟩ => ⟨S8192x5376, .f32⟩
  | .hbm, ⟨5, _⟩ => ⟨S8192x5376, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8192x3072 : Shape := ⟨2, ![8192, 3072]⟩
abbrev S8192x128 : Shape := ⟨2, ![8192, 128]⟩
abbrev S1x128 : Shape := ⟨2, ![1, 128]⟩
abbrev S32x2048 : Shape := ⟨2, ![32, 2048]⟩
abbrev S_ : Shape := ⟨0, ![]⟩
abbrev S8192x2048 : Shape := ⟨2, ![8192, 2048]⟩
abbrev S64x128x2048 : Shape := ⟨3, ![64, 128, 2048]⟩
abbrev S128x3072 : Shape := ⟨2, ![128, 3072]⟩
abbrev S128x128 : Shape := ⟨2, ![128, 128]⟩
abbrev S128x2048 : Shape := ⟨2, ![128, 2048]⟩
abbrev S1x128x2048 : Shape := ⟨3, ![1, 128, 2048]⟩
abbrev S128x32 : Shape := ⟨2, ![128, 32]⟩
abbrev S1x2048 : Shape := ⟨2, ![1, 2048]⟩
abbrev S128x512 : Shape := ⟨2, ![128, 512]⟩
abbrev S128x1 : Shape := ⟨2, ![128, 1]⟩
abbrev S128x64 : Shape := ⟨2, ![128, 64]⟩
abbrev S1x512 : Shape := ⟨2, ![1, 512]⟩

abbrev nBuf : Space → Nat
  | .hbm => 27
  | .vmem => 11
  | .smem => 0
  | _ => 0

abbrev bufTy : (tb : Table) → Fin (tcTables nBuf tb) → BufTy
  | .hbm, ⟨0, _⟩ => ⟨S8192x3072, .f32⟩
  | .hbm, ⟨1, _⟩ => ⟨S8192x128, .f32⟩
  | .hbm, ⟨2, _⟩ => ⟨S1x128, .f32⟩
  | .hbm, ⟨3, _⟩ => ⟨S32x2048, .i32⟩
  | .hbm, ⟨4, _⟩ => ⟨S_, .i32⟩
  | .hbm, ⟨5, _⟩ => ⟨S_, .i32⟩
  | .hbm, ⟨6, _⟩ => ⟨S32x2048, .i32⟩
  | .hbm, ⟨7, _⟩ => ⟨S32x2048, .i32⟩
  | .hbm, ⟨8, _⟩ => ⟨S32x2048, .i32⟩
  | .hbm, ⟨9, _⟩ => ⟨S_, .i32⟩
  | .hbm, ⟨10, _⟩ => ⟨S32x2048, .i32⟩
  | .hbm, ⟨11, _⟩ => ⟨S32x2048, .i1⟩
  | .hbm, ⟨12, _⟩ => ⟨S32x2048, .i32⟩
  | .hbm, ⟨13, _⟩ => ⟨S32x2048, .i32⟩
  | .hbm, ⟨14, _⟩ => ⟨S_, .i32⟩
  | .hbm, ⟨15, _⟩ => ⟨S32x2048, .i32⟩
  | .hbm, ⟨16, _⟩ => ⟨S32x2048, .i1⟩
  | .hbm, ⟨17, _⟩ => ⟨S32x2048, .i1⟩
  | .hbm, ⟨18, _⟩ => ⟨S_, .i32⟩
  | .hbm, ⟨19, _⟩ => ⟨S32x2048, .i32⟩
  | .hbm, ⟨20, _⟩ => ⟨S32x2048, .i32⟩
  | .hbm, ⟨21, _⟩ => ⟨S32x2048, .i32⟩
  | .hbm, ⟨22, _⟩ => ⟨S32x2048, .i32⟩
  | .hbm, ⟨23, _⟩ => ⟨S32x2048, .i1⟩
  | .hbm, ⟨24, _⟩ => ⟨S32x2048, .bf16⟩
  | .hbm, ⟨25, _⟩ => ⟨S8192x2048, .f32⟩
  | .hbm, ⟨26, _⟩ => ⟨S64x128x2048, .f32⟩
  | .local _ .vmem, ⟨0, _⟩ => ⟨S128x3072, .f32⟩
  | .local _ .vmem, ⟨1, _⟩ => ⟨S128x3072, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S32x2048, .bf16⟩
  | .local _ .vmem, ⟨6, _⟩ => ⟨S128x2048, .f32⟩
  | .local _ .vmem, ⟨7, _⟩ => ⟨S128x2048, .f32⟩
  | .local _ .vmem, ⟨8, _⟩ => ⟨S1x128x2048, .f32⟩
  | .local _ .vmem, ⟨9, _⟩ => ⟨S1x128x2048, .f32⟩
  | .local _ .vmem, ⟨10, _⟩ => ⟨S128x2048, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5_0 : Ref sig .tc := ⟨.hbm, 25, rfl⟩
abbrev main_v5_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel9Ideal.lean ====
variable {F : FTy → Type} [FloatOps F] [Named F]
def κ : String → Option EReal := fun
  | "mask" => some ⊥
  | _ => none
-- ==== Reference9Ideal.lean ====
abbrev S8192x3072 : Shape := ⟨2, ![8192, 3072]⟩
abbrev S8192x128 : Shape := ⟨2, ![8192, 128]⟩
abbrev S1x128 : Shape := ⟨2, ![1, 128]⟩
abbrev S8192x2048 : Shape := ⟨2, ![8192, 2048]⟩
abbrev S2x4096x4x8x64 : Shape := ⟨5, ![2, 4096, 4, 8, 64]⟩
abbrev S8192x512 : Shape := ⟨2, ![8192, 512]⟩
abbrev S2x4096x4x128 : Shape := ⟨4, ![2, 4096, 4, 128]⟩
abbrev S8192x32 : Shape := ⟨2, ![8192, 32]⟩
abbrev S2x4096x4x8 : Shape := ⟨4, ![2, 4096, 4, 8]⟩
abbrev S1x32 : Shape := ⟨2, ![1, 32]⟩
abbrev S32 : Shape := ⟨1, ![32]⟩
abbrev S4x8 : Shape := ⟨2, ![4, 8]⟩
abbrev S1x1x4x8 : Shape := ⟨4, ![1, 1, 4, 8]⟩
abbrev S_ : Shape := ⟨0, ![]⟩
abbrev S4096x4096 : Shape := ⟨2, ![4096, 4096]⟩
abbrev S1x4096x4096x1x1 : Shape := ⟨5, ![1, 4096, 4096, 1, 1]⟩
abbrev S2x4096x1x4x8 : Shape := ⟨5, ![2, 4096, 1, 4, 8]⟩
abbrev S2x1x4096x4x8 : Shape := ⟨5, ![2, 1, 4096, 4, 8]⟩
abbrev S2x4096x4096x4x8 : Shape := ⟨5, ![2, 4096, 4096, 4, 8]⟩
abbrev S2x4x4096x4096 : Shape := ⟨4, ![2, 4, 4096, 4096]⟩
abbrev S2x4096x4096x4 : Shape := ⟨4, ![2, 4096, 4096, 4]⟩
abbrev S2x4096x4096x4x1 : Shape := ⟨5, ![2, 4096, 4096, 4, 1]⟩
abbrev S2x4096x4x8x1 : Shape := ⟨5, ![2, 4096, 4, 8, 1]⟩
abbrev S2x4x8x64x4096 : Shape := ⟨5, ![2, 4, 8, 64, 4096]⟩
abbrev S2x32x4x8 : Shape := ⟨4, ![2, 32, 4, 8]⟩
abbrev S32x4096 : Shape := ⟨2, ![32, 4096]⟩
abbrev S1x32x4096x1x1 : Shape := ⟨5, ![1, 32, 4096, 1, 1]⟩
abbrev S2x32x1x4x8 : Shape := ⟨5, ![2, 32, 1, 4, 8]⟩
abbrev S2x32x4096x4x8 : Shape := ⟨5, ![2, 32, 4096, 4, 8]⟩
abbrev S2x32x4096x4x8x1 : Shape := ⟨6, ![2, 32, 4096, 4, 8, 1]⟩
abbrev S2x1x4096x4x8x64 : Shape := ⟨6, ![2, 1, 4096, 4, 8, 64]⟩
abbrev S2x32x4096x4x8x64 : Shape := ⟨6, ![2, 32, 4096, 4, 8, 64]⟩
abbrev S2x4x128x32x8x64 : Shape := ⟨6, ![2, 4, 128, 32, 8, 64]⟩
abbrev S2x32x128x4x8x64 : Shape := ⟨6, ![2, 32, 128, 4, 8, 64]⟩
abbrev S64x128x2048 : Shape := ⟨3, ![64, 128, 2048]⟩

abbrev nBuf : Space → Nat
  | .hbm => 98
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S8192x2048, .f32⟩
  | .hbm, ⟨6, _⟩ => ⟨S2x4096x4x8x64, .f32⟩
  | .hbm, ⟨7, _⟩ => ⟨S8192x512, .f32⟩
  | .hbm, ⟨8, _⟩ => ⟨S2x4096x4x128, .f32⟩
  | .hbm, ⟨9, _⟩ => ⟨S8192x512, .f32⟩
  | .hbm, ⟨10, _⟩ => ⟨S2x4096x4x128, .f32⟩
  | .hbm, ⟨11, _⟩ => ⟨S8192x32, .f32⟩
  | .hbm, ⟨12, _⟩ => ⟨S2x4096x4x8, .f32⟩
  | .hbm, ⟨13, _⟩ => ⟨S1x32, .f32⟩
  | .hbm, ⟨14, _⟩ => ⟨S32, .f32⟩
  | .hbm, ⟨15, _⟩ => ⟨S4x8, .f32⟩
  | .hbm, ⟨16, _⟩ => ⟨S1x1x4x8, .f32⟩
  | .hbm, ⟨17, _⟩ => ⟨S2x4096x4x8, .f32⟩
  | .hbm, ⟨18, _⟩ => ⟨S2x4096x4x8, .f32⟩
  | .hbm, ⟨19, _⟩ => ⟨S_, .f32⟩
  | .hbm, ⟨20, _⟩ => ⟨S_, .f32⟩
  | .hbm, ⟨21, _⟩ => ⟨S2x4096x4x8, .f32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S1x4096x4096x1x1, .i1⟩
  | .hbm, ⟨26, _⟩ => ⟨S2x4096x1x4x8, .f32⟩
  | .hbm, ⟨27, _⟩ => ⟨S2x1x4096x4x8, .f32⟩
  | .hbm, ⟨28, _⟩ => ⟨S2x4096x4096x4x8, .f32⟩
  | .hbm, ⟨29, _⟩ => ⟨S2x4096x4096x4x8, .f32⟩
  | .hbm, ⟨30, _⟩ => ⟨S2x4096x4096x4x8, .f32⟩
  | .hbm, ⟨31, _⟩ => ⟨S_, .f32⟩
  | .hbm, ⟨32, _⟩ => ⟨S_, .f32⟩
  | .hbm, ⟨33, _⟩ => ⟨S2x4096x4096x4x8, .i1⟩
  | .hbm, ⟨34, _⟩ => ⟨S2x4096x4096x4x8, .f32⟩
  | .hbm, ⟨35, _⟩ => ⟨S2x4096x4096x4x8, .f32⟩
  | .hbm, ⟨36, _⟩ => ⟨S2x4x4096x4096, .f32⟩
  | .hbm, ⟨37, _⟩ => ⟨S2x4096x4096x4, .f32⟩
  | .hbm, ⟨38, _⟩ => ⟨S2x4096x4096x4x1, .f32⟩
  | .hbm, ⟨39, _⟩ => ⟨S2x4096x4096x4x8, .f32⟩
  | .hbm, ⟨40, _⟩ => ⟨S2x4096x4096x4x8, .f32⟩
  | .hbm, ⟨41, _⟩ => ⟨S2x4096x4096x4x8, .f32⟩
  | .hbm, ⟨42, _⟩ => ⟨S2x4096x4x8x1, .f32⟩
  | .hbm, ⟨43, _⟩ => ⟨S2x4096x4x8x64, .f32⟩
  | .hbm, ⟨44, _⟩ => ⟨S2x4096x4x8x64, .f32⟩
  | .hbm, ⟨45, _⟩ => ⟨S2x4x8x64x4096, .f32⟩
  | .hbm, ⟨46, _⟩ => ⟨S2x4096x4x8x64, .f32⟩
  | .hbm, ⟨47, _⟩ => ⟨S8192x2048, .f32⟩
  | .hbm, ⟨48, _⟩ => ⟨S1x128, .f32⟩
  | .hbm, ⟨49, _⟩ => ⟨S1x128, .f32⟩
  | .hbm, ⟨50, _⟩ => ⟨S8192x2048, .f32⟩
  | .hbm, ⟨51, _⟩ => ⟨S2x4096x4x8x64, .f32⟩
  | .hbm, ⟨52, _⟩ => ⟨S8192x512, .f32⟩
  | .hbm, ⟨53, _⟩ => ⟨S2x4096x4x128, .f32⟩
  | .hbm, ⟨54, _⟩ => ⟨S8192x512, .f32⟩
  | .hbm, ⟨55, _⟩ => ⟨S2x4096x4x128, .f32⟩
  | .hbm, ⟨56, _⟩ => ⟨S8192x32, .f32⟩
  | .hbm, ⟨57, _⟩ => ⟨S2x4096x4x8, .f32⟩
  | .hbm, ⟨58, _⟩ => ⟨S1x32, .f32⟩
  | .hbm, ⟨59, _⟩ => ⟨S32, .f32⟩
  | .hbm, ⟨60, _⟩ => ⟨S4x8, .f32⟩
  | .hbm, ⟨61, _⟩ => ⟨S1x1x4x8, .f32⟩
  | .hbm, ⟨62, _⟩ => ⟨S2x4096x4x8, .f32⟩
  | .hbm, ⟨63, _⟩ => ⟨S2x4096x4x8, .f32⟩
  | .hbm, ⟨64, _⟩ => ⟨S_, .f32⟩
  | .hbm, ⟨65, _⟩ => ⟨S_, .f32⟩
  | .hbm, ⟨66, _⟩ => ⟨S2x4096x4x8, .f32⟩
  | .hbm, ⟨67, _⟩ => ⟨S2x4096x4x8, .f32⟩
  | .hbm, ⟨68, _⟩ => ⟨S2x32x4x8, .f32⟩
  | .hbm, ⟨69, _⟩ => ⟨S32x4096, .i32⟩
  | .hbm, ⟨70, _⟩ => ⟨S_, .i32⟩
  | .hbm, ⟨71, _⟩ => ⟨S32x4096, .i32⟩
  | .hbm, ⟨72, _⟩ => ⟨S32x4096, .i32⟩
  | .hbm, ⟨73, _⟩ => ⟨S32x4096, .i32⟩
  | .hbm, ⟨74, _⟩ => ⟨S32x4096, .i1⟩
  | .hbm, ⟨75, _⟩ => ⟨S1x32x4096x1x1, .i1⟩
  | .hbm, ⟨76, _⟩ => ⟨S2x32x1x4x8, .f32⟩
  | .hbm, ⟨77, _⟩ => ⟨S2x1x4096x4x8, .f32⟩
  | .hbm, ⟨78, _⟩ => ⟨S2x32x4096x4x8, .f32⟩
  | .hbm, ⟨79, _⟩ => ⟨S2x32x4096x4x8, .f32⟩
  | .hbm, ⟨80, _⟩ => ⟨S2x32x4096x4x8, .f32⟩
  | .hbm, ⟨81, _⟩ => ⟨S_, .f32⟩
  | .hbm, ⟨82, _⟩ => ⟨S_, .f32⟩
  | .hbm, ⟨83, _⟩ => ⟨S2x32x4096x4x8, .i1⟩
  | .hbm, ⟨84, _⟩ => ⟨S2x32x4096x4x8, .f32⟩
  | .hbm, ⟨85, _⟩ => ⟨S2x32x4096x4x8, .f32⟩
  | .hbm, ⟨86, _⟩ => ⟨S2x32x4096x4x8, .f32⟩
  | .hbm, ⟨87, _⟩ => ⟨S2x32x4096x4x8x1, .f32⟩
  | .hbm, ⟨88, _⟩ => ⟨S2x4096x4x8x1, .f32⟩
  | .hbm, ⟨89, _⟩ => ⟨S2x4096x4x8x64, .f32⟩
  | .hbm, ⟨90, _⟩ => ⟨S2x4096x4x8x64, .f32⟩
  | .hbm, ⟨91, _⟩ => ⟨S2x1x4096x4x8x64, .f32⟩
  | .hbm, ⟨92, _⟩ => ⟨S2x32x4096x4x8x64, .f32⟩
  | .hbm, ⟨93, _⟩ => ⟨S2x32x4096x4x8x64, .f32⟩
  | .hbm, ⟨94, _⟩ => ⟨S2x32x4096x4x8x64, .f32⟩
  | .hbm, ⟨95, _⟩ => ⟨S2x4x128x32x8x64, .f32⟩
  | .hbm, ⟨96, _⟩ => ⟨S2x32x128x4x8x64, .f32⟩
  | .hbm, ⟨97, _⟩ => ⟨S64x128x2048, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_call0_cst : Ref sig .tc := ⟨.hbm, 19, rfl⟩
abbrev main_call0_call0_v0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_call2_call0_cst : Ref sig .tc := ⟨.hbm, 64, rfl⟩
abbrev main_call2_call0_v0 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_c : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_0 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩

abbrev nD : Nat := 1
abbrev τ : Topo := Topo.v7x

variable {F : FTy → Type} [FloatOps F]
-- ==== Proof.Blocked.lean ====
/- The arithmetic of a blocked matrix product, over the extended reals: an array read at a pair of natural numbers, a sum over
   the blocks of an axis and the places in a block as one sum over the axis, and an accumulator that restarts every `nk` points
   as the sum of the addends since the restart. Addition of extended reals is commutative and associative, so nothing here
   asks that a value be finite. -/
module

public import Idealize.ShloMosaic.Lib.Pointwise

@[expose] public section

noncomputable section

namespace Cert.Blocked

open Idealize.ShloMosaic

/-- A matrix read at a pair of natural numbers, and zero outside. -/
def at2 {n d : ℕ} (X : (⟨2, ![n, d]⟩ : Shape).Idx → EReal) (a b : ℕ) : EReal :=
  if h : a < n ∧ b < d then X (ix2 ⟨a, h.1⟩ ⟨b, h.2⟩) else 0

/-- A matrix at an index, as the matrix read at the index's two coordinates. -/
theorem eq_at2 {n d : ℕ} (X : (⟨2, ![n, d]⟩ : Shape).Idx → EReal) (i : (⟨2, ![n, d]⟩ : Shape).Idx) (a b : ℕ)
    (ha : (i 0).val = a) (hb : (i 1).val = b) : X i = at2 X a b := by
  subst ha hb
  unfold at2
  rw [dif_pos ⟨(i 0).isLt, (i 1).isLt⟩]
  refine congrArg X (funext fun a => ?_)
  match a with
  | ⟨0, _⟩ => rfl
  | ⟨1, _⟩ => rfl

/-- Summing over the places of every block of an axis sums over the axis. -/
theorem sum_blocks (b : ℕ) (f : ℕ → EReal) : ∀ nk : ℕ,
    (∑ q ∈ Finset.range nk, ∑ k : Fin b, f (q * b + k.val)) = ∑ k ∈ Finset.range (nk * b), f k
  | 0 => by simp
  | nk + 1 => by
    rw [Finset.sum_range_succ, sum_blocks b f nk, Nat.succ_mul, Finset.sum_range_add, ← Finset.sum_range (fun k => f (nk * b + k))]

/-- A value that takes the point's addend alone where a run of `nk` points starts and adds it elsewhere is the sum of the
    addends of the run so far. -/
theorem run_sum {α : Type} {N nk : ℕ} (hnk : 0 < nk) (s : ∀ n, n < N → α → EReal) (term : ℕ → α → EReal)
    (h0 : ∀ n h, n % nk = 0 → ∀ i, s n h i = term n i)
    (hs : ∀ n (h : n + 1 < N), (n + 1) % nk ≠ 0 → ∀ i, s (n + 1) h i = s n (Nat.lt_of_succ_lt h) i + term (n + 1) i) :
    ∀ n h i, s n h i = ∑ q ∈ Finset.range (n % nk + 1), term (nk * (n / nk) + q) i := by
  intro n
  induction n with
  | zero => intro h i; rw [h0 0 h (Nat.zero_mod _) i]; simp
  | succ n ih =>
    intro h i
    by_cases hz : (n + 1) % nk = 0
    · rw [h0 _ h hz i, hz, Finset.sum_range_one, Nat.add_zero]
      have := Nat.div_add_mod (n + 1) nk
      rw [hz, Nat.add_zero] at this
      rw [this]
    · have e := Nat.div_add_mod (n + 1) nk
      have e' := Nat.div_add_mod n nk
      have hlt := Nat.mod_lt (n + 1) hnk
      have hd : (n + 1) / nk = n / nk := by
        rw [Nat.succ_div_of_not_dvd (fun hd => hz (Nat.mod_eq_zero_of_dvd hd))]
      rw [hd] at e
      have hm : (n + 1) % nk = n % nk + 1 := by omega
      rw [hs n h hz i, ih, hm, hd, Finset.sum_range_succ _ (n % nk + 1)]
      have : nk * (n / nk) + (n % nk + 1) = n + 1 := by omega
      rw [this]

/-- The sum over a run whose addends are the blocks of one sum, at the run's last point: the whole sum. -/
theorem run_total {α : Type} {nk b K : ℕ} (hK : nk * b = K) (term : ℕ → α → EReal) (n : ℕ) (i : α) (f : ℕ → EReal)
    (hn : n % nk + 1 = nk) (hf : ∀ q < nk, term (nk * (n / nk) + q) i = ∑ k : Fin b, f (q * b + k.val)) :
    (∑ q ∈ Finset.range (n % nk + 1), term (nk * (n / nk) + q) i) = ∑ k : Fin K, f k.val := by
  rw [hn, Finset.sum_congr rfl (fun q hq => hf q (Finset.mem_range.1 hq)), sum_blocks, hK, Finset.sum_range]

end Cert.Blocked

end
-- ==== Proof.OutProjWeight.lean ====
/- The gradient of an output projection's weight (the call `dw_out_proj`): `xᵀ · dy`, one block of columns of `x` against `dy`,
   accumulated over eight blocks of 1024 rows. -/
module

public import proofs.«01_k».proof.Proof.Blocked
public import proofs.«01_k».proof.Proof.Gen.Kernel2Ideal.Value
public import proofs.«01_k».proof.Proof.Gen.Reference2Ideal.Read
public import proofs.«01_k».proof.Proof.Gen.Reference2Ideal.Run
public import proofs.«01_k».proof.Proof.Gen.Kernel2
public import proofs.«01_k».proof.Defs

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Cert.Blocked

/-- Every access of the body starts at the origin. -/
theorem hz : (![0, 0] : Fin 2 → Nat) = fun _ => 0 := funext fun a => by fin_cases a <;> rfl

/-- The step's payload at an index: the accumulator plus the product of the two blocks. -/
theorem pay2_apply (a : Vec Ideal S1024x1024 .f32) (x : Vec Ideal S1024x1024 .bf16) (y : Vec Ideal S1024x1024 .f32) (i : S1024x1024.Idx) :
    k0_pay2 (F := Ideal) a x y i = a i + ∑ k : Fin 1024, x (ix2 k (i 0)) * y (ix2 k (i 1)) := by
  unfold k0_pay2
  pointwise

/-- A run starts from zero. -/
theorem pay1_apply (i : S1024x1024.Idx) : (k0_pay1 (F := Ideal)) i = 0 := by
  unfold k0_pay1
  pointwise

/-! ## What each case of the body leaves -/

section Cases
variable (c : Dev nD) (i : grid0.Coords) (a1 : Memref sig .tc .vmem S1024x1024 .bf16) (h1 : a1.IsWhole)
  (a2 : Memref sig .tc .vmem S1024x1024 .f32) (h2 : a2.IsWhole) (a3 : Memref sig .tc .vmem S1024x1024 .f32) (h3 : a3.IsWhole)
  (a4 : Memref sig .tc .vmem S1024x1024 .f32) (h4 : a4.IsWhole)

/-- A run's first point leaves its product in the accumulator. -/
theorem sout_A (e0 e1) (x : Vec Ideal S1024x1024 .bf16) (y : Vec Ideal S1024x1024 .f32) :
    sout0_A_0 (F := Ideal) c i a1 h1 a2 h2 a3 h3 a4 h4 e0 e1 x y = k0_pay2 k0_pay1 x y := by
  unfold sout0_A_0
  rw [View.read_writes_eq_canon _ _ _ (scover0_A_0 _ _ _ _ _ _ _ _ _ _ _ _ _ _)]
  unfold kernelRun0_A
  dsimp only
  sl_unfold_words
  rw [View.canon_cons_unit_zero (S := S1024x1024) hz, View.readCov_unit_zero (S := S1024x1024) _ hz]
  simp only [View.readAt_eq_ld, h1.read_unread, h2.read_unread, View.ld_unit_zero (S := S1024x1024) hz]

/-- A point inside a run adds its product to the accumulator. -/
theorem sout_B (e0 e1) (x : Vec Ideal S1024x1024 .bf16) (y : Vec Ideal S1024x1024 .f32) (a : Vec Ideal S1024x1024 .f32) :
    sout0_B_0 (F := Ideal) c i a1 h1 a2 h2 a3 h3 a4 h4 e0 e1 x y a = k0_pay2 a x y := by
  unfold sout0_B_0
  rw [View.read_writes_eq_canon _ _ _ (scover0_B_0 _ _ _ _ _ _ _ _ _ _ _ _ _ _ _)]
  unfold kernelRun0_B
  dsimp only
  sl_unfold_words
  rw [View.canon_unit_zero hz]
  simp only [View.readAt_eq_ld, h1.read_unread, h2.read_unread, h4.read_unread, View.ld_unit_zero (S := S1024x1024) hz]

/-- So does a run's last point. -/
theorem sout_C (e0 e1) (x : Vec Ideal S1024x1024 .bf16) (y : Vec Ideal S1024x1024 .f32) (a : Vec Ideal S1024x1024 .f32) :
    sout0_C_0 (F := Ideal) c i a1 h1 a2 h2 a3 h3 a4 h4 e0 e1 x y a = k0_pay2 a x y := by
  unfold sout0_C_0
  rw [View.read_writes_eq_canon _ _ _ (scover0_C_0 _ _ _ _ _ _ _ _ _ _ _ _ _ _ _)]
  unfold kernelRun0_C
  dsimp only
  sl_unfold_words
  rw [View.canon_unit_zero hz]
  simp only [View.readAt_eq_ld, h1.read_unread, h2.read_unread, h4.read_unread, View.ld_unit_zero (S := S1024x1024) hz]

/-- And a run's last point writes the accumulator back. -/
theorem out_C (e0 e1) (x : Vec Ideal S1024x1024 .bf16) (y : Vec Ideal S1024x1024 .f32) (a : Vec Ideal S1024x1024 .f32) :
    out0_C_2 (F := Ideal) c i a1 h1 a2 h2 a3 h3 a4 h4 e0 e1 x y a = k0_pay2 a x y := by
  unfold out0_C_2
  rw [View.read_writes_eq_canon _ _ _ (cover0_C_2 _ _ _ _ _ _ _ _ _ _ _ _ _ _ _)]
  unfold kernelRun0_C
  dsimp only
  sl_unfold_words
  rw [View.canon_unit_zero hz, View.readCov_unit_zero (S := S1024x1024) _ hz]
  simp only [View.readAt_eq_ld, h1.read_unread, h2.read_unread, h4.read_unread, View.ld_unit_zero (S := S1024x1024) hz]

end Cases

/-! ## The accumulator over the grid -/

variable (m : (ℓ : Loc nD τ sig) → Buf (Elt Ideal) ℓ) (c : Dev nD)

/-- The blocks that each point reads and the block that it writes, decided over the grid's points. -/
theorem idx_facts : ∀ t : Fin cfg0.N, win0_0.index t (0 : Fin 2) = t.val % 8 ∧ win0_0.index t (1 : Fin 2) = t.val / 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Argument 0 as a matrix. -/
abbrev X : S8192x2048.Idx → EReal := m ((c : Thread nD τ).loc main_arg0)

/-- The block of argument 0 that point `t` reads. -/
abbrev A (t : Fin cfg0.N) : S1024x1024.Idx → EReal := iblk m c 0 t

/-- A place of the block is a place of the argument. -/
theorem block0 (t : Fin cfg0.N) (j : S1024x1024.Idx) :
    A m c t j = at2 (X m c) (win0_0.index t (0 : Fin 2) * 1024 + (j 0).val) (win0_0.index t (1 : Fin 2) * 1024 + (j 1).val) := by
  unfold A iblk
  rw [View.read_apply]
  show V m c main_arg0 _ = _
  rw [V_main_arg0]
  refine eq_at2 (X m c) _ _ _ ?_ ?_
  · show win0_0.index t (0 : Fin 2) * 1024 + 1 * (j 0).val = _
    rw [one_mul]
  · show win0_0.index t (1 : Fin 2) * 1024 + 1 * (j 1).val = _
    rw [one_mul]

/-- Argument 1 as a matrix. -/
abbrev Y : S8192x1024.Idx → EReal := m ((c : Thread nD τ).loc main_arg1)

/-- The block of argument 1 that point `t` reads. -/
abbrev B (t : Fin cfg0.N) : S1024x1024.Idx → EReal := iblk m c 1 t

/-- A place of the block is a place of the argument. -/
theorem block1 (t : Fin cfg0.N) (j : S1024x1024.Idx) :
    B m c t j = at2 (Y m c) (win0_1.index t (0 : Fin 2) * 1024 + (j 0).val) (win0_1.index t (1 : Fin 2) * 1024 + (j 1).val) := by
  unfold B iblk
  rw [View.read_apply]
  show V m c main_arg1 _ = _
  rw [V_main_arg1]
  refine eq_at2 (Y m c) _ _ _ ?_ ?_
  · show win0_1.index t (0 : Fin 2) * 1024 + 1 * (j 0).val = _
    rw [one_mul]
  · show win0_1.index t (1 : Fin 2) * 1024 + 1 * (j 1).val = _
    rw [one_mul]

/-- What point `n` adds at a place of its block. -/
def term (n : ℕ) (i : S1024x1024.Idx) : EReal :=
  ∑ k : Fin 1024, at2 (X m c) (n % 8 * 1024 + k.val) (n / 8 * 1024 + (i 0).val) * at2 (Y m c) (n % 8 * 1024 + k.val) (0 * 1024 + (i 1).val)

/-- The product of the two blocks of a point is the point's addend. -/
theorem product_eq (t : Fin cfg0.N) (i : S1024x1024.Idx) :
    (∑ k : Fin 1024, A m c t (ix2 k (i 0)) * B m c t (ix2 k (i 1))) = term m c t.val i := by
  obtain ⟨e0, e1, e2, e3, -, -⟩ := idx_facts t
  refine Finset.sum_congr rfl fun k _ => ?_
  rw [block0, block1, e0, e1, e2, e3]
  rfl

/-- A run's first point leaves its addend in the accumulator. -/
theorem scratch_reset (n : ℕ) (h : n < cfg0.N) (h0 : n % 8 = 0) (i : S1024x1024.Idx) :
    (outsAt0 m c n h).2 i = term m c n i := by
  rw [outsAt0_A m c ⟨n, h⟩ h0 (by show ¬n % 8 = 7; omega), sout_A]
  dsimp only
  rw [pay2_apply, pay1_apply, zero_add]
  exact product_eq m c ⟨n, h⟩ i

/-- Every other point adds its addend to what the point before left. -/
theorem scratch_step (n : ℕ) (h : n + 1 < cfg0.N) (h0 : (n + 1) % 8 ≠ 0) (i : S1024x1024.Idx) :
    (outsAt0 m c (n + 1) h).2 i = (outsAt0 m c n (Nat.lt_of_succ_lt h)).2 i + term m c (n + 1) i := by
  rw [← product_eq m c ⟨n + 1, h⟩ i]
  by_cases h1 : (n + 1) % 8 = 7
  · rw [outsAt0_C m c ⟨n + 1, h⟩ h0 h1, sout_C]; dsimp only; rw [pay2_apply]; rfl
  · rw [outsAt0_B m c ⟨n + 1, h⟩ h0 h1, sout_B]; dsimp only; rw [pay2_apply]; rfl

/-- At a run's last point the block written back is the accumulator. -/
theorem out_last (t : Fin cfg0.N) (h1 : t.val % 8 = 7) (i : S1024x1024.Idx) :
    (outsAt0 m c t.val t.isLt).1 i = (outsAt0 m c t.val t.isLt).2 i := by
  rw [outsAt0_C m c t (by omega) h1, out_C, sout_C]

/-! ## The array after the run, and the reference -/

/-- What the array ends holding: the gradient of the weight, `xᵀ · dy`. -/
def result : S2048x1024.Idx → EReal := fun i =>
  ∑ k : Fin 8192, at2 (X m c) k.val (i 0).val * at2 (Y m c) k.val (i 1).val

/-- A point that writes back writes its block of `result`. -/
theorem flushed_eq (t : Fin cfg0.N) (hf : (cfg0.win 2).flush t = true) :
    (dats m 0 c).flushed 2 t = ((cfg0.win 2).blk t).view.read (Elt Ideal) (result m c) := by
  have hl : t.val % 8 = 7 := (flush0_2 t).mp hf
  obtain ⟨-, -, -, -, e4, e5⟩ := idx_facts t
  rw [Value.flushed2]
  funext y
  rw [View.read_apply]
  show (outsAt0 m c t.val t.isLt).1 y = result m c _
  rw [out_last m c t hl, run_sum (by decide) (fun n h => (outsAt0 m c n h).2) (term m c) (scratch_reset m c) (scratch_step m c),
    run_total (K := 8192) rfl (term m c) t.val y
      (fun k => at2 (X m c) k (t.val / 8 * 1024 + (y 0).val) * at2 (Y m c) k (0 * 1024 + (y 1).val)) (by omega)
      (fun q hq => by
        unfold term
        rw [show (8 * (t.val / 8) + q) % 8 = q by omega, show (8 * (t.val / 8) + q) / 8 = t.val / 8 by omega])]
  have b0 : (((cfg0.win 2).blk t).view.emb y 0).val = t.val / 8 * 1024 + (y 0).val := by
    show win0_2.index t (0 : Fin 2) * 1024 + 1 * (y 0).val = _
    rw [e4, one_mul]
  have b1 : (((cfg0.win 2).blk t).view.emb y 1).val = 0 * 1024 + (y 1).val := by
    show win0_2.index t (1 : Fin 2) * 1024 + 1 * (y 1).val = _
    rw [e5, one_mul]
  unfold result
  rw [b0, b1]

/-- The blocks tile the array, so it is `result`. -/
theorem final : (dats m 0 c).arrAt 2 cfg0.N = result m c :=
  (dats m 0 c).arrAt_eq_of_cover 2 _ (fun t hf => flushed_eq m c t hf) (fun i => (Value.covered_iff2 i).2
    ⟨Nat.zero_le _, (i 0).isLt, Nat.zero_le _, (i 1).isLt⟩)

/-- The reference's result is the same array. -/
theorem reference_eq : Cert.Reference2Ideal.Read.val_main_v4 (F := Ideal) (X m c) (Y m c) = result m c := by
  funext i
  rw [Cert.Reference2Ideal.Read.val_main_v4_apply, Cert.Reference2Ideal.Read.val_main_v3_apply]
  refine Finset.sum_congr rfl fun k _ => ?_
  rw [mul_comm]
  congr 1
  · exact eq_at2 (X m c) _ _ _ rfl rfl
  · exact eq_at2 (Y m c) _ _ _ rfl rfl

/-- The value claim: from equal arguments both programs end with `result` and keep their arguments. -/
theorem algebraic : Cert.algebraic_Kernel2Ideal_Reference2Ideal := by
  intro m ρ m' ρ' _ hagree
  refine ⟨fun c => result m c, (θ_run defs _ _).mono (fun _ h c => ⟨(h c).1.trans (final m c), (h c).2⟩) (Value.run_blocks (F := Ideal) m ρ), ?_⟩
  refine (θ_run Cert.Reference2Ideal.defs _ _).mono (fun _ h c => ⟨(h c).1.trans ?_, (h c).2⟩) (Cert.Reference2Ideal.Value.run (F := Ideal) m' ρ')
  rw [(hagree c).1, (hagree c).2]
  exact (Cert.Reference2Ideal.Read.val_main_v4_eq (F := Ideal) _ _).trans (reference_eq m c)

end Cert.Kernel2Ideal.Hand

end
-- ==== Proof.InProjInput.lean ====
/- The gradient of the second input projection's input (the call `d_in_proj1`): `dy · wᵀ`, accumulated over three blocks of 1792
   columns. -/
module

public import proofs.«01_k».proof.Proof.Blocked
public import proofs.«01_k».proof.Proof.Gen.Kernel3Ideal.Value
public import proofs.«01_k».proof.Proof.Gen.Reference3Ideal.Read
public import proofs.«01_k».proof.Proof.Gen.Reference3Ideal.Run
public import proofs.«01_k».proof.Proof.Gen.Kernel3
public import proofs.«01_k».proof.Defs

@[expose] public section

set_option maxRecDepth 16384

noncomputable section

namespace Cert.Kernel3Ideal.Hand

open Cert.Kernel3Ideal Cert.Kernel3Ideal.Gen Idealize.ShloMosaic Idealize.ShloMosaic.TcCoe Idealize.SL.Sem
open Cert.Blocked

/-- Every access of the body starts at the origin. -/
theorem hz : (![0, 0] : Fin 2 → Nat) = fun _ => 0 := funext fun a => by fin_cases a <;> rfl

/-- The step's payload at an index: the accumulator plus the product of the two blocks. -/
theorem pay2_apply (a : Vec Ideal S1024x1024 .f32) (x : Vec Ideal S1024x1792 .bf16) (y : Vec Ideal S1024x1792 .bf16) (i : S1024x1024.Idx) :
    k0_pay2 (F := Ideal) a x y i = a i + ∑ k : Fin 1792, x (ix2 (i 0) k) * y (ix2 (i 1) k) := by
  unfold k0_pay2
  pointwise

/-- A run starts from zero. -/
theorem pay1_apply (i : S1024x1024.Idx) : (k0_pay1 (F := Ideal)) i = 0 := by
  unfold k0_pay1
  pointwise

/-! ## What each case of the body leaves -/

section Cases
variable (c : Dev nD) (i : grid0.Coords) (a1 : Memref sig .tc .vmem S1024x1792 .bf16) (h1 : a1.IsWhole)
  (a2 : Memref sig .tc .vmem S1024x1792 .bf16) (h2 : a2.IsWhole) (a3 : Memref sig .tc .vmem S1024x1024 .bf16) (h3 : a3.IsWhole)
  (a4 : Memref sig .tc .vmem S1024x1024 .f32) (h4 : a4.IsWhole)

/-- A run's first point leaves its product in the accumulator. -/
theorem sout_A (e0 e1) (x : Vec Ideal S1024x1792 .bf16) (y : Vec Ideal S1024x1792 .bf16) :
    sout0_A_0 (F := Ideal) c i a1 h1 a2 h2 a3 h3 a4 h4 e0 e1 x y = k0_pay2 k0_pay1 x y := by
  unfold sout0_A_0
  rw [View.read_writes_eq_canon _ _ _ (scover0_A_0 _ _ _ _ _ _ _ _ _ _ _ _ _ _)]
  unfold kernelRun0_A
  dsimp only
  sl_unfold_words
  rw [View.canon_cons_unit_zero (S := S1024x1024) hz, View.readCov_unit_zero (S := S1024x1024) _ hz]
  simp only [View.readAt_eq_ld, h1.read_unread, h2.read_unread, View.ld_unit_zero (S := S1024x1792) hz, View.ld_unit_zero (S := S1024x1024) hz]

/-- A point inside a run adds its product to the accumulator. -/
theorem sout_B (e0 e1) (x : Vec Ideal S1024x1792 .bf16) (y : Vec Ideal S1024x1792 .bf16) (a : Vec Ideal S1024x1024 .f32) :
    sout0_B_0 (F := Ideal) c i a1 h1 a2 h2 a3 h3 a4 h4 e0 e1 x y a = k0_pay2 a x y := by
  unfold sout0_B_0
  rw [View.read_writes_eq_canon _ _ _ (scover0_B_0 _ _ _ _ _ _ _ _ _ _ _ _ _ _ _)]
  unfold kernelRun0_B
  dsimp only
  sl_unfold_words
  rw [View.canon_unit_zero hz]
  simp only [View.readAt_eq_ld, h1.read_unread, h2.read_unread, h4.read_unread, View.ld_unit_zero (S := S1024x1792) hz, View.ld_unit_zero (S := S1024x1024) hz]

/-- So does a run's last point. -/
theorem sout_C (e0 e1) (x : Vec Ideal S1024x1792 .bf16) (y : Vec Ideal S1024x1792 .bf16) (a : Vec Ideal S1024x1024 .f32) :
    sout0_C_0 (F := Ideal) c i a1 h1 a2 h2 a3 h3 a4 h4 e0 e1 x y a = k0_pay2 a x y := by
  unfold sout0_C_0
  rw [View.read_writes_eq_canon _ _ _ (scover0_C_0 _ _ _ _ _ _ _ _ _ _ _ _ _ _ _)]
  unfold kernelRun0_C
  dsimp only
  sl_unfold_words
  rw [View.canon_unit_zero hz]
  simp only [View.readAt_eq_ld, h1.read_unread, h2.read_unread, h4.read_unread, View.ld_unit_zero (S := S1024x1792) hz, View.ld_unit_zero (S := S1024x1024) hz]

/-- And a run's last point writes the accumulator back, rounded to bf16. -/
theorem out_C (e0 e1) (x : Vec Ideal S1024x1792 .bf16) (y : Vec Ideal S1024x1792 .bf16) (a : Vec Ideal S1024x1024 .f32) :
    out0_C_2 (F := Ideal) c i a1 h1 a2 h2 a3 h3 a4 h4 e0 e1 x y a = k0_pay3 (k0_pay2 a x y) := by
  unfold out0_C_2
  rw [View.read_writes_eq_canon _ _ _ (cover0_C_2 _ _ _ _ _ _ _ _ _ _ _ _ _ _ _)]
  unfold kernelRun0_C
  dsimp only
  sl_unfold_words
  rw [View.canon_unit_zero hz, View.readCov_unit_zero (S := S1024x1024) _ hz]
  simp only [View.readAt_eq_ld, h1.read_unread, h2.read_unread, h4.read_unread, View.ld_unit_zero (S := S1024x1792) hz, View.ld_unit_zero (S := S1024x1024) hz]

end Cases

/-! ## The accumulator over the grid -/

variable (m : (ℓ : Loc nD τ sig) → Buf (Elt Ideal) ℓ) (c : Dev nD)

/-- The blocks that each point reads and the block that it writes, decided over the grid's points. -/
theorem idx_facts : ∀ t : Fin cfg0.N, win0_0.index t (0 : Fin 2) = t.val / 3 ∧ win0_0.index t (1 : Fin 2) = t.val % 3
    ∧ win0_1.index t (0 : Fin 2) = 0 ∧ win0_1.index t (1 : Fin 2) = t.val % 3
    ∧ win0_2.index t (0 : Fin 2) = t.val / 3 ∧ win0_2.index t (1 : Fin 2) = 0 :=
  (by decide +kernel : ∀ t : Fin grid0.N, _)

/-- Argument 0 as a matrix. -/
abbrev X : S8192x5376.Idx → EReal := m ((c : Thread nD τ).loc main_arg0)

/-- The block of argument 0 that point `t` reads. -/
abbrev A (t : Fin cfg0.N) : S1024x1792.Idx → EReal := iblk m c 0 t

/-- A place of the block is a place of the argument. -/
theorem block0 (t : Fin cfg0.N) (j : S1024x1792.Idx) :
    A m c t j = at2 (X m c) (win0_0.index t (0 : Fin 2) * 1024 + (j 0).val) (win0_0.index t (1 : Fin 2) * 1792 + (j 1).val) := by
  unfold A iblk
  rw [View.read_apply]
  show V m c main_arg0 _ = _
  rw [V_main_arg0]
  refine eq_at2 (X m c) _ _ _ ?_ ?_
  · show win0_0.index t (0 : Fin 2) * 1024 + 1 * (j 0).val = _
    rw [one_mul]
  · show win0_0.index t (1 : Fin 2) * 1792 + 1 * (j 1).val = _
    rw [one_mul]

/-- Argument 1 as a matrix. -/
abbrev Y : S1024x5376.Idx → EReal := m ((c : Thread nD τ).loc main_arg1)

/-- The block of argument 1 that point `t` reads. -/
abbrev B (t : Fin cfg0.N) : S1024x1792.Idx → EReal := iblk m c 1 t

/-- A place of the block is a place of the argument. -/
theorem block1 (t : Fin cfg0.N) (j : S1024x1792.Idx) :
    B m c t j = at2 (Y m c) (win0_1.index t (0 : Fin 2) * 1024 + (j 0).val) (win0_1.index t (1 : Fin 2) * 1792 + (j 1).val) := by
  unfold B iblk
  rw [View.read_apply]
  show V m c main_arg1 _ = _
  rw [V_main_arg1]
  refine eq_at2 (Y m c) _ _ _ ?_ ?_
  · show win0_1.index t (0 : Fin 2) * 1024 + 1 * (j 0).val = _
    rw [one_mul]
  · show win0_1.index t (1 : Fin 2) * 1792 + 1 * (j 1).val = _
    rw [one_mul]

/-- What point `n` adds at a place of its block. -/
def term (n : ℕ) (i : S1024x1024.Idx) : EReal :=
  ∑ k : Fin 1792, at2 (X m c) (n / 3 * 1024 + (i 0).val) (n % 3 * 1792 + k.val) * at2 (Y m c) (0 * 1024 + (i 1).val) (n % 3 * 1792 + k.val)

/-- The product of the two blocks of a point is the point's addend. -/
theorem product_eq (t : Fin cfg0.N) (i : S1024x1024.Idx) :
    (∑ k : Fin 1792, A m c t (ix2 (i 0) k) * B m c t (ix2 (i 1) k)) = term m c t.val i := by
  obtain ⟨e0, e1, e2, e3, -, -⟩ := idx_facts t
  refine Finset.sum_congr rfl fun k _ => ?_
  rw [block0, block1, e0, e1, e2, e3]
  rfl

/-- A run's first point leaves its addend in the accumulator. -/
theorem scratch_reset (n : ℕ) (h : n < cfg0.N) (h0 : n % 3 = 0) (i : S1024x1024.Idx) :
    (outsAt0 m c n h).2 i = term m c n i := by
  rw [outsAt0_A m c ⟨n, h⟩ h0 (by show ¬n % 3 = 2; omega), sout_A]
  dsimp only
  rw [pay2_apply, pay1_apply, zero_add]
  exact product_eq m c ⟨n, h⟩ i

/-- Every other point adds its addend to what the point before left. -/
theorem scratch_step (n : ℕ) (h : n + 1 < cfg0.N) (h0 : (n + 1) % 3 ≠ 0) (i : S1024x1024.Idx) :
    (outsAt0 m c (n + 1) h).2 i = (outsAt0 m c n (Nat.lt_of_succ_lt h)).2 i + term m c (n + 1) i := by
  rw [← product_eq m c ⟨n + 1, h⟩ i]
  by_cases h1 : (n + 1) % 3 = 2
  · rw [outsAt0_C m c ⟨n + 1, h⟩ h0 h1, sout_C]; dsimp only; rw [pay2_apply]; rfl
  · rw [outsAt0_B m c ⟨n + 1, h⟩ h0 h1, sout_B]; dsimp only; rw [pay2_apply]; rfl

/-- At a run's last point the block written back is the accumulator. -/
theorem out_last (t : Fin cfg0.N) (h1 : t.val % 3 = 2) (i : S1024x1024.Idx) :
    (outsAt0 m c t.val t.isLt).1 i = (outsAt0 m c t.val t.isLt).2 i := by
  rw [outsAt0_C m c t (by omega) h1, out_C, sout_C]
  rfl

/-! ## The array after the run, and the reference -/

/-- What the array ends holding: the gradient of the input, `dy · wᵀ`. -/
def result : S8192x1024.Idx → EReal := fun i =>
  ∑ k : Fin 5376, at2 (X m c) (i 0).val k.val * at2 (Y m c) (i 1).val k.val

/-- A point that writes back writes its block of `result`. -/
theorem flushed_eq (t : Fin cfg0.N) (hf : (cfg0.win 2).flush t = true) :
    (dats m 0 c).flushed 2 t = ((cfg0.win 2).blk t).view.read (Elt Ideal) (result m c) := by
  have hl : t.val % 3 = 2 := (flush0_2 t).mp hf
  obtain ⟨-, -, -, -, e4, e5⟩ := idx_facts t
  rw [Value.flushed2]
  funext y
  rw [View.read_apply]
  show (outsAt0 m c t.val t.isLt).1 y = result m c _
  rw [out_last m c t hl, run_sum (by decide) (fun n h => (outsAt0 m c n h).2) (term m c) (scratch_reset m c) (scratch_step m c),
    run_total (K := 5376) rfl (term m c) t.val y
      (fun k => at2 (X m c) (t.val / 3 * 1024 + (y 0).val) k * at2 (Y m c) (0 * 1024 + (y 1).val) k) (by omega)
      (fun q hq => by
        unfold term
        rw [show (3 * (t.val / 3) + q) % 3 = q by omega, show (3 * (t.val / 3) + q) / 3 = t.val / 3 by omega])]
  have b0 : (((cfg0.win 2).blk t).view.emb y 0).val = t.val / 3 * 1024 + (y 0).val := by
    show win0_2.index t (0 : Fin 2) * 1024 + 1 * (y 0).val = _
    rw [e4, one_mul]
  have b1 : (((cfg0.win 2).blk t).view.emb y 1).val = 0 * 1024 + (y 1).val := by
    show win0_2.index t (1 : Fin 2) * 1024 + 1 * (y 1).val = _
    rw [e5, one_mul]
  unfold result
  rw [b0, b1]

/-- The blocks tile the array, so it is `result`. -/
theorem final : (dats m 0 c).arrAt 2 cfg0.N = result m c :=
  (dats m 0 c).arrAt_eq_of_cover 2 _ (fun t hf => flushed_eq m c t hf) (fun i => (Value.covered_iff2 i).2
    ⟨Nat.zero_le _, (i 0).isLt, Nat.zero_le _, (i 1).isLt⟩)

/-- The reference's result is the same array. -/
theorem reference_eq : Cert.Reference3Ideal.Read.val_main_v5 (F := Ideal) (X m c) (Y m c) = result m c := by
  funext i
  rw [Cert.Reference3Ideal.Read.val_main_v5_apply]
  show Cert.Reference3Ideal.Read.val_main_v4 (F := Ideal) (X m c) (Y m c) i = _
  rw [Cert.Reference3Ideal.Read.val_main_v4_apply]
  refine Finset.sum_congr rfl fun k _ => ?_
  congr 1
  · exact eq_at2 (X m c) _ _ _ rfl rfl
  · exact eq_at2 (Y m c) _ _ _ rfl rfl

/-- The value claim: from equal arguments both programs end with `result` and keep their arguments. -/
theorem algebraic : Cert.algebraic_Kernel3Ideal_Reference3Ideal := by
  intro m ρ m' ρ' _ hagree
  refine ⟨fun c => result m c, (θ_run defs _ _).mono (fun _ h c => ⟨(h c).1.trans (final m c), (h c).2⟩) (Value.run_blocks (F := Ideal) m ρ), ?_⟩
  refine (θ_run Cert.Reference3Ideal.defs _ _).mono (fun _ h c => ⟨(h c).1.trans ?_, (h c).2⟩) (Cert.Reference3Ideal.Value.run (F := Ideal) m' ρ')
  rw [(hagree c).1, (hagree c).2]
  exact (Cert.Reference3Ideal.Read.val_main_v5_eq (F := Ideal) _ _).trans (reference_eq m c)

end Cert.Kernel3Ideal.Hand

end
-- ==== Proof.InProjWeight1.lean ====
/- The gradient of the second input projection's weight (the call `dw_in_proj1`): `xᵀ · dy`, three blocks of columns of `dy`, each
   accumulated over eight blocks of 1024 rows. -/
module

public import proofs.«01_k».proof.Proof.Blocked
public import proofs.«01_k».proof.Proof.Gen.Kernel4Ideal.Value
public import proofs.«01_k».proof.Proof.Gen.Reference4Ideal.Read
public import proofs.«01_k».proof.Proof.Gen.Reference4Ideal.Run
public import proofs.«01_k».proof.Proof.Gen.Kernel4
public import proofs.«01_k».proof.Defs

@[expose] public section

set_option maxRecDepth 16384

noncomputable section

namespace Cert.Kernel4Ideal.Hand

open Cert.Kernel4Ideal Cert.Kernel4Ideal.Gen Idealize.ShloMosaic Idealize.ShloMosaic.TcCoe Idealize.SL.Sem
open Cert.Blocked

/-- Every access of the body starts at the origin. -/
theorem hz : (![0, 0] : Fin 2 → Nat) = fun _ => 0 := funext fun a => by fin_cases a <;> rfl

/-- The step's payload at an index: the accumulator plus the product of the two blocks. -/
theorem pay2_apply (a : Vec Ideal S1024x1792 .f32) (x : Vec Ideal S1024x1024 .bf16) (y : Vec Ideal S1024x1792 .bf16) (i : S1024x1792.Idx) :
    k0_pay2 (F := Ideal) a x y i = a i + ∑ k : Fin 1024, x (ix2 k (i 0)) * y (ix2 k (i 1)) := by
  unfold k0_pay2
  pointwise

/-- A run starts from zero. -/
theorem pay1_apply (i : S1024x1792.Idx) : (k0_pay1 (F := Ideal)) i = 0 := by
  unfold k0_pay1
  pointwise

/-! ## What each case of the body leaves -/

section Cases
variable (c : Dev nD) (i : grid0.Coords) (a1 : Memref sig .tc .vmem S1024x1024 .bf16) (h1 : a1.IsWhole)
  (a2 : Memref sig .tc .vmem S1024x1792 .bf16) (h2 : a2.IsWhole) (a3 : Memref sig .tc .vmem S1024x1792 .f32) (h3 : a3.IsWhole)
  (a4 : Memref sig .tc .vmem S1024x1792 .f32) (h4 : a4.IsWhole)

/-- A run's first point leaves its product in the accumulator. -/
theorem sout_A (e0 e1) (x : Vec Ideal S1024x1024 .bf16) (y : Vec Ideal S1024x1792 .bf16) :
    sout0_A_0 (F := Ideal) c i a1 h1 a2 h2 a3 h3 a4 h4 e0 e1 x y = k0_pay2 k0_pay1 x y := by
  unfold sout0_A_0
  rw [View.read_writes_eq_canon _ _ _ (scover0_A_0 _ _ _ _ _ _ _ _ _ _ _ _ _ _)]
  unfold kernelRun0_A
  dsimp only
  sl_unfold_words
  rw [View.canon_cons_unit_zero (S := S1024x1792) hz, View.readCov_unit_zero (S := S1024x1792) _ hz]
  simp only [View.readAt_eq_ld, h1.read_unread, h2.read_unread, View.ld_unit_zero (S := S1024x1024) hz, View.ld_unit_zero (S := S1024x1792) hz]

/-- A point inside a run adds its product to the accumulator. -/
theorem sout_B (e0 e1) (x : Vec Ideal S1024x1024 .bf16) (y : Vec Ideal S1024x1792 .bf16) (a : Vec Ideal S1024x1792 .f32) :
    sout0_B_0 (F := Ideal) c i a1 h1 a2 h2 a3 h3 a4 h4 e0 e1 x y a = k0_pay2 a x y := by
  unfold sout0_B_0
  rw [View.read_writes_eq_canon _ _ _ (scover0_B_0 _ _ _ _ _ _ _ _ _ _ _ _ _ _ _)]
  unfold kernelRun0_B
  dsimp only
  sl_unfold_words
  rw [View.canon_unit_zero hz]
  simp only [View.readAt_eq_ld, h1.read_unread, h2.read_unread, h4.read_unread, View.ld_unit_zero (S := S1024x1024) hz, View.ld_unit_zero (S := S1024x1792) hz]

/-- So does a run's last point. -/
theorem sout_C (e0 e1) (x : Vec Ideal S1024x1024 .bf16) (y : Vec Ideal S1024x1792 .bf16) (a : Vec Ideal S1024x1792 .f32) :
    sout0_C_0 (F := Ideal) c i a1 h1 a2 h2 a3 h3 a4 h4 e0 e1 x y a = k0_pay2 a x y := by
  unfold sout0_C_0
  rw [View.read_writes_eq_canon _ _ _ (scover0_C_0 _ _ _ _ _ _ _ _ _ _ _ _ _ _ _)]
  unfold kernelRun0_C
  dsimp only
  sl_unfold_words
  rw [View.canon_unit_zero hz]
  simp only [View.readAt_eq_ld, h1.read_unread, h2.read_unread, h4.read_unread, View.ld_unit_zero (S := S1024x1024) hz, View.ld_unit_zero (S := S1024x1792) hz]

/-- And a run's last point writes the accumulator back. -/
theorem out_C (e0 e1) (x : Vec Ideal S1024x1024 .bf16) (y : Vec Ideal S1024x1792 .bf16) (a : Vec Ideal S1024x1792 .f32) :
    out0_C_2 (F := Ideal) c i a1 h1 a2 h2 a3 h3 a4 h4 e0 e1 x y a = k0_pay2 a x y := by
  unfold out0_C_2
  rw [View.read_writes_eq_canon _ _ _ (cover0_C_2 _ _ _ _ _ _ _ _ _ _ _ _ _ _ _)]
  unfold kernelRun0_C
  dsimp only
  sl_unfold_words
  rw [View.canon_unit_zero hz, View.readCov_unit_zero (S := S1024x1792) _ hz]
  simp only [View.readAt_eq_ld, h1.read_unread, h2.read_unread, h4.read_unread, View.ld_unit_zero (S := S1024x1024) hz, View.ld_unit_zero (S := S1024x1792) hz]

end Cases

/-! ## The accumulator over the grid -/

variable (m : (ℓ : Loc nD τ sig) → Buf (Elt Ideal) ℓ) (c : Dev nD)

/-- The blocks that each point reads and the block that it writes, decided over the grid's points. -/
theorem idx_facts : ∀ t : Fin cfg0.N, win0_0.index t (0 : Fin 2) = t.val % 8 ∧ win0_0.index t (1 : Fin 2) = 0
    ∧ win0_1.index t (0 : Fin 2) = t.val % 8 ∧ win0_1.index t (1 : Fin 2) = t.val / 8
    ∧ win0_2.index t (0 : Fin 2) = 0 ∧ win0_2.index t (1 : Fin 2) = t.val / 8 :=
  (by decide +kernel : ∀ t : Fin grid0.N, _)

/-- Argument 0 as a matrix. -/
abbrev X : S8192x1024.Idx → EReal := m ((c : Thread nD τ).loc main_arg0)

/-- The block of argument 0 that point `t` reads. -/
abbrev A (t : Fin cfg0.N) : S1024x1024.Idx → EReal := iblk m c 0 t

/-- A place of the block is a place of the argument. -/
theorem block0 (t : Fin cfg0.N) (j : S1024x1024.Idx) :
    A m c t j = at2 (X m c) (win0_0.index t (0 : Fin 2) * 1024 + (j 0).val) (win0_0.index t (1 : Fin 2) * 1024 + (j 1).val) := by
  unfold A iblk
  rw [View.read_apply]
  show V m c main_arg0 _ = _
  rw [V_main_arg0]
  refine eq_at2 (X m c) _ _ _ ?_ ?_
  · show win0_0.index t (0 : Fin 2) * 1024 + 1 * (j 0).val = _
    rw [one_mul]
  · show win0_0.index t (1 : Fin 2) * 1024 + 1 * (j 1).val = _
    rw [one_mul]

/-- Argument 1 as a matrix. -/
abbrev Y : S8192x5376.Idx → EReal := m ((c : Thread nD τ).loc main_arg1)

/-- The block of argument 1 that point `t` reads. -/
abbrev B (t : Fin cfg0.N) : S1024x1792.Idx → EReal := iblk m c 1 t

/-- A place of the block is a place of the argument. -/
theorem block1 (t : Fin cfg0.N) (j : S1024x1792.Idx) :
    B m c t j = at2 (Y m c) (win0_1.index t (0 : Fin 2) * 1024 + (j 0).val) (win0_1.index t (1 : Fin 2) * 1792 + (j 1).val) := by
  unfold B iblk
  rw [View.read_apply]
  show V m c main_arg1 _ = _
  rw [V_main_arg1]
  refine eq_at2 (Y m c) _ _ _ ?_ ?_
  · show win0_1.index t (0 : Fin 2) * 1024 + 1 * (j 0).val = _
    rw [one_mul]
  · show win0_1.index t (1 : Fin 2) * 1792 + 1 * (j 1).val = _
    rw [one_mul]

/-- What point `n` adds at a place of its block. -/
def term (n : ℕ) (i : S1024x1792.Idx) : EReal :=
  ∑ k : Fin 1024, at2 (X m c) (n % 8 * 1024 + k.val) (0 * 1024 + (i 0).val) * at2 (Y m c) (n % 8 * 1024 + k.val) (n / 8 * 1792 + (i 1).val)

/-- The product of the two blocks of a point is the point's addend. -/
theorem product_eq (t : Fin cfg0.N) (i : S1024x1792.Idx) :
    (∑ k : Fin 1024, A m c t (ix2 k (i 0)) * B m c t (ix2 k (i 1))) = term m c t.val i := by
  obtain ⟨e0, e1, e2, e3, -, -⟩ := idx_facts t
  refine Finset.sum_congr rfl fun k _ => ?_
  rw [block0, block1, e0, e1, e2, e3]
  rfl

/-- A run's first point leaves its addend in the accumulator. -/
theorem scratch_reset (n : ℕ) (h : n < cfg0.N) (h0 : n % 8 = 0) (i : S1024x1792.Idx) :
    (outsAt0 m c n h).2 i = term m c n i := by
  rw [outsAt0_A m c ⟨n, h⟩ h0 (by show ¬n % 8 = 7; omega), sout_A]
  dsimp only
  rw [pay2_apply, pay1_apply, zero_add]
  exact product_eq m c ⟨n, h⟩ i

/-- Every other point adds its addend to what the point before left. -/
theorem scratch_step (n : ℕ) (h : n + 1 < cfg0.N) (h0 : (n + 1) % 8 ≠ 0) (i : S1024x1792.Idx) :
    (outsAt0 m c (n + 1) h).2 i = (outsAt0 m c n (Nat.lt_of_succ_lt h)).2 i + term m c (n + 1) i := by
  rw [← product_eq m c ⟨n + 1, h⟩ i]
  by_cases h1 : (n + 1) % 8 = 7
  · rw [outsAt0_C m c ⟨n + 1, h⟩ h0 h1, sout_C]; dsimp only; rw [pay2_apply]; rfl
  · rw [outsAt0_B m c ⟨n + 1, h⟩ h0 h1, sout_B]; dsimp only; rw [pay2_apply]; rfl

/-- At a run's last point the block written back is the accumulator. -/
theorem out_last (t : Fin cfg0.N) (h1 : t.val % 8 = 7) (i : S1024x1792.Idx) :
    (outsAt0 m c t.val t.isLt).1 i = (outsAt0 m c t.val t.isLt).2 i := by
  rw [outsAt0_C m c t (by omega) h1, out_C, sout_C]

/-! ## The array after the run, and the reference -/

/-- What the array ends holding: the gradient of the weight, `xᵀ · dy`. -/
def result : S1024x5376.Idx → EReal := fun i =>
  ∑ k : Fin 8192, at2 (X m c) k.val (i 0).val * at2 (Y m c) k.val (i 1).val

/-- A point that writes back writes its block of `result`. -/
theorem flushed_eq (t : Fin cfg0.N) (hf : (cfg0.win 2).flush t = true) :
    (dats m 0 c).flushed 2 t = ((cfg0.win 2).blk t).view.read (Elt Ideal) (result m c) := by
  have hl : t.val % 8 = 7 := (flush0_2 t).mp hf
  obtain ⟨-, -, -, -, e4, e5⟩ := idx_facts t
  rw [Value.flushed2]
  funext y
  rw [View.read_apply]
  show (outsAt0 m c t.val t.isLt).1 y = result m c _
  rw [out_last m c t hl, run_sum (by decide) (fun n h => (outsAt0 m c n h).2) (term m c) (scratch_reset m c) (scratch_step m c),
    run_total (K := 8192) rfl (term m c) t.val y
      (fun k => at2 (X m c) k (0 * 1024 + (y 0).val) * at2 (Y m c) k (t.val / 8 * 1792 + (y 1).val)) (by omega)
      (fun q hq => by
        unfold term
        rw [show (8 * (t.val / 8) + q) % 8 = q by omega, show (8 * (t.val / 8) + q) / 8 = t.val / 8 by omega])]
  have b0 : (((cfg0.win 2).blk t).view.emb y 0).val = 0 * 1024 + (y 0).val := by
    show win0_2.index t (0 : Fin 2) * 1024 + 1 * (y 0).val = _
    rw [e4, one_mul]
  have b1 : (((cfg0.win 2).blk t).view.emb y 1).val = t.val / 8 * 1792 + (y 1).val := by
    show win0_2.index t (1 : Fin 2) * 1792 + 1 * (y 1).val = _
    rw [e5, one_mul]
  unfold result
  rw [b0, b1]

/-- The blocks tile the array, so it is `result`. -/
theorem final : (dats m 0 c).arrAt 2 cfg0.N = result m c :=
  (dats m 0 c).arrAt_eq_of_cover 2 _ (fun t hf => flushed_eq m c t hf) (fun i => (Value.covered_iff2 i).2
    ⟨Nat.zero_le _, (i 0).isLt, Nat.zero_le _, (i 1).isLt⟩)

/-- The reference's result is the same array. -/
theorem reference_eq : Cert.Reference4Ideal.Read.val_main_v5 (F := Ideal) (X m c) (Y m c) = result m c := by
  funext i
  rw [Cert.Reference4Ideal.Read.val_main_v5_apply, Cert.Reference4Ideal.Read.val_main_v4_apply]
  refine Finset.sum_congr rfl fun k _ => ?_
  rw [mul_comm]
  congr 1
  · exact eq_at2 (X m c) _ _ _ rfl rfl
  · exact eq_at2 (Y m c) _ _ _ rfl rfl

/-- The value claim: from equal arguments both programs end with `result` and keep their arguments. -/
theorem algebraic : Cert.algebraic_Kernel4Ideal_Reference4Ideal := by
  intro m ρ m' ρ' _ hagree
  refine ⟨fun c => result m c, (θ_run defs _ _).mono (fun _ h c => ⟨(h c).1.trans (final m c), (h c).2⟩) (Value.run_blocks (F := Ideal) m ρ), ?_⟩
  refine (θ_run Cert.Reference4Ideal.defs _ _).mono (fun _ h c => ⟨(h c).1.trans ?_, (h c).2⟩) (Cert.Reference4Ideal.Value.run (F := Ideal) m' ρ')
  rw [(hagree c).1, (hagree c).2]
  exact (Cert.Reference4Ideal.Read.val_main_v5_eq (F := Ideal) _ _).trans (reference_eq m c)

end Cert.Kernel4Ideal.Hand

end
-- ==== Proof.OutProjInput.lean ====
/- The gradient of the second output projection's input (the call `d_out_proj1`): `dy · wᵀ`, block by block, each in one step. -/
module

public import proofs.«01_k».proof.Proof.Blocked
public import proofs.«01_k».proof.Proof.Gen.Kernel5Ideal.Value
public import proofs.«01_k».proof.Proof.Gen.Reference5Ideal.Read
public import proofs.«01_k».proof.Proof.Gen.Reference5Ideal.Run
public import proofs.«01_k».proof.Proof.Gen.Kernel5
public import proofs.«01_k».proof.Defs

@[expose] public section

set_option maxRecDepth 16384

noncomputable section

namespace Cert.Kernel5Ideal.Hand

open Cert.Kernel5Ideal Cert.Kernel5Ideal.Gen Idealize.ShloMosaic Idealize.ShloMosaic.TcCoe Idealize.SL.Sem
open Cert.Blocked

/-- Every access of the body starts at the origin. -/
theorem hz : (![0, 0] : Fin 2 → Nat) = fun _ => 0 := funext fun a => by fin_cases a <;> rfl

/-- The body's payload at an index: the product of the two blocks. -/
theorem pay1_apply (x : Vec Ideal S512x1024 .f32) (y : Vec Ideal S1024x1024 .bf16) (i : S512x1024.Idx) :
    k0_pay1 (F := Ideal) x y i = (∑ k : Fin 1024, x (ix2 (i 0) k) * y (ix2 (i 1) k)) := by
  unfold k0_pay1
  pointwise

/-- The body leaves its payload of the blocks in the output's buffer. -/
theorem out_eq (x : Vec Ideal S512x1024 .f32) (y : Vec Ideal S1024x1024 .bf16) :
    out0_2 (F := Ideal) x y = k0_pay1 x y := by
  unfold out0_2
  rw [View.canon_unit_zero (S := S512x1024) hz]
  simp only [View.ld_unit_zero (S := S512x1024) hz, View.ld_unit_zero (S := S1024x1024) hz]

variable (m : (ℓ : Loc nD τ sig) → Buf (Elt Ideal) ℓ) (c : Dev nD)

/-- The blocks that each point reads and the block that it writes, decided over the grid's points. -/
theorem idx_facts : ∀ t : Fin cfg0.N, win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = t.val % 2 :=
  (by decide +kernel : ∀ t : Fin grid0.N, _)

/-- Every point writes its block back, and every block of the array is some point's. -/
theorem flush_all : ∀ t : Fin cfg0.N, (cfg0.win 2).flush t = true :=
  (by decide +kernel : ∀ t : Fin grid0.N, win0_2.flush t = true)
theorem idx_onto : ∀ (a : Fin 16) (b : Fin 2), ∃ t : Fin cfg0.N, win0_2.index t (0 : Fin 2) = a.val ∧ win0_2.index t (1 : Fin 2) = b.val :=
  fun a b => ⟨⟨2 * a.val + b.val, lt_of_lt_of_eq (by omega) N_0.symm⟩,
    (by decide +kernel : ∀ (a : Fin 16) (b : Fin 2), win0_2.index (⟨2 * a.val + b.val, lt_of_lt_of_eq (by omega) N_0.symm⟩ : Fin grid0.N) (0 : Fin 2) = a.val
      ∧ win0_2.index (⟨2 * a.val + b.val, lt_of_lt_of_eq (by omega) N_0.symm⟩ : Fin grid0.N) (1 : Fin 2) = b.val) a b⟩

/-- Argument 0 as a matrix. -/
abbrev X : S8192x1024.Idx → EReal := m ((c : Thread nD τ).loc main_arg0)

/-- The block of argument 0 that point `t` reads. -/
abbrev A (t : Fin cfg0.N) : S512x1024.Idx → EReal := iblk m c 0 t

/-- A place of the block is a place of the argument. -/
theorem block0 (t : Fin cfg0.N) (j : S512x1024.Idx) :
    A m c t j = at2 (X m c) (win0_0.index t (0 : Fin 2) * 512 + (j 0).val) (win0_0.index t (1 : Fin 2) * 1024 + (j 1).val) := by
  unfold A iblk
  rw [View.read_apply]
  show V m c main_arg0 _ = _
  rw [V_main_arg0]
  refine eq_at2 (X m c) _ _ _ ?_ ?_
  · show win0_0.index t (0 : Fin 2) * 512 + 1 * (j 0).val = _
    rw [one_mul]
  · show win0_0.index t (1 : Fin 2) * 1024 + 1 * (j 1).val = _
    rw [one_mul]

/-- Argument 1 as a matrix. -/
abbrev Y : S2048x1024.Idx → EReal := m ((c : Thread nD τ).loc main_arg1)

/-- The block of argument 1 that point `t` reads. -/
abbrev B (t : Fin cfg0.N) : S1024x1024.Idx → EReal := iblk m c 1 t

/-- A place of the block is a place of the argument. -/
theorem block1 (t : Fin cfg0.N) (j : S1024x1024.Idx) :
    B m c t j = at2 (Y m c) (win0_1.index t (0 : Fin 2) * 1024 + (j 0).val) (win0_1.index t (1 : Fin 2) * 1024 + (j 1).val) := by
  unfold B iblk
  rw [View.read_apply]
  show V m c main_arg1 _ = _
  rw [V_main_arg1]
  refine eq_at2 (Y m c) _ _ _ ?_ ?_
  · show win0_1.index t (0 : Fin 2) * 1024 + 1 * (j 0).val = _
    rw [one_mul]
  · show win0_1.index t (1 : Fin 2) * 1024 + 1 * (j 1).val = _
    rw [one_mul]

/-- What the array ends holding: the gradient of the input, `dy · wᵀ`. -/
def result : S8192x2048.Idx → EReal := fun i =>
  (∑ k : Fin 1024, at2 (X m c) (i 0).val k.val * at2 (Y m c) (i 1).val k.val)

/-- Each point writes back its block of `result`. -/
theorem flushed_eq (t : Fin cfg0.N) :
    (dats m 0 c).flushed 2 t = ((cfg0.win 2).blk t).view.read (Elt Ideal) (result m c) := by
  obtain ⟨e0, e1, e2, e3, e4, e5⟩ := idx_facts t
  rw [Value.flushed2]
  funext y
  rw [View.read_apply, out_eq]
  show k0_pay1 (F := Ideal) (A m c t) (B m c t) y = result m c _
  have b0 : (((cfg0.win 2).blk t).view.emb y 0).val = t.val / 2 * 512 + (y 0).val := by
    show win0_2.index t (0 : Fin 2) * 512 + 1 * (y 0).val = _
    rw [e4, one_mul]
  have b1 : (((cfg0.win 2).blk t).view.emb y 1).val = t.val % 2 * 1024 + (y 1).val := by
    show win0_2.index t (1 : Fin 2) * 1024 + 1 * (y 1).val = _
    rw [e5, one_mul]
  rw [pay1_apply]
  unfold result
  rw [b0, b1]
  refine Finset.sum_congr rfl fun k _ => ?_
  rw [block0, block1, e0, e1, e2, e3]
  simp only [zero_mul, zero_add]
  rfl

/-- The blocks tile the array, so it is `result`. -/
theorem final : (dats m 0 c).arrAt 2 cfg0.N = result m c :=
  (dats m 0 c).arrAt_eq_of_cover 2 _ (fun t _ => flushed_eq m c t) (fun i => by
    have hi0 : (i 0).val < 8192 := (i 0).isLt
    have hi1 : (i 1).val < 2048 := (i 1).isLt
    obtain ⟨t, q0, q1⟩ := idx_onto ⟨(i 0).val / 512, by omega⟩ ⟨(i 1).val / 1024, by omega⟩
    dsimp only at q0 q1
    refine ⟨t, flush_all t, ?_⟩
    show i ∈ ((View.whole main_v0).slice (win0_2.rect t)).set
    rw [View.set_slice_whole, Rect.mem_set_unit]
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 1024 ≤ (i 1).val ∧ (i 1).val < win0_2.index t (1 : Fin 2) * 1024 + 1024; omega)

/-- The reference's result is the same array. -/
theorem reference_eq : Cert.Reference5Ideal.Read.val_main_v4 (F := Ideal) (X m c) (Y m c) = result m c := by
  funext i
  rw [Cert.Reference5Ideal.Read.val_main_v4_apply]
  show Cert.Reference5Ideal.Read.val_main_v3 (F := Ideal) (X m c) (Y m c) i = _
  rw [Cert.Reference5Ideal.Read.val_main_v3_apply]
  refine Finset.sum_congr rfl fun k _ => ?_
  congr 1
  · exact eq_at2 (X m c) _ _ _ rfl rfl
  · exact eq_at2 (Y m c) _ _ _ rfl rfl

/-- The value claim: from equal arguments both programs end with `result` and keep their arguments. -/
theorem algebraic : Cert.algebraic_Kernel5Ideal_Reference5Ideal := by
  intro m ρ m' ρ' _ hagree
  refine ⟨fun c => result m c, (θ_run defs _ _).mono (fun _ h c => ⟨(h c).1.trans (final m c), (h c).2⟩) (Value.run_blocks (F := Ideal) m ρ), ?_⟩
  refine (θ_run Cert.Reference5Ideal.defs _ _).mono (fun _ h c => ⟨(h c).1.trans ?_, (h c).2⟩) (Cert.Reference5Ideal.Value.run (F := Ideal) m' ρ')
  rw [(hagree c).1, (hagree c).2]
  exact (Cert.Reference5Ideal.Read.val_main_v4_eq (F := Ideal) _ _).trans (reference_eq m c)

end Cert.Kernel5Ideal.Hand

end
-- ==== Proof.InProjWeight0.lean ====
/- The gradient of the first input projection's weight (the call `dw_in_proj0`): `xᵀ · dy`, four blocks of columns of `dy`, each
   accumulated over eight blocks of 1024 rows. -/
module

public import proofs.«01_k».proof.Proof.Blocked
public import proofs.«01_k».proof.Proof.Gen.Kernel6Ideal.Value
public import proofs.«01_k».proof.Proof.Gen.Reference6Ideal.Read
public import proofs.«01_k».proof.Proof.Gen.Reference6Ideal.Run
public import proofs.«01_k».proof.Proof.Gen.Kernel6
public import proofs.«01_k».proof.Defs

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Cert.Blocked

/-- Every access of the body starts at the origin. -/
theorem hz : (![0, 0] : Fin 2 → Nat) = fun _ => 0 := funext fun a => by fin_cases a <;> rfl

/-- The step's payload at an index: the accumulator plus the product of the two blocks. -/
theorem pay2_apply (a : Vec Ideal S1024x1792 .f32) (x : Vec Ideal S1024x1024 .bf16) (y : Vec Ideal S1024x1792 .bf16) (i : S1024x1792.Idx) :
    k0_pay2 (F := Ideal) a x y i = a i + ∑ k : Fin 1024, x (ix2 k (i 0)) * y (ix2 k (i 1)) := by
  unfold k0_pay2
  pointwise

/-- A run starts from zero. -/
theorem pay1_apply (i : S1024x1792.Idx) : (k0_pay1 (F := Ideal)) i = 0 := by
  unfold k0_pay1
  pointwise

/-! ## What each case of the body leaves -/

section Cases
variable (c : Dev nD) (i : grid0.Coords) (a1 : Memref sig .tc .vmem S1024x1024 .bf16) (h1 : a1.IsWhole)
  (a2 : Memref sig .tc .vmem S1024x1792 .bf16) (h2 : a2.IsWhole) (a3 : Memref sig .tc .vmem S1024x1792 .f32) (h3 : a3.IsWhole)
  (a4 : Memref sig .tc .vmem S1024x1792 .f32) (h4 : a4.IsWhole)

/-- A run's first point leaves its product in the accumulator. -/
theorem sout_A (e0 e1) (x : Vec Ideal S1024x1024 .bf16) (y : Vec Ideal S1024x1792 .bf16) :
    sout0_A_0 (F := Ideal) c i a1 h1 a2 h2 a3 h3 a4 h4 e0 e1 x y = k0_pay2 k0_pay1 x y := by
  unfold sout0_A_0
  rw [View.read_writes_eq_canon _ _ _ (scover0_A_0 _ _ _ _ _ _ _ _ _ _ _ _ _ _)]
  unfold kernelRun0_A
  dsimp only
  sl_unfold_words
  rw [View.canon_cons_unit_zero (S := S1024x1792) hz, View.readCov_unit_zero (S := S1024x1792) _ hz]
  simp only [View.readAt_eq_ld, h1.read_unread, h2.read_unread, View.ld_unit_zero (S := S1024x1024) hz, View.ld_unit_zero (S := S1024x1792) hz]

/-- A point inside a run adds its product to the accumulator. -/
theorem sout_B (e0 e1) (x : Vec Ideal S1024x1024 .bf16) (y : Vec Ideal S1024x1792 .bf16) (a : Vec Ideal S1024x1792 .f32) :
    sout0_B_0 (F := Ideal) c i a1 h1 a2 h2 a3 h3 a4 h4 e0 e1 x y a = k0_pay2 a x y := by
  unfold sout0_B_0
  rw [View.read_writes_eq_canon _ _ _ (scover0_B_0 _ _ _ _ _ _ _ _ _ _ _ _ _ _ _)]
  unfold kernelRun0_B
  dsimp only
  sl_unfold_words
  rw [View.canon_unit_zero hz]
  simp only [View.readAt_eq_ld, h1.read_unread, h2.read_unread, h4.read_unread, View.ld_unit_zero (S := S1024x1024) hz, View.ld_unit_zero (S := S1024x1792) hz]

/-- So does a run's last point. -/
theorem sout_C (e0 e1) (x : Vec Ideal S1024x1024 .bf16) (y : Vec Ideal S1024x1792 .bf16) (a : Vec Ideal S1024x1792 .f32) :
    sout0_C_0 (F := Ideal) c i a1 h1 a2 h2 a3 h3 a4 h4 e0 e1 x y a = k0_pay2 a x y := by
  unfold sout0_C_0
  rw [View.read_writes_eq_canon _ _ _ (scover0_C_0 _ _ _ _ _ _ _ _ _ _ _ _ _ _ _)]
  unfold kernelRun0_C
  dsimp only
  sl_unfold_words
  rw [View.canon_unit_zero hz]
  simp only [View.readAt_eq_ld, h1.read_unread, h2.read_unread, h4.read_unread, View.ld_unit_zero (S := S1024x1024) hz, View.ld_unit_zero (S := S1024x1792) hz]

/-- And a run's last point writes the accumulator back. -/
theorem out_C (e0 e1) (x : Vec Ideal S1024x1024 .bf16) (y : Vec Ideal S1024x1792 .bf16) (a : Vec Ideal S1024x1792 .f32) :
    out0_C_2 (F := Ideal) c i a1 h1 a2 h2 a3 h3 a4 h4 e0 e1 x y a = k0_pay2 a x y := by
  unfold out0_C_2
  rw [View.read_writes_eq_canon _ _ _ (cover0_C_2 _ _ _ _ _ _ _ _ _ _ _ _ _ _ _)]
  unfold kernelRun0_C
  dsimp only
  sl_unfold_words
  rw [View.canon_unit_zero hz, View.readCov_unit_zero (S := S1024x1792) _ hz]
  simp only [View.readAt_eq_ld, h1.read_unread, h2.read_unread, h4.read_unread, View.ld_unit_zero (S := S1024x1024) hz, View.ld_unit_zero (S := S1024x1792) hz]

end Cases

/-! ## The accumulator over the grid -/

variable (m : (ℓ : Loc nD τ sig) → Buf (Elt Ideal) ℓ) (c : Dev nD)

/-- The blocks that each point reads and the block that it writes, decided over the grid's points. -/
theorem idx_facts : ∀ t : Fin cfg0.N, win0_0.index t (0 : Fin 2) = t.val % 8 ∧ win0_0.index t (1 : Fin 2) = 0
    ∧ win0_1.index t (0 : Fin 2) = t.val % 8 ∧ win0_1.index t (1 : Fin 2) = t.val / 8
    ∧ win0_2.index t (0 : Fin 2) = 0 ∧ win0_2.index t (1 : Fin 2) = t.val / 8 :=
  (by decide +kernel : ∀ t : Fin grid0.N, _)

/-- Argument 0 as a matrix. -/
abbrev X : S8192x1024.Idx → EReal := m ((c : Thread nD τ).loc main_arg0)

/-- The block of argument 0 that point `t` reads. -/
abbrev A (t : Fin cfg0.N) : S1024x1024.Idx → EReal := iblk m c 0 t

/-- A place of the block is a place of the argument. -/
theorem block0 (t : Fin cfg0.N) (j : S1024x1024.Idx) :
    A m c t j = at2 (X m c) (win0_0.index t (0 : Fin 2) * 1024 + (j 0).val) (win0_0.index t (1 : Fin 2) * 1024 + (j 1).val) := by
  unfold A iblk
  rw [View.read_apply]
  show V m c main_arg0 _ = _
  rw [V_main_arg0]
  refine eq_at2 (X m c) _ _ _ ?_ ?_
  · show win0_0.index t (0 : Fin 2) * 1024 + 1 * (j 0).val = _
    rw [one_mul]
  · show win0_0.index t (1 : Fin 2) * 1024 + 1 * (j 1).val = _
    rw [one_mul]

/-- Argument 1 as a matrix. -/
abbrev Y : S8192x7168.Idx → EReal := m ((c : Thread nD τ).loc main_arg1)

/-- The block of argument 1 that point `t` reads. -/
abbrev B (t : Fin cfg0.N) : S1024x1792.Idx → EReal := iblk m c 1 t

/-- A place of the block is a place of the argument. -/
theorem block1 (t : Fin cfg0.N) (j : S1024x1792.Idx) :
    B m c t j = at2 (Y m c) (win0_1.index t (0 : Fin 2) * 1024 + (j 0).val) (win0_1.index t (1 : Fin 2) * 1792 + (j 1).val) := by
  unfold B iblk
  rw [View.read_apply]
  show V m c main_arg1 _ = _
  rw [V_main_arg1]
  refine eq_at2 (Y m c) _ _ _ ?_ ?_
  · show win0_1.index t (0 : Fin 2) * 1024 + 1 * (j 0).val = _
    rw [one_mul]
  · show win0_1.index t (1 : Fin 2) * 1792 + 1 * (j 1).val = _
    rw [one_mul]

/-- What point `n` adds at a place of its block. -/
def term (n : ℕ) (i : S1024x1792.Idx) : EReal :=
  ∑ k : Fin 1024, at2 (X m c) (n % 8 * 1024 + k.val) (0 * 1024 + (i 0).val) * at2 (Y m c) (n % 8 * 1024 + k.val) (n / 8 * 1792 + (i 1).val)

/-- The product of the two blocks of a point is the point's addend. -/
theorem product_eq (t : Fin cfg0.N) (i : S1024x1792.Idx) :
    (∑ k : Fin 1024, A m c t (ix2 k (i 0)) * B m c t (ix2 k (i 1))) = term m c t.val i := by
  obtain ⟨e0, e1, e2, e3, -, -⟩ := idx_facts t
  refine Finset.sum_congr rfl fun k _ => ?_
  rw [block0, block1, e0, e1, e2, e3]
  rfl

/-- A run's first point leaves its addend in the accumulator. -/
theorem scratch_reset (n : ℕ) (h : n < cfg0.N) (h0 : n % 8 = 0) (i : S1024x1792.Idx) :
    (outsAt0 m c n h).2 i = term m c n i := by
  rw [outsAt0_A m c ⟨n, h⟩ h0 (by show ¬n % 8 = 7; omega), sout_A]
  dsimp only
  rw [pay2_apply, pay1_apply, zero_add]
  exact product_eq m c ⟨n, h⟩ i

/-- Every other point adds its addend to what the point before left. -/
theorem scratch_step (n : ℕ) (h : n + 1 < cfg0.N) (h0 : (n + 1) % 8 ≠ 0) (i : S1024x1792.Idx) :
    (outsAt0 m c (n + 1) h).2 i = (outsAt0 m c n (Nat.lt_of_succ_lt h)).2 i + term m c (n + 1) i := by
  rw [← product_eq m c ⟨n + 1, h⟩ i]
  by_cases h1 : (n + 1) % 8 = 7
  · rw [outsAt0_C m c ⟨n + 1, h⟩ h0 h1, sout_C]; dsimp only; rw [pay2_apply]; rfl
  · rw [outsAt0_B m c ⟨n + 1, h⟩ h0 h1, sout_B]; dsimp only; rw [pay2_apply]; rfl

/-- At a run's last point the block written back is the accumulator. -/
theorem out_last (t : Fin cfg0.N) (h1 : t.val % 8 = 7) (i : S1024x1792.Idx) :
    (outsAt0 m c t.val t.isLt).1 i = (outsAt0 m c t.val t.isLt).2 i := by
  rw [outsAt0_C m c t (by omega) h1, out_C, sout_C]

/-! ## The array after the run, and the reference -/

/-- What the array ends holding: the gradient of the weight, `xᵀ · dy`. -/
def result : S1024x7168.Idx → EReal := fun i =>
  ∑ k : Fin 8192, at2 (X m c) k.val (i 0).val * at2 (Y m c) k.val (i 1).val

/-- A point that writes back writes its block of `result`. -/
theorem flushed_eq (t : Fin cfg0.N) (hf : (cfg0.win 2).flush t = true) :
    (dats m 0 c).flushed 2 t = ((cfg0.win 2).blk t).view.read (Elt Ideal) (result m c) := by
  have hl : t.val % 8 = 7 := (flush0_2 t).mp hf
  obtain ⟨-, -, -, -, e4, e5⟩ := idx_facts t
  rw [Value.flushed2]
  funext y
  rw [View.read_apply]
  show (outsAt0 m c t.val t.isLt).1 y = result m c _
  rw [out_last m c t hl, run_sum (by decide) (fun n h => (outsAt0 m c n h).2) (term m c) (scratch_reset m c) (scratch_step m c),
    run_total (K := 8192) rfl (term m c) t.val y
      (fun k => at2 (X m c) k (0 * 1024 + (y 0).val) * at2 (Y m c) k (t.val / 8 * 1792 + (y 1).val)) (by omega)
      (fun q hq => by
        unfold term
        rw [show (8 * (t.val / 8) + q) % 8 = q by omega, show (8 * (t.val / 8) + q) / 8 = t.val / 8 by omega])]
  have b0 : (((cfg0.win 2).blk t).view.emb y 0).val = 0 * 1024 + (y 0).val := by
    show win0_2.index t (0 : Fin 2) * 1024 + 1 * (y 0).val = _
    rw [e4, one_mul]
  have b1 : (((cfg0.win 2).blk t).view.emb y 1).val = t.val / 8 * 1792 + (y 1).val := by
    show win0_2.index t (1 : Fin 2) * 1792 + 1 * (y 1).val = _
    rw [e5, one_mul]
  unfold result
  rw [b0, b1]

/-- The blocks tile the array, so it is `result`. -/
theorem final : (dats m 0 c).arrAt 2 cfg0.N = result m c :=
  (dats m 0 c).arrAt_eq_of_cover 2 _ (fun t hf => flushed_eq m c t hf) (fun i => (Value.covered_iff2 i).2
    ⟨Nat.zero_le _, (i 0).isLt, Nat.zero_le _, (i 1).isLt⟩)

/-- The reference's result is the same array. -/
theorem reference_eq : Cert.Reference6Ideal.Read.val_main_v5 (F := Ideal) (X m c) (Y m c) = result m c := by
  funext i
  rw [Cert.Reference6Ideal.Read.val_main_v5_apply, Cert.Reference6Ideal.Read.val_main_v4_apply]
  refine Finset.sum_congr rfl fun k _ => ?_
  rw [mul_comm]
  congr 1
  · exact eq_at2 (X m c) _ _ _ rfl rfl
  · exact eq_at2 (Y m c) _ _ _ rfl rfl

/-- The value claim: from equal arguments both programs end with `result` and keep their arguments. -/
theorem algebraic : Cert.algebraic_Kernel6Ideal_Reference6Ideal := by
  intro m ρ m' ρ' _ hagree
  refine ⟨fun c => result m c, (θ_run defs _ _).mono (fun _ h c => ⟨(h c).1.trans (final m c), (h c).2⟩) (Value.run_blocks (F := Ideal) m ρ), ?_⟩
  refine (θ_run Cert.Reference6Ideal.defs _ _).mono (fun _ h c => ⟨(h c).1.trans ?_, (h c).2⟩) (Cert.Reference6Ideal.Value.run (F := Ideal) m' ρ')
  rw [(hagree c).1, (hagree c).2]
  exact (Cert.Reference6Ideal.Read.val_main_v5_eq (F := Ideal) _ _).trans (reference_eq m c)

end Cert.Kernel6Ideal.Hand

end
-- ==== Proof.OutProj.lean ====
/- An output projection with its residual (the call `out_proj`): `y · w + x`, block by block, each in one step. -/
module

public import proofs.«01_k».proof.Proof.Blocked
public import proofs.«01_k».proof.Proof.Gen.Kernel7Ideal.Value
public import proofs.«01_k».proof.Proof.Gen.Reference7Ideal.Read
public import proofs.«01_k».proof.Proof.Gen.Reference7Ideal.Run
public import proofs.«01_k».proof.Proof.Gen.Kernel7
public import proofs.«01_k».proof.Defs

@[expose] public section

set_option maxRecDepth 16384

noncomputable section

namespace Cert.Kernel7Ideal.Hand

open Cert.Kernel7Ideal Cert.Kernel7Ideal.Gen Idealize.ShloMosaic Idealize.ShloMosaic.TcCoe Idealize.SL.Sem
open Cert.Blocked

/-- Every access of the body starts at the origin. -/
theorem hz : (![0, 0] : Fin 2 → Nat) = fun _ => 0 := funext fun a => by fin_cases a <;> rfl

/-- The body's payload at an index: the product of the two blocks, plus the third. -/
theorem pay1_apply (x : Vec Ideal S512x2048 .bf16) (y : Vec Ideal S2048x1024 .bf16) (z : Vec Ideal S512x1024 .f32) (i : S512x1024.Idx) :
    k0_pay1 (F := Ideal) x y z i = (∑ k : Fin 2048, x (ix2 (i 0) k) * y (ix2 k (i 1))) + z i := by
  unfold k0_pay1
  pointwise

/-- The body leaves its payload of the blocks in the output's buffer. -/
theorem out_eq (x : Vec Ideal S512x2048 .bf16) (y : Vec Ideal S2048x1024 .bf16) (z : Vec Ideal S512x1024 .f32) :
    out0_3 (F := Ideal) x y z = k0_pay1 x y z := by
  unfold out0_3
  rw [View.canon_unit_zero (S := S512x1024) hz]
  simp only [View.ld_unit_zero (S := S512x2048) hz, View.ld_unit_zero (S := S2048x1024) hz, View.ld_unit_zero (S := S512x1024) hz]

variable (m : (ℓ : Loc nD τ sig) → Buf (Elt Ideal) ℓ) (c : Dev nD)

/-- The blocks that each point reads and the block that it writes, decided over the grid's points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every point writes its block back, and every block of the array is some point's. -/
theorem flush_all : ∀ t : Fin cfg0.N, (cfg0.win 3).flush t = true :=
  (by decide +kernel : ∀ t : Fin grid0.N, win0_3.flush t = true)
theorem idx_onto : ∀ (a : Fin 16) (b : Fin 1), ∃ t : Fin cfg0.N, win0_3.index t (0 : Fin 2) = a.val ∧ win0_3.index t (1 : Fin 2) = b.val :=
  fun a b => ⟨⟨a.val + b.val, lt_of_lt_of_eq (by omega) N_0.symm⟩,
    (by decide +kernel : ∀ (a : Fin 16) (b : Fin 1), win0_3.index (⟨a.val + b.val, lt_of_lt_of_eq (by omega) N_0.symm⟩ : Fin grid0.N) (0 : Fin 2) = a.val
      ∧ win0_3.index (⟨a.val + b.val, lt_of_lt_of_eq (by omega) N_0.symm⟩ : Fin grid0.N) (1 : Fin 2) = b.val) a b⟩

/-- Argument 0 as a matrix. -/
abbrev X : S8192x2048.Idx → EReal := m ((c : Thread nD τ).loc main_arg0)

/-- The block of argument 0 that point `t` reads. -/
abbrev A (t : Fin cfg0.N) : S512x2048.Idx → EReal := iblk m c 0 t

/-- A place of the block is a place of the argument. -/
theorem block0 (t : Fin cfg0.N) (j : S512x2048.Idx) :
    A m c t j = at2 (X m c) (win0_0.index t (0 : Fin 2) * 512 + (j 0).val) (win0_0.index t (1 : Fin 2) * 2048 + (j 1).val) := by
  unfold A iblk
  rw [View.read_apply]
  show V m c main_arg0 _ = _
  rw [V_main_arg0]
  refine eq_at2 (X m c) _ _ _ ?_ ?_
  · show win0_0.index t (0 : Fin 2) * 512 + 1 * (j 0).val = _
    rw [one_mul]
  · show win0_0.index t (1 : Fin 2) * 2048 + 1 * (j 1).val = _
    rw [one_mul]

/-- Argument 1 as a matrix. -/
abbrev Y : S2048x1024.Idx → EReal := m ((c : Thread nD τ).loc main_arg1)

/-- The block of argument 1 that point `t` reads. -/
abbrev B (t : Fin cfg0.N) : S2048x1024.Idx → EReal := iblk m c 1 t

/-- A place of the block is a place of the argument. -/
theorem block1 (t : Fin cfg0.N) (j : S2048x1024.Idx) :
    B m c t j = at2 (Y m c) (win0_1.index t (0 : Fin 2) * 2048 + (j 0).val) (win0_1.index t (1 : Fin 2) * 1024 + (j 1).val) := by
  unfold B iblk
  rw [View.read_apply]
  show V m c main_arg1 _ = _
  rw [V_main_arg1]
  refine eq_at2 (Y m c) _ _ _ ?_ ?_
  · show win0_1.index t (0 : Fin 2) * 2048 + 1 * (j 0).val = _
    rw [one_mul]
  · show win0_1.index t (1 : Fin 2) * 1024 + 1 * (j 1).val = _
    rw [one_mul]

/-- Argument 2 as a matrix. -/
abbrev Z : S8192x1024.Idx → EReal := m ((c : Thread nD τ).loc main_arg2)

/-- The block of argument 2 that point `t` reads. -/
abbrev C (t : Fin cfg0.N) : S512x1024.Idx → EReal := iblk m c 2 t

/-- A place of the block is a place of the argument. -/
theorem block2 (t : Fin cfg0.N) (j : S512x1024.Idx) :
    C m c t j = at2 (Z m c) (win0_2.index t (0 : Fin 2) * 512 + (j 0).val) (win0_2.index t (1 : Fin 2) * 1024 + (j 1).val) := by
  unfold C iblk
  rw [View.read_apply]
  show V m c main_arg2 _ = _
  rw [V_main_arg2]
  refine eq_at2 (Z m c) _ _ _ ?_ ?_
  · show win0_2.index t (0 : Fin 2) * 512 + 1 * (j 0).val = _
    rw [one_mul]
  · show win0_2.index t (1 : Fin 2) * 1024 + 1 * (j 1).val = _
    rw [one_mul]

/-- What the array ends holding: the projection plus the residual, `y · w + x`. -/
def result : S8192x1024.Idx → EReal := fun i =>
  (∑ k : Fin 2048, at2 (X m c) (i 0).val k.val * at2 (Y m c) k.val (i 1).val) + at2 (Z m c) (i 0).val (i 1).val

/-- Each point writes back its block of `result`. -/
theorem flushed_eq (t : Fin cfg0.N) :
    (dats m 0 c).flushed 3 t = ((cfg0.win 3).blk t).view.read (Elt Ideal) (result m c) := by
  obtain ⟨e0, e1, e2, e3, e4, e5, e6, e7⟩ := idx_facts t
  rw [Value.flushed3]
  funext y
  rw [View.read_apply, out_eq]
  show k0_pay1 (F := Ideal) (A m c t) (B m c t) (C m c t) y = result m c _
  have b0 : (((cfg0.win 3).blk t).view.emb y 0).val = t.val * 512 + (y 0).val := by
    show win0_3.index t (0 : Fin 2) * 512 + 1 * (y 0).val = _
    rw [e6, one_mul]
  have b1 : (((cfg0.win 3).blk t).view.emb y 1).val = 0 * 1024 + (y 1).val := by
    show win0_3.index t (1 : Fin 2) * 1024 + 1 * (y 1).val = _
    rw [e7, one_mul]
  rw [pay1_apply]
  unfold result
  rw [b0, b1]
  congr 1
  · refine Finset.sum_congr rfl fun k _ => ?_
    rw [block0, block1, e0, e1, e2, e3]
    simp only [zero_mul, zero_add]
    rfl
  · rw [block2, e4, e5]

/-- The blocks tile the array, so it is `result`. -/
theorem final : (dats m 0 c).arrAt 3 cfg0.N = result m c :=
  (dats m 0 c).arrAt_eq_of_cover 3 _ (fun t _ => flushed_eq m c t) (fun i => by
    have hi0 : (i 0).val < 8192 := (i 0).isLt
    have hi1 : (i 1).val < 1024 := (i 1).isLt
    obtain ⟨t, q0, q1⟩ := idx_onto ⟨(i 0).val / 512, by omega⟩ ⟨(i 1).val / 1024, by omega⟩
    dsimp only at q0 q1
    refine ⟨t, flush_all t, ?_⟩
    show i ∈ ((View.whole main_v0).slice (win0_3.rect t)).set
    rw [View.set_slice_whole, Rect.mem_set_unit]
    intro a
    match a with
    | ⟨0, _⟩ => show win0_3.index t (0 : Fin 2) * 512 ≤ (i 0).val ∧ (i 0).val < win0_3.index t (0 : Fin 2) * 512 + 512; omega
    | ⟨1, _⟩ => show win0_3.index t (1 : Fin 2) * 1024 ≤ (i 1).val ∧ (i 1).val < win0_3.index t (1 : Fin 2) * 1024 + 1024; omega)

/-- The reference's result is the same array. -/
theorem reference_eq : Cert.Reference7Ideal.Read.val_main_v3 (F := Ideal) (X m c) (Y m c) (Z m c) = result m c := by
  funext i
  rw [Cert.Reference7Ideal.Read.val_main_v3_apply, Cert.Reference7Ideal.Read.val_main_v2_apply]
  show _ + _ = _ + _
  congr 1
  · refine Finset.sum_congr rfl fun k _ => ?_
    congr 1
    · exact eq_at2 (X m c) _ _ _ rfl rfl
    · exact eq_at2 (Y m c) _ _ _ rfl rfl
  · exact eq_at2 (Z m c) _ _ _ rfl rfl

/-- The value claim: from equal arguments both programs end with `result` and keep their arguments. -/
theorem algebraic : Cert.algebraic_Kernel7Ideal_Reference7Ideal := by
  intro m ρ m' ρ' _ hagree
  refine ⟨fun c => result m c, (θ_run defs _ _).mono (fun _ h c => ⟨(h c).1.trans (final m c), (h c).2⟩) (Value.run_blocks (F := Ideal) m ρ), ?_⟩
  refine (θ_run Cert.Reference7Ideal.defs _ _).mono (fun _ h c => ⟨(h c).1.trans ?_, (h c).2⟩) (Cert.Reference7Ideal.Value.run (F := Ideal) m' ρ')
  rw [(hagree c).1, (hagree c).2.1, (hagree c).2.2]
  exact (Cert.Reference7Ideal.Read.val_main_v3_eq (F := Ideal) _ _ _).trans (reference_eq m c)

end Cert.Kernel7Ideal.Hand

end
-- ==== Proof.InProj.lean ====
/- The second input projection (the call `in_proj1`): `h · w`, block by block, each in one step. -/
module

public import proofs.«01_k».proof.Proof.Blocked
public import proofs.«01_k».proof.Proof.Gen.Kernel8Ideal.Value
public import proofs.«01_k».proof.Proof.Gen.Reference8Ideal.Read
public import proofs.«01_k».proof.Proof.Gen.Reference8Ideal.Run
public import proofs.«01_k».proof.Proof.Gen.Kernel8
public import proofs.«01_k».proof.Defs

@[expose] public section

set_option maxRecDepth 16384

noncomputable section

namespace Cert.Kernel8Ideal.Hand

open Cert.Kernel8Ideal Cert.Kernel8Ideal.Gen Idealize.ShloMosaic Idealize.ShloMosaic.TcCoe Idealize.SL.Sem
open Cert.Blocked

/-- Every access of the body starts at the origin. -/
theorem hz : (![0, 0] : Fin 2 → Nat) = fun _ => 0 := funext fun a => by fin_cases a <;> rfl

/-- The body's payload at an index: the product of the two blocks. -/
theorem pay1_apply (x : Vec Ideal S512x1024 .bf16) (y : Vec Ideal S1024x768 .bf16) (i : S512x768.Idx) :
    k0_pay1 (F := Ideal) x y i = (∑ k : Fin 1024, x (ix2 (i 0) k) * y (ix2 k (i 1))) := by
  unfold k0_pay1
  pointwise

/-- The body leaves its payload of the blocks in the output's buffer. -/
theorem out_eq (x : Vec Ideal S512x1024 .bf16) (y : Vec Ideal S1024x768 .bf16) :
    out0_2 (F := Ideal) x y = k0_pay1 x y := by
  unfold out0_2
  rw [View.canon_unit_zero (S := S512x768) hz]
  simp only [View.ld_unit_zero (S := S512x1024) hz, View.ld_unit_zero (S := S1024x768) hz]

variable (m : (ℓ : Loc nD τ sig) → Buf (Elt Ideal) ℓ) (c : Dev nD)

/-- The blocks that each point reads and the block that it writes, decided over the grid's points. -/
theorem idx_facts : ∀ t : Fin cfg0.N, win0_0.index t (0 : Fin 2) = t.val % 16 ∧ win0_0.index t (1 : Fin 2) = 0
    ∧ win0_1.index t (0 : Fin 2) = 0 ∧ win0_1.index t (1 : Fin 2) = t.val / 16
    ∧ win0_2.index t (0 : Fin 2) = t.val % 16 ∧ win0_2.index t (1 : Fin 2) = t.val / 16 :=
  (by decide +kernel : ∀ t : Fin grid0.N, _)

/-- Every point writes its block back, and every block of the array is some point's. -/
theorem flush_all : ∀ t : Fin cfg0.N, (cfg0.win 2).flush t = true :=
  (by decide +kernel : ∀ t : Fin grid0.N, win0_2.flush t = true)
theorem idx_onto : ∀ (a : Fin 16) (b : Fin 7), ∃ t : Fin cfg0.N, win0_2.index t (0 : Fin 2) = a.val ∧ win0_2.index t (1 : Fin 2) = b.val :=
  fun a b => ⟨⟨16 * b.val + a.val, lt_of_lt_of_eq (by omega) N_0.symm⟩,
    (by decide +kernel : ∀ (a : Fin 16) (b : Fin 7), win0_2.index (⟨16 * b.val + a.val, lt_of_lt_of_eq (by omega) N_0.symm⟩ : Fin grid0.N) (0 : Fin 2) = a.val
      ∧ win0_2.index (⟨16 * b.val + a.val, lt_of_lt_of_eq (by omega) N_0.symm⟩ : Fin grid0.N) (1 : Fin 2) = b.val) a b⟩

/-- Argument 0 as a matrix. -/
abbrev X : S8192x1024.Idx → EReal := m ((c : Thread nD τ).loc main_arg0)

/-- The block of argument 0 that point `t` reads. -/
abbrev A (t : Fin cfg0.N) : S512x1024.Idx → EReal := iblk m c 0 t

/-- A place of the block is a place of the argument. -/
theorem block0 (t : Fin cfg0.N) (j : S512x1024.Idx) :
    A m c t j = at2 (X m c) (win0_0.index t (0 : Fin 2) * 512 + (j 0).val) (win0_0.index t (1 : Fin 2) * 1024 + (j 1).val) := by
  unfold A iblk
  rw [View.read_apply]
  show V m c main_arg0 _ = _
  rw [V_main_arg0]
  refine eq_at2 (X m c) _ _ _ ?_ ?_
  · show win0_0.index t (0 : Fin 2) * 512 + 1 * (j 0).val = _
    rw [one_mul]
  · show win0_0.index t (1 : Fin 2) * 1024 + 1 * (j 1).val = _
    rw [one_mul]

/-- Argument 1 as a matrix. -/
abbrev Y : S1024x5376.Idx → EReal := m ((c : Thread nD τ).loc main_arg1)

/-- The block of argument 1 that point `t` reads. -/
abbrev B (t : Fin cfg0.N) : S1024x768.Idx → EReal := iblk m c 1 t

/-- A place of the block is a place of the argument. -/
theorem block1 (t : Fin cfg0.N) (j : S1024x768.Idx) :
    B m c t j = at2 (Y m c) (win0_1.index t (0 : Fin 2) * 1024 + (j 0).val) (win0_1.index t (1 : Fin 2) * 768 + (j 1).val) := by
  unfold B iblk
  rw [View.read_apply]
  show V m c main_arg1 _ = _
  rw [V_main_arg1]
  refine eq_at2 (Y m c) _ _ _ ?_ ?_
  · show win0_1.index t (0 : Fin 2) * 1024 + 1 * (j 0).val = _
    rw [one_mul]
  · show win0_1.index t (1 : Fin 2) * 768 + 1 * (j 1).val = _
    rw [one_mul]

/-- What the array ends holding: the projection, `h · w`. -/
def result : S8192x5376.Idx → EReal := fun i =>
  (∑ k : Fin 1024, at2 (X m c) (i 0).val k.val * at2 (Y m c) k.val (i 1).val)

/-- Each point writes back its block of `result`. -/
theorem flushed_eq (t : Fin cfg0.N) :
    (dats m 0 c).flushed 2 t = ((cfg0.win 2).blk t).view.read (Elt Ideal) (result m c) := by
  obtain ⟨e0, e1, e2, e3, e4, e5⟩ := idx_facts t
  rw [Value.flushed2]
  funext y
  rw [View.read_apply, out_eq]
  show k0_pay1 (F := Ideal) (A m c t) (B m c t) y = result m c _
  have b0 : (((cfg0.win 2).blk t).view.emb y 0).val = t.val % 16 * 512 + (y 0).val := by
    show win0_2.index t (0 : Fin 2) * 512 + 1 * (y 0).val = _
    rw [e4, one_mul]
  have b1 : (((cfg0.win 2).blk t).view.emb y 1).val = t.val / 16 * 768 + (y 1).val := by
    show win0_2.index t (1 : Fin 2) * 768 + 1 * (y 1).val = _
    rw [e5, one_mul]
  rw [pay1_apply]
  unfold result
  rw [b0, b1]
  refine Finset.sum_congr rfl fun k _ => ?_
  rw [block0, block1, e0, e1, e2, e3]
  simp only [zero_mul, zero_add]
  rfl

/-- The blocks tile the array, so it is `result`. -/
theorem final : (dats m 0 c).arrAt 2 cfg0.N = result m c :=
  (dats m 0 c).arrAt_eq_of_cover 2 _ (fun t _ => flushed_eq m c t) (fun i => by
    have hi0 : (i 0).val < 8192 := (i 0).isLt
    have hi1 : (i 1).val < 5376 := (i 1).isLt
    obtain ⟨t, q0, q1⟩ := idx_onto ⟨(i 0).val / 512, by omega⟩ ⟨(i 1).val / 768, by omega⟩
    dsimp only at q0 q1
    refine ⟨t, flush_all t, ?_⟩
    show i ∈ ((View.whole main_v0).slice (win0_2.rect t)).set
    rw [View.set_slice_whole, Rect.mem_set_unit]
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 768 ≤ (i 1).val ∧ (i 1).val < win0_2.index t (1 : Fin 2) * 768 + 768; omega)

/-- The reference's result is the same array. -/
theorem reference_eq : Cert.Reference8Ideal.Read.val_main_v3 (F := Ideal) (X m c) (Y m c) = result m c := by
  funext i
  rw [Cert.Reference8Ideal.Read.val_main_v3_apply]
  show Cert.Reference8Ideal.Read.val_main_v2 (F := Ideal) (X m c) (Y m c) i = _
  rw [Cert.Reference8Ideal.Read.val_main_v2_apply]
  refine Finset.sum_congr rfl fun k _ => ?_
  congr 1
  · exact eq_at2 (X m c) _ _ _ rfl rfl
  · exact eq_at2 (Y m c) _ _ _ rfl rfl

/-- The value claim: from equal arguments both programs end with `result` and keep their arguments. -/
theorem algebraic : Cert.algebraic_Kernel8Ideal_Reference8Ideal := by
  intro m ρ m' ρ' _ hagree
  refine ⟨fun c => result m c, (θ_run defs _ _).mono (fun _ h c => ⟨(h c).1.trans (final m c), (h c).2⟩) (Value.run_blocks (F := Ideal) m ρ), ?_⟩
  refine (θ_run Cert.Reference8Ideal.defs _ _).mono (fun _ h c => ⟨(h c).1.trans ?_, (h c).2⟩) (Cert.Reference8Ideal.Value.run (F := Ideal) m' ρ')
  rw [(hagree c).1, (hagree c).2]
  exact (Cert.Reference8Ideal.Read.val_main_v3_eq (F := Ideal) _ _).trans (reference_eq m c)

end Cert.Kernel8Ideal.Hand

end
-- ==== Proof.Recurrence.lean ====
/- The arithmetic of a chunked linear recurrence and of its gradient, over the real numbers. Step `t` weighs step `s ≤ t` by the
   decay between them, `exp` of the sum of `la u` over `s < u ≤ t`. A chunked evaluation cuts the steps at multiples of the chunk:
   what lies before a cut reaches a later step through one state, and what lies after it reaches an earlier step through one state of
   the gradient. Each lemma below says that such a detour gives the direct sum. -/
module

public import Mathlib.Algebra.BigOperators.Intervals
public import Mathlib.Analysis.SpecialFunctions.Exp
public import Mathlib.Tactic.Ring

@[expose] public section

noncomputable section

namespace Cert.Recurrence

open Finset

/-- The sum of the first `n` log decays. -/
def pre (la : ℕ → ℝ) (n : ℕ) : ℝ := ∑ u ∈ range n, la u

/-- What step `t` weighs step `s` by: the decay of the steps after `s` up to `t`. -/
def wt (la : ℕ → ℝ) (t s : ℕ) : ℝ := if s ≤ t then Real.exp (pre la (t + 1) - pre la (s + 1)) else 0

/-- One entry of the state at the cut before step `e`. -/
def state (la b x : ℕ → ℝ) (e : ℕ) : ℝ := ∑ s ∈ range e, Real.exp (pre la e - pre la (s + 1)) * (b s * x s)

/-- One entry of the state's gradient at the cut before step `e`, of `N` steps. -/
def dstate (N : ℕ) (la c y : ℕ → ℝ) (e : ℕ) : ℝ := ∑ t ∈ Ico e N, Real.exp (pre la (t + 1) - pre la e) * (c t * y t)

/-- The sum of the log decays of the steps from `e` up to `e + k`. -/
theorem pre_add (la : ℕ → ℝ) (e k : ℕ) : pre la (e + k) = pre la e + ∑ r ∈ range k, la (e + r) := by
  simp [pre, sum_range_add]

theorem wt_of_lt {la : ℕ → ℝ} {t s : ℕ} (h : t < s) : wt la t s = 0 := if_neg (Nat.not_le.mpr h)

/-- The decay between two steps through a cut between them. -/
theorem wt_cut (la : ℕ → ℝ) {t s e : ℕ} (hs : s < e) (ht : e ≤ t) :
    wt la t s = Real.exp (pre la (t + 1) - pre la e) * Real.exp (pre la e - pre la (s + 1)) := by
  rw [wt, if_pos (by omega), ← Real.exp_add]
  congr 1; ring

theorem dstate_end (N : ℕ) (la c y : ℕ → ℝ) : dstate N la c y N = 0 := by simp [dstate]

/-- The gradient of the state a chunk of `k` steps earlier: decayed by the chunk, plus what the chunk's steps add. -/
theorem dstate_step (N : ℕ) (la c y : ℕ → ℝ) (e k : ℕ) (h : e + k ≤ N) :
    dstate N la c y e = dstate N la c y (e + k) * Real.exp (pre la (e + k) - pre la e)
      + ∑ r ∈ range k, Real.exp (pre la (e + r + 1) - pre la e) * (c (e + r) * y (e + r)) := by
  have h1 : ∑ r ∈ range k, Real.exp (pre la (e + r + 1) - pre la e) * (c (e + r) * y (e + r))
      = ∑ t ∈ Ico e (e + k), Real.exp (pre la (t + 1) - pre la e) * (c t * y t) := by
    rw [sum_Ico_eq_sum_range]; simp
  have h2 : dstate N la c y (e + k) * Real.exp (pre la (e + k) - pre la e)
      = ∑ t ∈ Ico (e + k) N, Real.exp (pre la (t + 1) - pre la e) * (c t * y t) := by
    rw [dstate, sum_mul]
    refine sum_congr rfl fun t _ => ?_
    have : Real.exp (pre la (t + 1) - pre la e)
        = Real.exp (pre la (t + 1) - pre la (e + k)) * Real.exp (pre la (e + k) - pre la e) := by
      rw [← Real.exp_add]; congr 1; ring
    rw [this]; ring
  rw [h1, h2, dstate, add_comm, sum_Ico_consecutive _ (by omega) h]

variable {n : ℕ} (N : ℕ) (la : ℕ → ℝ) (b c : ℕ → Fin n → ℝ) (x y : ℕ → ℝ)

/-- The scores: step `t`'s row of `c` against step `s`'s row of `b`. -/
def score (t s : ℕ) : ℝ := ∑ j, c t j * b s j

/-- A later step's view of the state is the sum over the earlier steps. -/
theorem state_seen {t e : ℕ} (ht : e ≤ t) :
    Real.exp (pre la (t + 1) - pre la e) * ∑ j, c t j * state la (fun s => b s j) x e
      = ∑ s ∈ range e, wt la t s * score b c t s * x s := by
  simp only [state, mul_sum]
  rw [sum_comm]
  refine sum_congr rfl fun s hs => ?_
  rw [wt_cut la (mem_range.mp hs) ht, score, mul_sum, sum_mul]
  exact sum_congr rfl fun j _ => by ring

/-- An earlier step's view of the state's gradient is the sum over the later steps. -/
theorem dstate_seen {s e : ℕ} (hs : s < e) :
    Real.exp (pre la e - pre la (s + 1)) * ∑ j, b s j * dstate N la (fun t => c t j) y e
      = ∑ t ∈ Ico e N, wt la t s * score b c t s * y t := by
  simp only [dstate, mul_sum]
  rw [sum_comm]
  refine sum_congr rfl fun t ht => ?_
  rw [wt_cut la hs (mem_Ico.mp ht).1, score, mul_sum, sum_mul]
  exact sum_congr rfl fun j _ => by ring

/-- The state against its gradient a chunk later: the pairs of an earlier and a later step. -/
theorem state_dstate {e e' : ℕ} (h : e ≤ e') :
    Real.exp (pre la e' - pre la e) * ∑ j, dstate N la (fun t => c t j) y e' * state la (fun s => b s j) x e
      = ∑ t ∈ Ico e' N, ∑ s ∈ range e, wt la t s * score b c t s * (y t * x s) := by
  simp only [dstate, state, sum_mul_sum]
  simp only [mul_sum]
  refine sum_comm.trans (sum_congr rfl fun t ht => sum_comm.trans (sum_congr rfl fun s hs => ?_))
  have hs' := mem_range.mp hs
  have ht' := (mem_Ico.mp ht).1
  have : wt la t s = Real.exp (pre la e' - pre la e) * (Real.exp (pre la (t + 1) - pre la e') * Real.exp (pre la e - pre la (s + 1))) := by
    rw [wt_cut la (show s < e' by omega) ht', ← Real.exp_add, ← Real.exp_add, ← Real.exp_add]
    congr 1; ring
  rw [this, score, mul_sum, sum_mul]
  exact sum_congr rfl fun j _ => by ring

/-- The gradient of the log decays' running sums: what a step receives less what it gives. -/
def net (N : ℕ) (E : ℕ → ℕ → ℝ) (t : ℕ) : ℝ := ∑ s ∈ range N, E t s - ∑ t' ∈ range N, E t' t

/-- Summed from a step to the end, chunk by chunk: what the chunk's own steps exchange, what they receive from before the chunk, what
    they give after it, and everything that crosses the chunk's end. -/
theorem net_from (E : ℕ → ℕ → ℝ) (hE : ∀ t s, t < s → E t s = 0) {e e' u : ℕ} (hu : e ≤ u) (hu' : u ≤ e') (he : e' ≤ N) :
    (∑ t ∈ Ico u e', (∑ s ∈ Ico e e', E t s - ∑ t' ∈ Ico e e', E t' t + (∑ s ∈ range e, E t s - ∑ t' ∈ Ico e' N, E t' t)))
        + ∑ t ∈ Ico e' N, ∑ s ∈ range e', E t s
      = ∑ t ∈ Ico u N, net N E t := by
  rw [← sum_Ico_consecutive _ hu' he]
  congr 1
  · refine sum_congr rfl fun t ht => ?_
    have ht' := mem_Ico.mp ht
    have h1 : ∑ s ∈ range N, E t s = ∑ s ∈ range e, E t s + ∑ s ∈ Ico e e', E t s := by
      rw [range_eq_Ico, range_eq_Ico, sum_Ico_consecutive _ (by omega) (by omega), ← sum_Ico_consecutive _ (Nat.zero_le e') he,
        sum_eq_zero (s := Ico e' N) fun s hs => hE t s (lt_of_lt_of_le ht'.2 (mem_Ico.mp hs).1), add_zero]
    have h2 : ∑ t' ∈ range N, E t' t = ∑ t' ∈ Ico e e', E t' t + ∑ t' ∈ Ico e' N, E t' t := by
      rw [range_eq_Ico, sum_Ico_consecutive _ (by omega) (by omega), ← sum_Ico_consecutive _ (Nat.zero_le e) (by omega : e ≤ N),
        sum_eq_zero (s := Ico 0 e) fun s hs => hE s t (by have := mem_Ico.mp hs; omega), zero_add]
    rw [net, h1, h2]; ring
  · have h3 : ∀ t ∈ Ico e' N, net N E t
        = (∑ s ∈ range e', E t s) + (∑ s ∈ Ico e' N, E t s - ∑ t' ∈ Ico e' N, E t' t) := fun t ht => by
      have ht' := mem_Ico.mp ht
      rw [net, range_eq_Ico, range_eq_Ico, ← sum_Ico_consecutive _ (Nat.zero_le e') he, ← sum_Ico_consecutive (fun t' => E t' t) (Nat.zero_le e') he,
        sum_eq_zero (s := Ico 0 e') (f := fun t' => E t' t) fun s hs => hE s t (by have := mem_Ico.mp hs; omega)]
      ring
    rw [sum_congr rfl h3, sum_add_distrib, sum_sub_distrib, sum_comm (s := Ico e' N) (t := Ico e' N) (f := fun t t' => E t' t)]
    ring

end Cert.Recurrence
-- ==== Proof.SsdWhole.lean ====
/- The recurrence's gradient over whole sequences of real numbers, as the reference takes it: every step against every earlier step. -/
module

public import proofs.«01_k».proof.Proof.Recurrence

@[expose] public section

noncomputable section

namespace Cert.Ssd

open Finset Cert.Recurrence

/-- The operands, as real numbers: the convolved projections, the step sizes, the decay rates' logarithms, the gradient at the output
    and the skip weights. -/
structure Whole where
  X : ℕ → ℕ → ℝ
  Dt : ℕ → ℕ → ℝ
  Al : ℕ → ℝ
  Dy : ℕ → ℕ → ℝ
  Sk : ℕ → ℝ

namespace Whole

variable (W : Whole)

/-- Head `h`'s decay rate. -/
def a (h : ℕ) : ℝ := -Real.exp (W.Al h)
/-- The log decays of head `h`, in sequence `q`. -/
def la (q h t : ℕ) : ℝ := W.Dt (4096 * q + t) h * W.a h
def x (q h p t : ℕ) : ℝ := W.X (4096 * q + t) (64 * h + p)
def xd (q h p t : ℕ) : ℝ := W.x q h p t * W.Dt (4096 * q + t) h
def b (q g s j : ℕ) : ℝ := W.X (4096 * q + s) (2048 + 128 * g + j)
def c (q g t j : ℕ) : ℝ := W.X (4096 * q + t) (2560 + 128 * g + j)
def y (q h p t : ℕ) : ℝ := W.Dy (4096 * q + t) (64 * h + p)
/-- Step `t`'s row of `c` against step `s`'s row of `b`. -/
def sc (q g t s : ℕ) : ℝ := ∑ j ∈ range 128, W.c q g t j * W.b q g s j
/-- The weight of step `s` in step `t`. -/
def w (q h t s : ℕ) : ℝ := wt (W.la q h) t s
def dm (q h t s : ℕ) : ℝ := ∑ p ∈ range 64, W.y q h p t * W.xd q h p s
/-- The gradient at `x` times its step size. -/
def dxd (q h p s : ℕ) : ℝ := ∑ t ∈ range 4096, W.y q h p t * (W.sc q (h / 8) t s * W.w q h t s)
/-- The gradient at the scores of a group of eight heads. -/
def dsc (q g t s : ℕ) : ℝ := ∑ r ∈ range 8, W.dm q (8 * g + r) t s * W.w q (8 * g + r) t s
/-- What steps `t` and `s` exchange. -/
def E (q h t s : ℕ) : ℝ := W.sc q (h / 8) t s * W.dm q h t s * W.w q h t s
/-- The gradient at the log decays. -/
def dla (q h u : ℕ) : ℝ := ∑ t ∈ Ico u 4096, net 4096 (W.E q h) t
def db (q g s j : ℕ) : ℝ := ∑ t ∈ range 4096, W.dsc q g t s * W.c q g t j
def dc (q g t j : ℕ) : ℝ := ∑ s ∈ range 4096, W.dsc q g t s * W.b q g s j

/-- The gradient at row `i`, column `k` of the convolved projections. -/
def dX (i k : ℕ) : ℝ :=
  if k < 2048 then W.Sk k * W.Dy i k + W.dxd (i / 4096) (k / 64) (k % 64) (i % 4096) * W.Dt i (k / 64)
  else if k < 2560 then W.db (i / 4096) ((k - 2048) / 128) (i % 4096) ((k - 2048) % 128)
  else W.dc (i / 4096) ((k - 2560) / 128) (i % 4096) ((k - 2560) % 128)
/-- The gradient at the step sizes. -/
def dDt (i h : ℕ) : ℝ :=
  if h < 32 then (∑ p ∈ range 64, W.x (i / 4096) h p (i % 4096) * W.dxd (i / 4096) h p (i % 4096)) + W.dla (i / 4096) h (i % 4096) * W.a h else 0
/-- The gradient at the decay rates. -/
def dA (h : ℕ) : ℝ := if h < 32 then ∑ q ∈ range 2, ∑ t ∈ range 4096, W.Dt (4096 * q + t) h * W.dla q h t else 0

theorem E_of_lt (q h t s : ℕ) (hs : t < s) : W.E q h t s = 0 := by rw [E, w, wt_of_lt hs, mul_zero]

end Whole

end Cert.Ssd
-- ==== Proof.SsdReal.lean ====
/- Blocks of real numbers: every operation of the recurrence's gradient, applied to blocks of real numbers, gives a block of real numbers,
   and which one. -/
module

public import Idealize.ShloMosaic.Lib.Pointwise
public import proofs.«01_k».proof.Proof.Gen.KernelIdeal.Skeleton

@[expose] public section

set_option maxRecDepth 16384

noncomputable section

namespace Cert.KernelIdeal.Hand

open Cert.KernelIdeal Cert.KernelIdeal.Gen Idealize.ShloMosaic Idealize.ShloMosaic.TcCoe Finset

/-- The `a` by `b` block of the real numbers `f i j`. -/
def mat {a b : ℕ} {w : FTy} (f : ℕ → ℕ → ℝ) : FVec Ideal ⟨2, ![a, b]⟩ w := fun i => ((f (i 0).val (i 1).val : ℝ) : EReal)

variable {a b : ℕ} {w : FTy} (f g : ℕ → ℕ → ℝ)

theorem mat_congr {f g : ℕ → ℕ → ℝ} (h : ∀ i < a, ∀ j < b, f i j = g i j) : (mat f : FVec Ideal ⟨2, ![a, b]⟩ w) = mat g :=
  funext fun i => congrArg (fun r : ℝ => (r : EReal)) (h _ (i 0).isLt _ (i 1).isLt)

/-- A sum of real numbers over places below `n`. -/
theorem coe_sum {n : ℕ} (F : ℕ → ℝ) : (∑ k : Fin n, ((F k.val : ℝ) : EReal)) = ((∑ k ∈ range n, F k : ℝ) : EReal) := by
  rw [← Fin.sum_univ_eq_sum_range]
  induction n with
  | zero => simp
  | succ n ih =>
    rw [Fin.sum_univ_castSucc, Fin.sum_univ_castSucc, EReal.coe_add]
    exact congrArg (· + ((F n : ℝ) : EReal)) ih

theorem mulf_mat : mulf (mat f : FVec Ideal ⟨2, ![a, b]⟩ w) (mat g) = mat fun i j => f i j * g i j :=
  funext fun _ => (EReal.coe_mul _ _).symm
theorem addf_mat : addf (mat f : FVec Ideal ⟨2, ![a, b]⟩ w) (mat g) = mat fun i j => f i j + g i j :=
  funext fun _ => (EReal.coe_add _ _).symm
theorem subf_mat : subf (mat f : FVec Ideal ⟨2, ![a, b]⟩ w) (mat g) = mat fun i j => f i j - g i j :=
  funext fun _ => (EReal.coe_sub _ _).symm
theorem exp_mat : exp (mat f : FVec Ideal ⟨2, ![a, b]⟩ w) = mat fun i j => Real.exp (f i j) :=
  funext fun _ => rfl
theorem truncf_mat (h) : truncf .bf16 (mat f : FVec Ideal ⟨2, ![a, b]⟩ .f32) h = mat f := rfl
theorem extf_mat (h) : extf .f32 (mat f : FVec Ideal ⟨2, ![a, b]⟩ .bf16) h = mat f := rfl
theorem slice_mat {c d p q : ℕ} (h) :
    extractStridedSlice ⟨2, ![c, d]⟩ ![p, q] (mat f : FVec Ideal ⟨2, ![a, b]⟩ w) h = mat fun i j => f (p + i) (q + j) := rfl
theorem cast_mat (h) : shapeCast ⟨2, ![a, b]⟩ (mat f : FVec Ideal ⟨2, ![a, b]⟩ w) h = mat f := by
  funext i; pointwise
theorem row_mat (h) : broadcastTo ⟨2, ![a, b]⟩ (mat f : FVec Ideal ⟨2, ![1, b]⟩ w) h = mat fun _ j => f 0 j := by
  funext i
  refine congrArg (fun r : ℝ => (r : EReal)) (congrArg₂ f rfl ?_)
  have := (i 1).isLt
  show (if h : b = 1 then (⟨0, _⟩ : Fin b) else ⟨(i 1).val, _⟩).val = (i 1).val
  split_ifs with hb
  · subst hb; exact (Nat.lt_one_iff.mp this).symm
  · rfl
theorem col_mat (h) : broadcastTo ⟨2, ![a, b]⟩ (mat f : FVec Ideal ⟨2, ![a, 1]⟩ w) h = mat fun i _ => f i 0 := by
  funext i
  refine congrArg (fun r : ℝ => (r : EReal)) (congrArg₂ f ?_ rfl)
  have := (i 0).isLt
  show (if h : a = 1 then (⟨0, _⟩ : Fin a) else ⟨(i 0).val, _⟩).val = (i 0).val
  split_ifs with hb
  · subst hb; exact (Nat.lt_one_iff.mp this).symm
  · rfl
theorem zero_mat : (broadcast ⟨2, ![a, b]⟩ (Scalar.ofBits .f32 0x00000000#32) : FVec Ideal ⟨2, ![a, b]⟩ .f32) = mat fun _ _ => 0 := by
  funext i; simp [broadcast, mat]

theorem one_mat : (broadcast ⟨2, ![a, b]⟩ (Scalar.ofBits .f32 0x3F800000#32) : FVec Ideal ⟨2, ![a, b]⟩ .f32) = mat fun _ _ => 1 := by
  funext i; simp [broadcast, mat]

/-! ## Products -/

theorem mul_sum_coe {n : ℕ} (F G : ℕ → ℝ) :
    (∑ k : Fin n, ((F k.val : ℝ) : EReal) * ((G k.val : ℝ) : EReal)) = ((∑ k ∈ range n, F k * G k : ℝ) : EReal) := by
  rw [← coe_sum]
  exact Fintype.sum_congr _ _ fun k => (EReal.coe_mul _ _).symm

theorem dot_S128x128_S128x128_S128x128_0_0_1_1 : matmul dot_S128x128_S128x128_S128x128_0_0_1_1_n_n none (mat f : FVec Ideal S128x128 .bf16) (mat g : FVec Ideal S128x128 .bf16)
    (constant S128x128 .f32 0x00000000#32) = mat fun i j => ∑ k ∈ range 128, f k i * g k j := by
  funext i; pointwise; exact mul_sum_coe (fun k => f k (i 0).val) fun k => g k (i 1).val
theorem dot_S128x128_S128x128_S128x128_0_1_1_0 : matmul dot_S128x128_S128x128_S128x128_0_1_1_0_n_n none (mat f : FVec Ideal S128x128 .bf16) (mat g : FVec Ideal S128x128 .bf16)
    (constant S128x128 .f32 0x00000000#32) = mat fun i j => ∑ k ∈ range 128, f k i * g j k := by
  funext i; pointwise; exact mul_sum_coe (fun k => f k (i 0).val) fun k => g (i 1).val k
theorem dot_S128x128_S128x128_S128x128_1_0_0_1 : matmul dot_S128x128_S128x128_S128x128_1_0_0_1_n_n none (mat f : FVec Ideal S128x128 .bf16) (mat g : FVec Ideal S128x128 .bf16)
    (constant S128x128 .f32 0x00000000#32) = mat fun i j => ∑ k ∈ range 128, f i k * g k j := by
  funext i; pointwise; exact mul_sum_coe (fun k => f (i 0).val k) fun k => g k (i 1).val
theorem dot_S128x128_S128x128_S128x128_1_1_0_0 : matmul dot_S128x128_S128x128_S128x128_1_1_0_0_n_n none (mat f : FVec Ideal S128x128 .bf16) (mat g : FVec Ideal S128x128 .bf16)
    (constant S128x128 .f32 0x00000000#32) = mat fun i j => ∑ k ∈ range 128, f i k * g j k := by
  funext i; pointwise; exact mul_sum_coe (fun k => f (i 0).val k) fun k => g (i 1).val k
theorem dot_S128x128_S128x512_S128x512_0_0_1_1 : matmul dot_S128x128_S128x512_S128x512_0_0_1_1_n_n none (mat f : FVec Ideal S128x128 .bf16) (mat g : FVec Ideal S128x512 .bf16)
    (constant S128x512 .f32 0x00000000#32) = mat fun i j => ∑ k ∈ range 128, f k i * g k j := by
  funext i; pointwise; exact mul_sum_coe (fun k => f k (i 0).val) fun k => g k (i 1).val
theorem dot_S128x128_S128x512_S128x512_1_0_0_1 : matmul dot_S128x128_S128x512_S128x512_1_0_0_1_n_n none (mat f : FVec Ideal S128x128 .bf16) (mat g : FVec Ideal S128x512 .bf16)
    (constant S128x512 .f32 0x00000000#32) = mat fun i j => ∑ k ∈ range 128, f i k * g k j := by
  funext i; pointwise; exact mul_sum_coe (fun k => f (i 0).val k) fun k => g k (i 1).val
theorem dot_S128x128_S128x64_S128x64_0_0_1_1 : matmul dot_S128x128_S128x64_S128x64_0_0_1_1_n_n none (mat f : FVec Ideal S128x128 .bf16) (mat g : FVec Ideal S128x64 .bf16)
    (constant S128x64 .f32 0x00000000#32) = mat fun i j => ∑ k ∈ range 128, f k i * g k j := by
  funext i; pointwise; exact mul_sum_coe (fun k => f k (i 0).val) fun k => g k (i 1).val
theorem dot_S128x2048_S2048x128_S128x128_1_0_0_1 : matmul dot_S128x2048_S2048x128_S128x128_1_0_0_1_n_n none (mat f : FVec Ideal S128x2048 .bf16) (mat g : FVec Ideal S2048x128 .bf16)
    (constant S128x128 .f32 0x00000000#32) = mat fun i j => ∑ k ∈ range 2048, f i k * g k j := by
  funext i; pointwise; exact mul_sum_coe (fun k => f (i 0).val k) fun k => g k (i 1).val
theorem dot_S128x32_S32x2048_S128x2048_1_0_0_1 : matmul dot_S128x32_S32x2048_S128x2048_1_0_0_1_n_n none (mat f : FVec Ideal S128x32 .bf16) (mat g : FVec Ideal S32x2048 .bf16)
    (constant S128x2048 .f32 0x00000000#32) = mat fun i j => ∑ k ∈ range 32, f i k * g k j := by
  funext i; pointwise; exact mul_sum_coe (fun k => f (i 0).val k) fun k => g k (i 1).val
theorem dot_S128x512_S128x512_S128x128_1_1_0_0 : matmul dot_S128x512_S128x512_S128x128_1_1_0_0_n_n none (mat f : FVec Ideal S128x512 .bf16) (mat g : FVec Ideal S128x512 .bf16)
    (constant S128x128 .f32 0x00000000#32) = mat fun i j => ∑ k ∈ range 512, f i k * g j k := by
  funext i; pointwise; exact mul_sum_coe (fun k => f (i 0).val k) fun k => g (i 1).val k
theorem dot_S128x64_S128x64_S128x128_1_1_0_0 : matmul dot_S128x64_S128x64_S128x128_1_1_0_0_n_n none (mat f : FVec Ideal S128x64 .bf16) (mat g : FVec Ideal S128x64 .bf16)
    (constant S128x128 .f32 0x00000000#32) = mat fun i j => ∑ k ∈ range 64, f i k * g j k := by
  funext i; pointwise; exact mul_sum_coe (fun k => f (i 0).val k) fun k => g (i 1).val k
theorem dot_S8x2048_S2048x128_S8x128_1_0_0_1 : matmul dot_S8x2048_S2048x128_S8x128_1_0_0_1_n_n none (mat f : FVec Ideal S8x2048 .bf16) (mat g : FVec Ideal S2048x128 .bf16)
    (constant S8x128 .f32 0x00000000#32) = mat fun i j => ∑ k ∈ range 2048, f i k * g k j := by
  funext i; pointwise; exact mul_sum_coe (fun k => f (i 0).val k) fun k => g k (i 1).val

/-! ## Sums along an axis -/

theorem sum_row_mat (h h') : shapeCast S128x1 (multiReduction .add [1] S128 (mat f : FVec Ideal S128x128 .f32) 0x00000000#32 h (.inl rfl) rfl) h'
    = mat fun i _ => ∑ k ∈ range 128, f i k := by
  funext i; pointwise; exact coe_sum fun k => f (i 0).val k
theorem sum_col_mat (h h') : shapeCast S1x128 (multiReduction .add [0] S128 (mat f : FVec Ideal S128x128 .f32) 0x00000000#32 h (.inl rfl) rfl) h'
    = mat fun _ j => ∑ k ∈ range 128, f k j := by
  funext i; pointwise; exact coe_sum fun k => f k (i 1).val
theorem sum_col512_mat (h h') : shapeCast S1x512 (multiReduction .add [0] S512 (mat f : FVec Ideal S128x512 .f32) 0x00000000#32 h (.inl rfl) rfl) h'
    = mat fun _ j => ∑ k ∈ range 128, f k j := by
  funext i; pointwise; exact coe_sum fun k => f k (i 1).val
theorem transpose_mat (h) : transpose S128x128 [1, 0] (mat f : FVec Ideal S128x128 .f32) h = mat fun i j => f j i := by
  funext i; pointwise; rfl

/-! ## Masks -/

theorem sle_small {p q : ℕ} (hp : p < 128) (hq : q < 128) :
    IntOp.cmpi .sle (BitVec.ofNat 32 p) (BitVec.ofNat 32 q) = if p ≤ q then 1#1 else 0#1 :=
  (by decide +kernel : ∀ p q : Fin 128, IntOp.cmpi .sle (BitVec.ofNat 32 p.val) (BitVec.ofNat 32 q.val) = if p.val ≤ q.val then 1#1 else 0#1) ⟨p, hp⟩ ⟨q, hq⟩
theorem eq_small {p q : ℕ} (hp : p < 128) (hq : q < 128) :
    IntOp.cmpi .eq (BitVec.ofNat 32 p) (BitVec.ofNat 32 q) = if p = q then 1#1 else 0#1 :=
  (by decide +kernel : ∀ p q : Fin 128, IntOp.cmpi .eq (BitVec.ofNat 32 p.val) (BitVec.ofNat 32 q.val) = if p.val = q.val then 1#1 else 0#1) ⟨p, hp⟩ ⟨q, hq⟩
theorem sge_small {p q : ℕ} (hp : p < 128) (hq : q < 128) :
    IntOp.cmpi .sge (BitVec.ofNat 32 p) (BitVec.ofNat 32 q) = if q ≤ p then 1#1 else 0#1 :=
  (by decide +kernel : ∀ p q : Fin 128, IntOp.cmpi .sge (BitVec.ofNat 32 p.val) (BitVec.ofNat 32 q.val) = if q.val ≤ p.val then 1#1 else 0#1) ⟨p, hp⟩ ⟨q, hq⟩

/-- A block whose masked places are replaced. -/
theorem select_mat {M : IVec ⟨2, ![a, b]⟩ 1} {P : ℕ → ℕ → Prop} [∀ i j, Decidable (P i j)]
    (hM : ∀ i, M i = if P (i 0).val (i 1).val then 1#1 else 0#1) :
    select M (mat f : FVec Ideal ⟨2, ![a, b]⟩ w) (mat g) = mat fun i j => if P i j then f i j else g i j := by
  funext i
  show (if M i = 1#1 then _ else _) = _
  rw [hM]
  by_cases h : P (i 0).val (i 1).val <;> simp [h, mat]

theorem lower_apply (i : S128x128.Idx) : k0_pay9 i = if (i 1).val ≤ (i 0).val then 1#1 else 0#1 := by
  unfold k0_pay9; pointwise; exact sle_small (i 1).isLt (i 0).isLt

theorem tri_mat : (k0_pay10 : FVec Ideal S128x128 .bf16) = mat fun i j => if j ≤ i then 1 else 0 := by
  unfold k0_pay10
  simp only [one_mat, zero_mat]
  rw [select_mat (P := fun i j => j ≤ i) _ _ lower_apply, truncf_mat]

/-- The decays: above the diagonal, where the exponent is replaced by minus infinity, zero. -/
theorem dec_mat : exp (select k0_pay9 (mat f : FVec Ideal S128x128 .f32) (broadcast S128x128 (Named.named κ "mask" 0xF149F2CA#32)))
    = mat fun i j => if j ≤ i then Real.exp (f i j) else 0 := by
  funext i
  show Ideal.exp (if k0_pay9 i = 1#1 then _ else _) = _
  rw [lower_apply]
  by_cases h : (i 1).val ≤ (i 0).val
  · simp [h, mat]
  · rw [if_neg (by simp [h])]
    show Ideal.exp ⊥ = _
    simp [h, mat]

theorem lane_mat {n : ℕ} (hn : n < 128) :
    select (cmpi .eq (iota .tc S128x128 32 [1] iota_S128x128_d1_w32) (broadcast S128x128 (BitVec.ofNat 32 n))) (mat f : FVec Ideal S128x128 .f32) (mat g)
      = mat fun i j => if j = n then f i j else g i j :=
  select_mat (P := fun _ j => j = n) _ _ fun i => by pointwise; exact eq_small (i 1).isLt hn
theorem sublane_mat {n : ℕ} (hn : n < 128) :
    select (cmpi .eq (iota .tc S128x128 32 [0] iota_S128x128_d0_w32) (broadcast S128x128 (BitVec.ofNat 32 n))) (mat f : FVec Ideal S128x128 .f32) (mat g)
      = mat fun i j => if i = n then f i j else g i j :=
  select_mat (P := fun i _ => i = n) _ _ fun i => by pointwise; exact eq_small (i 0).isLt hn
theorem upper_mat :
    select (cmpi .sge (iota .tc S128x128 32 [1] iota_S128x128_d1_w32) (iota .tc S128x128 32 [0] iota_S128x128_d0_w32)) (mat f : FVec Ideal S128x128 .f32) (mat g)
      = mat fun i j => if i ≤ j then f i j else g i j :=
  select_mat (P := fun i j => i ≤ j) _ _ fun i => by pointwise; exact sge_small (i 1).isLt (i 0).isLt

end Cert.KernelIdeal.Hand
-- ==== Proof.Running.lean ====
/- Running sums along the time axis, and padded columns, of real numbers, as the host takes them. -/
module

public import proofs.«01_k».proof.Proof.SsdReal

@[expose] public section

noncomputable section

namespace Cert.Running

open Idealize.ShloMosaic Finset

/-- A sum whose terms are real numbers. -/
theorem sum_coe {n : ℕ} {f : Fin n → EReal} (F : ℕ → ℝ) (h : ∀ k, f k = ((F k.val : ℝ) : EReal)) :
    ∑ k, f k = ((∑ k ∈ range n, F k : ℝ) : EReal) :=
  (sum_congr rfl fun k _ => h k).trans (Cert.KernelIdeal.Hand.coe_sum F)

theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

abbrev T : Shape := ⟨4, ![2, 4096, 4, 8]⟩

variable {x : T.Idx → EReal} (f : ℕ → ℕ → ℕ → ℕ → ℝ)

/-- A window as long as the time axis, padded by `lo` steps before it. -/
theorem window (lo hi : ℕ) (hx : ∀ i, x i = ((f (i 0).val (i 1).val (i 2).val (i 3).val : ℝ) : EReal))
    (h : T.ReduceWindows (![1, 4096, 1, 1] : Fin 4 → ℕ) ![1, 1, 1, 1] ![0, lo, 0, 0] ![0, hi, 0, 0] T) (i : T.Idx) :
    Ideal.hostReduceWindowAdd (![1, 4096, 1, 1] : Fin 4 → ℕ) ![1, 1, 1, 1] ![0, lo, 0, 0] ![0, hi, 0, 0] h x 0 i
      = ((∑ k ∈ range 4096, if lo ≤ (i 1).val + k ∧ (i 1).val + k - lo < 4096
            then f (i 0).val ((i 1).val + k - lo) (i 2).val (i 3).val else 0 : ℝ) : EReal) := by
  unfold Ideal.hostReduceWindowAdd Host.reduceWindow
  refine (foldl_add _ _ _).trans ?_
  rw [zero_add, ← Fin.sum_univ_def]
  have bij : Function.Bijective (fun w : (⟨4, ![1, 4096, 1, 1]⟩ : Shape).Idx => (⟨(w 1).val, (w 1).isLt⟩ : Fin 4096)) := ⟨by
    intro w w' hw
    funext a
    match a with
    | ⟨0, _⟩ => exact Subsingleton.elim (α := Fin 1) _ _
    | ⟨1, _⟩ => exact Fin.ext (congrArg Fin.val hw)
    | ⟨2, _⟩ => exact Subsingleton.elim (α := Fin 1) _ _
    | ⟨3, _⟩ => exact Subsingleton.elim (α := Fin 1) _ _
    , fun k => ⟨fun a => match a with
      | ⟨0, _⟩ => (0 : Fin 1)
      | ⟨1, _⟩ => k
      | ⟨2, _⟩ => (0 : Fin 1)
      | ⟨3, _⟩ => (0 : Fin 1), rfl⟩⟩
  refine (Fintype.sum_bijective (fun n => (⟨((Shape.rowMajor (⟨4, ![1, 4096, 1, 1]⟩ : Shape)).symm n 1).val, ((Shape.rowMajor (⟨4, ![1, 4096, 1, 1]⟩ : Shape)).symm n 1).isLt⟩ : Fin 4096))
    (bij.comp (Shape.rowMajor (⟨4, ![1, 4096, 1, 1]⟩ : Shape)).symm.bijective) _ _ fun n => ?_).trans
    (sum_coe (f := fun k => ((if lo ≤ (i 1).val + k.val ∧ (i 1).val + k.val - lo < 4096
            then f (i 0).val ((i 1).val + k.val - lo) (i 2).val (i 3).val else 0 : ℝ) : EReal)) _ fun _ => rfl)
  · let w := (Shape.rowMajor (⟨4, ![1, 4096, 1, 1]⟩ : Shape)).symm n
    have w0 : (w 0).val < 1 := (w 0).isLt
    have w1 : (w 1).val < 4096 := (w 1).isLt
    have w2 : (w 2).val < 1 := (w 2).isLt
    have w3 : (w 3).val < 1 := (w 3).isLt
    have i0 : (i 0).val < 2 := (i 0).isLt
    have i2 : (i 2).val < 4 := (i 2).isLt
    have i3 : (i 3).val < 8 := (i 3).isLt
    by_cases hin : lo ≤ (i 1).val + (w 1).val ∧ (i 1).val + (w 1).val - lo < 4096
    · rw [dif_pos (fun a => by
        match a with
        | ⟨0, _⟩ => show 0 ≤ (i 0).val * 1 + (w 0).val ∧ (i 0).val * 1 + (w 0).val - 0 < 2; omega
        | ⟨1, _⟩ => show lo ≤ (i 1).val * 1 + (w 1).val ∧ (i 1).val * 1 + (w 1).val - lo < 4096; omega
        | ⟨2, _⟩ => show 0 ≤ (i 2).val * 1 + (w 2).val ∧ (i 2).val * 1 + (w 2).val - 0 < 4; omega
        | ⟨3, _⟩ => show 0 ≤ (i 3).val * 1 + (w 3).val ∧ (i 3).val * 1 + (w 3).val - 0 < 8; omega), hx]
      have e0 : (i 0).val * 1 + (w 0).val - 0 = (i 0).val := by omega
      have e1 : (i 1).val * 1 + (w 1).val - lo = (i 1).val + (w 1).val - lo := by omega
      have e2 : (i 2).val * 1 + (w 2).val - 0 = (i 2).val := by omega
      have e3 : (i 3).val * 1 + (w 3).val - 0 = (i 3).val := by omega
      show ((f ((i 0).val * 1 + (w 0).val - 0) ((i 1).val * 1 + (w 1).val - lo) ((i 2).val * 1 + (w 2).val - 0) ((i 3).val * 1 + (w 3).val - 0) : ℝ) : EReal)
        = ((if lo ≤ (i 1).val + (w 1).val ∧ (i 1).val + (w 1).val - lo < 4096 then f (i 0).val ((i 1).val + (w 1).val - lo) (i 2).val (i 3).val else 0 : ℝ) : EReal)
      rw [e0, e1, e2, e3, if_pos hin]
    · rw [dif_neg fun ha => hin (by
        have h1 := ha 1
        change lo ≤ (i 1).val * 1 + (w 1).val ∧ (i 1).val * 1 + (w 1).val - lo < 4096 at h1
        omega)]
      show (0 : EReal) = ((if lo ≤ (i 1).val + (w 1).val ∧ (i 1).val + (w 1).val - lo < 4096 then f (i 0).val ((i 1).val + (w 1).val - lo) (i 2).val (i 3).val else 0 : ℝ) : EReal)
      rw [if_neg hin]
      rfl

/-- The sum up to and with a step. -/
theorem upto (hx : ∀ i, x i = ((f (i 0).val (i 1).val (i 2).val (i 3).val : ℝ) : EReal)) {u : Shape} {init : u.Idx → EReal} (hinit : ∀ j, init j = 0)
    (h : T.ReduceWindows (![1, 4096, 1, 1] : Fin 4 → ℕ) ![1, 1, 1, 1] ![0, 4095, 0, 0] ![0, 0, 0, 0] T) (hu) (i : T.Idx) :
    Host.reduceWindowAdd (F := Ideal) (φ := .f32) (![1, 4096, 1, 1] : Fin 4 → ℕ) ![1, 1, 1, 1] ![0, 4095, 0, 0] ![0, 0, 0, 0] x init h hu i
      = ((∑ k ∈ range ((i 1).val + 1), f (i 0).val k (i 2).val (i 3).val : ℝ) : EReal) := by
  have i1 : (i 1).val < 4096 := (i 1).isLt
  have key := window f 4095 0 hx h i
  rw [← hinit (Shape.Idx.first hu)] at key
  unfold Host.reduceWindowAdd
  refine key.trans ?_
  refine congrArg (fun r : ℝ => (r : EReal)) ?_
  rw [show range 4096 = range ((4095 - (i 1).val) + ((i 1).val + 1)) from congrArg range (by omega), sum_range_add]
  rw [sum_eq_zero fun k hk => if_neg (by have := mem_range.mp hk; omega), zero_add]
  refine sum_congr rfl fun k hk => ?_
  have := mem_range.mp hk
  rw [if_pos (by omega), show (i 1).val + (4095 - (i 1).val + k) - 4095 = k by omega]

/-- The sum from a step on. -/
theorem from_ (hx : ∀ i, x i = ((f (i 0).val (i 1).val (i 2).val (i 3).val : ℝ) : EReal)) {u : Shape} {init : u.Idx → EReal} (hinit : ∀ j, init j = 0)
    (h : T.ReduceWindows (![1, 4096, 1, 1] : Fin 4 → ℕ) ![1, 1, 1, 1] ![0, 0, 0, 0] ![0, 4095, 0, 0] T) (hu) (i : T.Idx) :
    Host.reduceWindowAdd (F := Ideal) (φ := .f32) (![1, 4096, 1, 1] : Fin 4 → ℕ) ![1, 1, 1, 1] ![0, 0, 0, 0] ![0, 4095, 0, 0] x init h hu i
      = ((∑ k ∈ Ico (i 1).val 4096, f (i 0).val k (i 2).val (i 3).val : ℝ) : EReal) := by
  have i1 : (i 1).val < 4096 := (i 1).isLt
  have key := window f 0 4095 hx h i
  rw [← hinit (Shape.Idx.first hu)] at key
  unfold Host.reduceWindowAdd
  refine key.trans ?_
  refine congrArg (fun r : ℝ => (r : EReal)) ?_
  rw [sum_Ico_eq_sum_range, show range 4096 = range ((4096 - (i 1).val) + (i 1).val) from congrArg range (by omega), sum_range_add]
  rw [sum_eq_zero (s := range (i 1).val) fun k hk => if_neg (by omega), add_zero]
  refine sum_congr rfl fun k hk => ?_
  have := mem_range.mp hk
  rw [if_pos (by omega)]
  rfl

/-- Columns with zeros before and after them. -/
theorem pad_cols {a b n lo hi : ℕ} {x : (⟨2, ![a, b]⟩ : Shape).Idx → EReal} (f : ℕ → ℕ → ℝ) (hx : ∀ i, x i = ((f (i 0).val (i 1).val : ℝ) : EReal))
    {u : Shape} {v : u.Idx → EReal} (hv : ∀ j, v j = 0) (h : (⟨2, ![a, b]⟩ : Shape).Pads ![0, lo] ![0, hi] ![0, 0] ⟨2, ![a, n]⟩) (hu)
    (i : (⟨2, ![a, n]⟩ : Shape).Idx) :
    pad ⟨2, ![a, n]⟩ ![0, lo] ![0, hi] ![0, 0] x v h hu i
      = ((if lo ≤ (i 1).val ∧ (i 1).val - lo < b then f (i 0).val ((i 1).val - lo) else 0 : ℝ) : EReal) := by
  have i0 : (i 0).val < a := (i 0).isLt
  unfold pad
  by_cases hin : lo ≤ (i 1).val ∧ (i 1).val - lo < b
  · rw [dif_pos (fun k => by
      match k with
      | ⟨0, _⟩ => show 0 ≤ (i 0).val ∧ ((i 0).val - 0) % (0 + 1) = 0 ∧ ((i 0).val - 0) / (0 + 1) < a; omega
      | ⟨1, _⟩ => show lo ≤ (i 1).val ∧ ((i 1).val - lo) % (0 + 1) = 0 ∧ ((i 1).val - lo) / (0 + 1) < b; omega), hx, if_pos hin]
    show ((f (((i 0).val - 0) / (0 + 1)) (((i 1).val - lo) / (0 + 1)) : ℝ) : EReal) = _
    rw [Nat.sub_zero, zero_add, Nat.div_one, Nat.div_one]
  · rw [dif_neg fun ha => hin (by
      have h1 := ha 1
      change lo ≤ (i 1).val ∧ ((i 1).val - lo) % (0 + 1) = 0 ∧ ((i 1).val - lo) / (0 + 1) < b at h1
      omega), hv, if_neg hin]
    rfl

/-- Words of small numbers compare as the numbers. -/
theorem cmp_sle {p q : ℕ} (hp : p < 2 ^ 31) (hq : q < 2 ^ 31) :
    IntOp.cmpi .sle (BitVec.ofNat 32 p) (BitVec.ofNat 32 q) = if p ≤ q then 1#1 else 0#1 := by
  have e : ∀ n : ℕ, n < 2 ^ 31 → (BitVec.ofNat 32 n).toInt = n := fun n hn => by
    rw [BitVec.toInt_ofNat']; exact Int.bmod_eq_of_le (by omega) (by omega)
  simp only [IntOp.cmpi, BitVec.sle, e p hp, e q hq]
  by_cases h : p ≤ q <;> simp [h]
theorem cmp_slt {p q : ℕ} (hp : p < 2 ^ 31) (hq : q < 2 ^ 31) :
    IntOp.cmpi .slt (BitVec.ofNat 32 p) (BitVec.ofNat 32 q) = if p < q then 1#1 else 0#1 := by
  have e : ∀ n : ℕ, n < 2 ^ 31 → (BitVec.ofNat 32 n).toInt = n := fun n hn => by
    rw [BitVec.toInt_ofNat']; exact Int.bmod_eq_of_le (by omega) (by omega)
  simp only [IntOp.cmpi, BitVec.slt, e p hp, e q hq]
  by_cases h : p < q <;> simp [h]

end Cert.Running
-- ==== Proof.SsdReference.lean ====
/- The reference's operations on real operands, one after the other, as whole sequences of real numbers. -/
module

public import proofs.«01_k».proof.Proof.Gen.ReferenceIdeal.Read
public import proofs.«01_k».proof.Proof.SsdWhole
public import proofs.«01_k».proof.Proof.Running

@[expose] public section

set_option maxRecDepth 16384

noncomputable section

namespace Cert.ReferenceIdeal.Hand

open Cert.ReferenceIdeal Cert.ReferenceIdeal.Gen Cert.ReferenceIdeal.Read Idealize.ShloMosaic Finset Cert.Recurrence Cert.Ssd Cert.Running

variable (W : Whole)

/-! ## The operands -/

def ax : (⟨S8192x3072, .f32⟩ : BufTy).Contents (Elt Ideal) := fun i => ((W.X (i 0).val (i 1).val : ℝ) : EReal)
def adt : (⟨S8192x128, .f32⟩ : BufTy).Contents (Elt Ideal) := fun i => ((W.Dt (i 0).val (i 1).val : ℝ) : EReal)
def aal : (⟨S1x128, .f32⟩ : BufTy).Contents (Elt Ideal) := fun i => ((W.Al (i 1).val : ℝ) : EReal)
def ady : (⟨S8192x2048, .f32⟩ : BufTy).Contents (Elt Ideal) := fun i => ((W.Dy (i 0).val (i 1).val : ℝ) : EReal)
def ask : (⟨S1x2048, .f32⟩ : BufTy).Contents (Elt Ideal) := fun i => ((W.Sk (i 1).val : ℝ) : EReal)

/-- Equal real numbers are equal extended ones. -/
theorem real {r s : ℝ} (h : r = s) : (r : EReal) = (s : EReal) := congrArg _ h
theorem add_real {x y : EReal} {r s : ℝ} (h : x = r) (k : y = s) : FloatOps.addf (F := Ideal) (φ := .f32) x y = ((r + s : ℝ) : EReal) := by subst h k; exact (EReal.coe_add r s).symm
theorem sub_real {x y : EReal} {r s : ℝ} (h : x = r) (k : y = s) : FloatOps.subf (F := Ideal) (φ := .f32) x y = ((r - s : ℝ) : EReal) := by subst h k; exact (EReal.coe_sub r s).symm
theorem mul_real {x y : EReal} {r s : ℝ} (h : x = r) (k : y = s) : FloatOps.mulf (F := Ideal) (φ := .f32) x y = ((r * s : ℝ) : EReal) := by subst h k; exact (EReal.coe_mul r s).symm
theorem mul_real' {x y : EReal} {r s : ℝ} (h : x = r) (k : y = s) : x * y = ((r * s : ℝ) : EReal) := mul_real h k
/-- A sum from zero. -/
theorem zero_sum {n : ℕ} {z : EReal} {f : Fin n → EReal} {F : ℕ → ℝ} (hz : z = 0) (h : ∀ k, f k = ((F k.val : ℝ) : EReal)) :
    z + ∑ k, f k = ((∑ k ∈ range n, F k : ℝ) : EReal) := by rw [hz, zero_add]; exact sum_coe F h

theorem const_zero {s : Shape} (i : s.Idx) : (constant s FTy.f32 0x00000000#32 : FVec Ideal s .f32) i = 0 := by simp [constant]
theorem bits_zero : FloatOps.ofBits (F := Ideal) .f32 0x00000000#32 = (0 : EReal) := by simp
theorem bits_bot : FloatOps.ofBits (F := Ideal) .f32 0xFF800000#32 = (⊥ : EReal) := by
  show Ideal.ofBits .f32 0xFF800000#32 = ⊥; simp [Ideal.ofBits, Ideal.ieee]

theorem v3 (i) : val_main_v3 (F := Ideal) (ax W) i = ((W.x (i 0).val (8 * (i 2).val + (i 3).val) (i 4).val (i 1).val : ℝ) : EReal) := by
  have h2 : (i 2).val < 4 := (i 2).isLt
  have h3 : (i 3).val < 8 := (i 3).isLt
  have h4 : (i 4).val < 64 := (i 4).isLt
  rw [val_main_v3_apply, val_main_v2_apply]
  exact real (congrArg₂ W.X
    (show (((((i 0).val * 4096 + (i 1).val) * 4 + (i 2).val) * 8 + (i 3).val) * 64 + (i 4).val) / 2048 = 4096 * (i 0).val + (i 1).val by omega)
    (show (((((i 0).val * 4096 + (i 1).val) * 4 + (i 2).val) * 8 + (i 3).val) * 64 + (i 4).val) % 2048 = 64 * (8 * (i 2).val + (i 3).val) + (i 4).val by omega))

theorem v5 (i) : val_main_v5 (F := Ideal) (ax W) i = ((W.b (i 0).val (i 2).val (i 1).val (i 3).val : ℝ) : EReal) := by
  have h2 : (i 2).val < 4 := (i 2).isLt
  have h3 : (i 3).val < 128 := (i 3).isLt
  rw [val_main_v5_apply, val_main_v4_apply]
  exact real (congrArg₂ W.X
    (show ((((i 0).val * 4096 + (i 1).val) * 4 + (i 2).val) * 128 + (i 3).val) / 512 = 4096 * (i 0).val + (i 1).val by omega)
    (show 2048 + ((((i 0).val * 4096 + (i 1).val) * 4 + (i 2).val) * 128 + (i 3).val) % 512 = 2048 + 128 * (i 2).val + (i 3).val by omega))

theorem v7 (i) : val_main_v7 (F := Ideal) (ax W) i = ((W.c (i 0).val (i 2).val (i 1).val (i 3).val : ℝ) : EReal) := by
  have h2 : (i 2).val < 4 := (i 2).isLt
  have h3 : (i 3).val < 128 := (i 3).isLt
  rw [val_main_v7_apply, val_main_v6_apply]
  exact real (congrArg₂ W.X
    (show ((((i 0).val * 4096 + (i 1).val) * 4 + (i 2).val) * 128 + (i 3).val) / 512 = 4096 * (i 0).val + (i 1).val by omega)
    (show 2560 + ((((i 0).val * 4096 + (i 1).val) * 4 + (i 2).val) * 128 + (i 3).val) % 512 = 2560 + 128 * (i 2).val + (i 3).val by omega))

theorem v9 (i) : val_main_v9 (F := Ideal) (adt W) i = ((W.Dt (4096 * (i 0).val + (i 1).val) (8 * (i 2).val + (i 3).val) : ℝ) : EReal) := by
  have h2 : (i 2).val < 4 := (i 2).isLt
  have h3 : (i 3).val < 8 := (i 3).isLt
  rw [val_main_v9_apply, val_main_v8_apply]
  exact real (congrArg₂ W.Dt
    (show ((((i 0).val * 4096 + (i 1).val) * 4 + (i 2).val) * 8 + (i 3).val) / 32 = 4096 * (i 0).val + (i 1).val by omega)
    (show ((((i 0).val * 4096 + (i 1).val) * 4 + (i 2).val) * 8 + (i 3).val) % 32 = 8 * (i 2).val + (i 3).val by omega))

/-! ## The decays -/

theorem v13 (i) : val_main_v13 (F := Ideal) (aal W) i = ((W.a (8 * (i 2).val + (i 3).val) : ℝ) : EReal) := by
  have h2 : (i 2).val < 4 := (i 2).isLt
  have h3 : (i 3).val < 8 := (i 3).isLt
  rw [val_main_v13_apply, val_main_v12_apply, val_main_v11_apply, val_main_v10_apply, val_main_v1_apply, val_main_v0_apply]
  exact real (congrArg W.a (show ((i 2).val * 8 + (i 3).val) % 32 = 8 * (i 2).val + (i 3).val by omega))

theorem v15 (i) : val_main_v15 (F := Ideal) (adt W) (aal W) i = ((W.la (i 0).val (8 * (i 2).val + (i 3).val) (i 1).val : ℝ) : EReal) := by
  rw [val_main_v15_apply]
  exact mul_real (v9 W i) ((val_main_v14_apply _ i).trans (v13 W _))

theorem v16 (i) : val_main_v16 (F := Ideal) (adt W) (aal W) i = ((pre (W.la (i 0).val (8 * (i 2).val + (i 3).val)) ((i 1).val + 1) : ℝ) : EReal) := by
  unfold val_main_v16
  exact upto (fun q t g r => W.la q (8 * g + r) t) (v15 W) (init := val_main_call0_call0_v0 (F := Ideal)) (fun _ => bits_zero) _ _ i

theorem mask (i) : val_main_v26_1 (F := Ideal) i = if (i 2).val ≤ (i 1).val then 1#1 else 0#1 := by
  have h1 : (i 1).val < 4096 := (i 1).isLt
  have h2 : (i 2).val < 4096 := (i 2).isLt
  rw [val_main_v26_1_apply, val_main_v20_apply, val_main_v19_apply, val_main_v18_apply, val_main_v17_apply]
  exact cmp_sle (show (i 2).val < 2 ^ 31 by omega) (show (i 1).val < 2 ^ 31 by omega)

theorem v30 (i) : val_main_v30 (F := Ideal) (adt W) (aal W) i = ((W.w (i 0).val (8 * (i 3).val + (i 4).val) (i 1).val (i 2).val : ℝ) : EReal) := by
  have h : val_main_v25 (F := Ideal) (adt W) (aal W) i = ((pre (W.la (i 0).val (8 * (i 3).val + (i 4).val)) ((i 1).val + 1)
      - pre (W.la (i 0).val (8 * (i 3).val + (i 4).val)) ((i 2).val + 1) : ℝ) : EReal) := by
    rw [val_main_v25_apply, val_main_v23_apply, val_main_v21_apply, val_main_v24_apply, val_main_v22_apply]
    exact sub_real (v16 W _) (v16 W _)
  rw [val_main_v30_apply, val_main_v26_0_apply, mask, h]
  show Ideal.exp (if (if (i 2).val ≤ (i 1).val then 1#1 else 0#1) = 1#1 then _ else _) = _
  by_cases hs : (i 2).val ≤ (i 1).val
  · rw [if_pos hs, if_pos rfl, Whole.w, wt, if_pos hs]; rfl
  · rw [if_neg hs, if_neg (by decide), Whole.w, wt, if_neg hs]
    have : val_main_call1_v2 (F := Ideal) i = ⊥ := by
      rw [val_main_call1_v2_apply, val_main_call1_v0_apply]
      exact bits_bot
    rw [this]; rfl

/-! ## The scores -/

theorem v28 (i) : val_main_v28 (F := Ideal) (ax W) i = ((W.sc (i 0).val (i 3).val (i 1).val (i 2).val : ℝ) : EReal) := by
  rw [val_main_v28_apply, val_main_v27_apply]
  exact sum_coe (fun j => W.c (i 0).val (i 3).val (i 1).val j * W.b (i 0).val (i 3).val (i 2).val j) fun k =>
    (mul_real' (v5 W _) (v7 W _)).trans (real (mul_comm _ _))

theorem v32 (i) : val_main_v32 (F := Ideal) (ax W) (adt W) (aal W) i
    = ((W.sc (i 0).val (i 3).val (i 1).val (i 2).val * W.w (i 0).val (8 * (i 3).val + (i 4).val) (i 1).val (i 2).val : ℝ) : EReal) := by
  rw [val_main_v32_apply, val_main_v31_apply, val_main_v29_apply]
  exact mul_real (v28 W _) (v30 W i)

theorem v35 (i) : val_main_v35 (F := Ideal) (ax W) (adt W) i = ((W.xd (i 0).val (8 * (i 2).val + (i 3).val) (i 4).val (i 1).val : ℝ) : EReal) := by
  rw [val_main_v35_apply, val_main_v34_apply, val_main_v33_apply]
  exact mul_real (v3 W i) (v9 W _)

theorem v43 (i) : val_main_v43 (F := Ideal) (ady W) i = ((W.Dy (i 0).val (i 1).val : ℝ) : EReal) := by
  have h1 : (i 1).val < 2048 := (i 1).isLt
  rw [val_main_v43_apply]
  exact real (congrArg₂ W.Dy (show ((i 0).val * 2048 + (i 1).val) / 2048 = (i 0).val by omega) (show ((i 0).val * 2048 + (i 1).val) % 2048 = (i 1).val by omega))

theorem v49 (i) : val_main_v49 (F := Ideal) (ady W) i = ((W.y (i 0).val (8 * (i 1).val + (i 2).val) (i 3).val (i 4).val : ℝ) : EReal) := by
  have h1 : (i 1).val < 4 := (i 1).isLt
  have h2 : (i 2).val < 8 := (i 2).isLt
  have h3 : (i 3).val < 64 := (i 3).isLt
  rw [val_main_v49_apply, val_main_v48_apply, v43]
  exact real (congrArg₂ W.Dy
    (show (((((i 0).val * 4096 + (i 4).val) * 4 + (i 1).val) * 8 + (i 2).val) * 64 + (i 3).val) / 2048 = 4096 * (i 0).val + (i 4).val by omega)
    (show (((((i 0).val * 4096 + (i 4).val) * 4 + (i 1).val) * 8 + (i 2).val) * 64 + (i 3).val) % 2048 = 64 * (8 * (i 1).val + (i 2).val) + (i 3).val by omega))

theorem v51 (i) : val_main_v51 (F := Ideal) (ax W) (adt W) (ady W) i = ((W.dm (i 0).val (8 * (i 3).val + (i 4).val) (i 1).val (i 2).val : ℝ) : EReal) := by
  rw [val_main_v51_apply, val_main_v50_apply]
  exact sum_coe (fun p => W.y (i 0).val (8 * (i 3).val + (i 4).val) p (i 1).val * W.xd (i 0).val (8 * (i 3).val + (i 4).val) p (i 2).val) fun k =>
    mul_real' (v49 W _) (v35 W _)

theorem v53 (i) : val_main_v53 (F := Ideal) (ax W) (adt W) (aal W) (ady W) i
    = ((W.dxd (i 0).val (8 * (i 2).val + (i 3).val) (i 4).val (i 1).val : ℝ) : EReal) := by
  have h3 : (i 3).val < 8 := (i 3).isLt
  rw [val_main_v53_apply, val_main_v52_apply]
  refine sum_coe (fun t => W.y (i 0).val (8 * (i 2).val + (i 3).val) (i 4).val t
      * (W.sc (i 0).val ((8 * (i 2).val + (i 3).val) / 8) t (i 1).val * W.w (i 0).val (8 * (i 2).val + (i 3).val) t (i 1).val)) fun k => ?_
  rw [show (8 * (i 2).val + (i 3).val) / 8 = (i 2).val by omega]
  exact mul_real' (v49 W _) (v32 W _)

/-! ## The gradient at `b`, `c` and `x` -/

/-- A one-place axis added after the others and summed away leaves the index. -/
theorem idx64 (i : S2x4096x4096x4.Idx) (k : Fin 1) : idx_main_v64 (idx_main_v66 i k) = i := by
  have k0 : k.val < 1 := k.isLt
  have h0 : (i 0).val < 2 := (i 0).isLt
  have h1 : (i 1).val < 4096 := (i 1).isLt
  have h2 : (i 2).val < 4096 := (i 2).isLt
  have h3 : (i 3).val < 4 := (i 3).isLt
  funext a
  match a with
  | ⟨0, _⟩ => exact Fin.ext (show (((((i 0).val * 4096 + (i 1).val) * 4096 + (i 2).val) * 4 + (i 3).val) * 1 + k.val) / 67108864 = (i 0).val by omega)
  | ⟨1, _⟩ => exact Fin.ext (show (((((i 0).val * 4096 + (i 1).val) * 4096 + (i 2).val) * 4 + (i 3).val) * 1 + k.val) / 16384 % 4096 = (i 1).val by omega)
  | ⟨2, _⟩ => exact Fin.ext (show (((((i 0).val * 4096 + (i 1).val) * 4096 + (i 2).val) * 4 + (i 3).val) * 1 + k.val) / 4 % 4096 = (i 2).val by omega)
  | ⟨3, _⟩ => exact Fin.ext (show (((((i 0).val * 4096 + (i 1).val) * 4096 + (i 2).val) * 4 + (i 3).val) * 1 + k.val) % 4 = (i 3).val by omega)

/-- The sum over a one-place axis. -/
theorem one_sum {z : EReal} {f : Fin 1 → EReal} {r : ℝ} (hz : z = 0) (h : ∀ k, f k = (r : EReal)) : z + ∑ k, f k = (r : EReal) := by
  rw [hz, zero_add, Fin.sum_univ_one, h]

theorem v63 (i) : val_main_v63 (F := Ideal) (ax W) (adt W) (aal W) (ady W) i = ((W.dsc (i 0).val (i 3).val (i 1).val (i 2).val : ℝ) : EReal) := by
  rw [val_main_v63_apply]
  refine (zero_sum (F := fun r => W.dm (i 0).val (8 * (i 3).val + r) (i 1).val (i 2).val * W.w (i 0).val (8 * (i 3).val + r) (i 1).val (i 2).val) bits_zero fun r => ?_)
  rw [val_main_v62_apply]
  exact mul_real (v51 W _) (v30 W _)

theorem v67 (i) : val_main_v67 (F := Ideal) (ax W) (adt W) (aal W) (ady W) i = ((W.dsc (i 0).val (i 1).val (i 3).val (i 2).val : ℝ) : EReal) := by
  rw [val_main_v67_apply, val_main_v66_apply]
  refine one_sum bits_zero fun k => ?_
  rw [val_main_v64_apply, idx64]
  exact v63 W _

theorem v69 (i) : val_main_v69 (F := Ideal) (ax W) (adt W) (aal W) (ady W) i = ((W.dc (i 0).val (i 2).val (i 1).val (i 3).val : ℝ) : EReal) := by
  rw [val_main_v69_apply, val_main_v68_apply]
  exact sum_coe (fun s => W.dsc (i 0).val (i 2).val (i 1).val s * W.b (i 0).val (i 2).val s (i 3).val) fun k => mul_real' (v67 W _) (v5 W _)

theorem v71 (i) : val_main_v71 (F := Ideal) (ax W) (adt W) (aal W) (ady W) i = ((W.db (i 0).val (i 2).val (i 1).val (i 3).val : ℝ) : EReal) := by
  rw [val_main_v71_apply, val_main_v70_apply]
  exact sum_coe (fun t => W.dsc (i 0).val (i 2).val t (i 1).val * W.c (i 0).val (i 2).val t (i 3).val) fun k => mul_real' (v67 W _) (v7 W _)

theorem v46 (i) : val_main_v46 (F := Ideal) (ady W) (ask W) i = ((W.Sk (i 1).val * W.Dy (i 0).val (i 1).val : ℝ) : EReal) := by
  rw [val_main_v46_apply, val_main_v45_apply]
  exact mul_real rfl (v43 W i)

theorem v58 (i) : val_main_v58 (F := Ideal) (ax W) (adt W) (aal W) (ady W) i
    = ((W.dxd (i 0).val (8 * (i 2).val + (i 3).val) (i 4).val (i 1).val * W.Dt (4096 * (i 0).val + (i 1).val) (8 * (i 2).val + (i 3).val) : ℝ) : EReal) := by
  rw [val_main_v58_apply, val_main_v57_apply, val_main_v33_apply]
  exact mul_real (v53 W i) (v9 W _)

theorem v102 (i) : val_main_v102 (F := Ideal) (ax W) (adt W) (aal W) (ady W) (ask W) i = ((W.dX (i 0).val (i 1).val : ℝ) : EReal) := by
  have h0 : (i 0).val < 8192 := (i 0).isLt
  have h1 : (i 1).val < 3072 := (i 1).isLt
  rw [val_main_v102_apply, val_main_v99_apply, val_main_v96_apply]
  unfold val_main_v47 val_main_v95 val_main_v98 val_main_v101
  refine (add_real (add_real (add_real
    (pad_cols (fun r k => W.Sk k * W.Dy r k) (v46 W) (fun _ => bits_zero) _ _ i)
    (pad_cols (fun r k => W.dc (r / 4096) (k / 128) (r % 4096) (k % 128)) (fun j => ?_) (fun _ => bits_zero) _ _ i))
    (pad_cols (fun r k => W.db (r / 4096) (k / 128) (r % 4096) (k % 128)) (fun j => ?_) (fun _ => bits_zero) _ _ i))
    (pad_cols (fun r k => W.dxd (r / 4096) (k / 64) (k % 64) (r % 4096) * W.Dt r (k / 64)) (fun j => ?_) (fun _ => bits_zero) _ _ i)).trans (real ?_)
  · have j0 : (j 0).val < 8192 := (j 0).isLt
    have j1 : (j 1).val < 512 := (j 1).isLt
    rw [val_main_v94_apply, v69]
    show ((W.dc (((j 0).val * 512 + (j 1).val) / 2097152) (((j 0).val * 512 + (j 1).val) / 128 % 4) (((j 0).val * 512 + (j 1).val) / 512 % 4096) (((j 0).val * 512 + (j 1).val) % 128) : ℝ) : EReal) = _
    rw [show ((j 0).val * 512 + (j 1).val) / 2097152 = (j 0).val / 4096 by omega, show ((j 0).val * 512 + (j 1).val) / 128 % 4 = (j 1).val / 128 by omega,
      show ((j 0).val * 512 + (j 1).val) / 512 % 4096 = (j 0).val % 4096 by omega, show ((j 0).val * 512 + (j 1).val) % 128 = (j 1).val % 128 by omega]
  · have j0 : (j 0).val < 8192 := (j 0).isLt
    have j1 : (j 1).val < 512 := (j 1).isLt
    rw [val_main_v97_apply, v71]
    show ((W.db (((j 0).val * 512 + (j 1).val) / 2097152) (((j 0).val * 512 + (j 1).val) / 128 % 4) (((j 0).val * 512 + (j 1).val) / 512 % 4096) (((j 0).val * 512 + (j 1).val) % 128) : ℝ) : EReal) = _
    rw [show ((j 0).val * 512 + (j 1).val) / 2097152 = (j 0).val / 4096 by omega, show ((j 0).val * 512 + (j 1).val) / 128 % 4 = (j 1).val / 128 by omega,
      show ((j 0).val * 512 + (j 1).val) / 512 % 4096 = (j 0).val % 4096 by omega, show ((j 0).val * 512 + (j 1).val) % 128 = (j 1).val % 128 by omega]
  · have j0 : (j 0).val < 8192 := (j 0).isLt
    have j1 : (j 1).val < 2048 := (j 1).isLt
    rw [val_main_v100_apply, v58]
    refine real (congrArg₂ (fun r s : ℝ => r * s) ?_ (congrArg₂ W.Dt ?_ ?_))
    · show W.dxd (((j 0).val * 2048 + (j 1).val) / 8388608) (8 * (((j 0).val * 2048 + (j 1).val) / 512 % 4) + ((j 0).val * 2048 + (j 1).val) / 64 % 8)
        (((j 0).val * 2048 + (j 1).val) % 64) (((j 0).val * 2048 + (j 1).val) / 2048 % 4096) = _
      rw [show ((j 0).val * 2048 + (j 1).val) / 8388608 = (j 0).val / 4096 by omega,
        show 8 * (((j 0).val * 2048 + (j 1).val) / 512 % 4) + ((j 0).val * 2048 + (j 1).val) / 64 % 8 = (j 1).val / 64 by omega,
        show ((j 0).val * 2048 + (j 1).val) % 64 = (j 1).val % 64 by omega, show ((j 0).val * 2048 + (j 1).val) / 2048 % 4096 = (j 0).val % 4096 by omega]
    · show 4096 * (((j 0).val * 2048 + (j 1).val) / 8388608) + ((j 0).val * 2048 + (j 1).val) / 2048 % 4096 = (j 0).val; omega
    · show 8 * (((j 0).val * 2048 + (j 1).val) / 512 % 4) + ((j 0).val * 2048 + (j 1).val) / 64 % 8 = (j 1).val / 64; omega
  · rw [Whole.dX]
    split_ifs <;> first | omega | simp

end Cert.ReferenceIdeal.Hand
-- ==== Proof.SsdBody.lean ====
/- The body of the recurrence's gradient (the call `ssd_bwd`), one head and one group at a time: what a grid point leaves in its results and
   in its scratch memory, as functions of the blocks it reads, written once for a head `h` of 32 and once for a group `g` of 4. -/
module

public import Idealize.ShloMosaic.Lib.Pointwise
public import proofs.«01_k».proof.Proof.Recurrence
public import proofs.«01_k».proof.Proof.Gen.KernelIdeal.Skeleton

@[expose] public section

set_option maxRecDepth 16384

noncomputable section

namespace Cert.KernelIdeal.Hand

open Cert.KernelIdeal Cert.KernelIdeal.Gen Idealize.ShloMosaic Idealize.ShloMosaic.TcCoe

/-- What a grid point reads: its blocks of the operands, the four groups' columns of the saved state and of the carried gradient, and
    the running gradient of the log decay rates. -/
structure In where
  x : Vec Ideal S128x3072 .f32
  dt : Vec Ideal S128x128 .f32
  al : Vec Ideal S1x128 .f32
  ex : Vec Ideal S32x2048 .bf16
  exT : Vec Ideal S2048x128 .bf16
  dy : Vec Ideal S128x2048 .f32
  sk : Vec Ideal S1x2048 .f32
  st : Fin 4 → Vec Ideal S1x128x512 .f32
  ds : Fin 4 → Vec Ideal S128x512 .f32
  da : Vec Ideal S1x128 .f32

/-! ## Places of a head's and of a group's columns -/

theorem headCol (h : Fin 32) : S128x128.Slices ![0, h.val] S128x1 :=
  ⟨rfl, fun a => by have := h.isLt; fin_cases a <;> simp <;> omega⟩
theorem headRow (h : Fin 32) : S128x128.Slices ![h.val, 0] S1x128 :=
  ⟨rfl, fun a => by have := h.isLt; fin_cases a <;> simp <;> omega⟩
theorem headCols (h : Fin 32) : S128x2048.Slices ![0, 64 * h.val] S128x64 :=
  ⟨rfl, fun a => by have := h.isLt; fin_cases a <;> simp <;> omega⟩
theorem headIn (r : Fin 8) : S128x512.Slices ![0, 64 * r.val] S128x64 :=
  ⟨rfl, fun a => by have := r.isLt; fin_cases a <;> simp <;> omega⟩
theorem groupCols (g : Fin 4) : S128x2048.Slices ![0, 512 * g.val] S128x512 :=
  ⟨rfl, fun a => by have := g.isLt; fin_cases a <;> simp <;> omega⟩
theorem groupRow (g : Fin 4) : S1x2048.Slices ![0, 512 * g.val] S1x512 :=
  ⟨rfl, fun a => by have := g.isLt; fin_cases a <;> simp <;> omega⟩
theorem bCols (g : Fin 4) : S128x3072.Slices ![0, 2048 + 128 * g.val] S128x128 :=
  ⟨rfl, fun a => by have := g.isLt; fin_cases a <;> simp <;> omega⟩
theorem cCols (g : Fin 4) : S128x3072.Slices ![0, 2560 + 128 * g.val] S128x128 :=
  ⟨rfl, fun a => by have := g.isLt; fin_cases a <;> simp <;> omega⟩

namespace In

variable (I : In)

/-! ## What the heads share -/

/-- The running sums of the log decays, down the rows. -/
def cs : FVec Ideal S128x128 .f32 := k0_pay17 k0_pay10 (k0_pay14 I.dt I.al) (k0_pay15 I.dt I.al) (k0_pay16 I.dt I.al)
/-- The same, along the columns. -/
def cst : FVec Ideal S128x128 .f32 := k0_pay18 (k0_pay8 I.dt I.al) k0_pay10
/-- The decay from the chunk's start, per column of a head. -/
def ecs : FVec Ideal S128x2048 .f32 := k0_pay19 (k0_pay6 I.ex) k0_pay10 (k0_pay14 I.dt I.al) (k0_pay15 I.dt I.al) (k0_pay16 I.dt I.al)
/-- The decay to the chunk's end. -/
def tail : FVec Ideal S128x2048 .f32 := k0_pay20 (k0_pay6 I.ex) k0_pay10 (k0_pay14 I.dt I.al) (k0_pay15 I.dt I.al) (k0_pay16 I.dt I.al)
def dtx : FVec Ideal S128x2048 .f32 := k0_pay21 I.dt (k0_pay6 I.ex)
def xd : FVec Ideal S128x2048 .f32 := k0_pay23 I.x I.dt (k0_pay6 I.ex)
def xdb : FVec Ideal S128x2048 .bf16 := k0_pay24 I.x I.dt (k0_pay6 I.ex)
def dyb : FVec Ideal S128x2048 .bf16 := k0_pay25 I.dy
def dys : FVec Ideal S128x2048 .f32 := k0_pay26 I.ecs I.dy
def xt : FVec Ideal S128x2048 .f32 := k0_pay27 I.tail I.xd
def el : FVec Ideal S1x2048 .f32 := k0_pay28 I.ecs

/-! ## A group -/

def bg (g : Fin 4) : FVec Ideal S128x128 .bf16 :=
  truncf .bf16 (extractStridedSlice S128x128 ![0, 2048 + 128 * g.val] I.x (bCols g)) bitsLt_bf16_f32
def cg (g : Fin 4) : FVec Ideal S128x128 .bf16 :=
  truncf .bf16 (extractStridedSlice S128x128 ![0, 2560 + 128 * g.val] I.x (cCols g)) bitsLt_bf16_f32
def cb (g : Fin 4) : FVec Ideal S128x128 .f32 :=
  matmul dot_S128x128_S128x128_S128x128_1_1_0_0_n_n none (I.cg g) (I.bg g) (constant S128x128 .f32 0x00000000#32)
def sg (g : Fin 4) : FVec Ideal S128x512 .f32 := shapeCast S128x512 (I.st g) shapeCasts_S1x128x512_S128x512
def dc (g : Fin 4) : FVec Ideal S128x128 .f32 :=
  matmul dot_S128x512_S128x512_S128x128_1_1_0_0_n_n none
    (truncf .bf16 (extractStridedSlice S128x512 ![0, 512 * g.val] I.dys (groupCols g)) bitsLt_bf16_f32)
    (truncf .bf16 (I.sg g) bitsLt_bf16_f32) (constant S128x128 .f32 0x00000000#32)
def db (g : Fin 4) : FVec Ideal S128x128 .f32 :=
  matmul dot_S128x512_S128x512_S128x128_1_1_0_0_n_n none
    (truncf .bf16 (extractStridedSlice S128x512 ![0, 512 * g.val] I.xt (groupCols g)) bitsLt_bf16_f32)
    (truncf .bf16 (I.ds g) bitsLt_bf16_f32) (constant S128x128 .f32 0x00000000#32)
def dxs (g : Fin 4) : FVec Ideal S128x512 .f32 :=
  mulf (extractStridedSlice S128x512 ![0, 512 * g.val] I.tail (groupCols g))
    (matmul dot_S128x128_S128x512_S128x512_1_0_0_1_n_n none (I.bg g) (truncf .bf16 (I.ds g) bitsLt_bf16_f32)
      (constant S128x512 .f32 0x00000000#32))
def tp (g : Fin 4) : FVec Ideal S128x512 .f32 :=
  mulf (extractStridedSlice S128x512 ![0, 512 * g.val] I.xd (groupCols g)) (I.dxs g)
def yd (g : Fin 4) : FVec Ideal S128x512 .f32 :=
  shapeCast S128x512
    (subf
      (mulf (extractStridedSlice S128x512 ![0, 512 * g.val] I.dys (groupCols g))
        (matmul dot_S128x128_S128x512_S128x512_1_0_0_1_n_n none (I.cg g) (truncf .bf16 (I.sg g) bitsLt_bf16_f32)
          (constant S128x512 .f32 0x00000000#32)))
      (I.tp g))
    shapeCasts_S128x512_S128x512
def last (g : Fin 4) : FVec Ideal S8x512 .f32 :=
  shapeCast S8x512
    (broadcastTo S8x512
      (shapeCast S1x512
        (addf
          (shapeCast S1x512 (multiReduction .add [0] S512 (I.tp g) 0x00000000#32 reduces_S128x512_S512 (.inl rfl) rfl) shapeCasts_S512_S1x512)
          (mulf (extractStridedSlice S1x512 ![0, 512 * g.val] I.el (groupRow g))
            (shapeCast S1x512
              (multiReduction .add [0] S512 (mulf (I.ds g) (I.sg g)) 0x00000000#32 reduces_S128x512_S512 (.inl rfl) rfl)
              shapeCasts_S512_S1x512)))
        shapeCasts_S1x512_S1x512)
      broadcasts_S1x512_S8x512)
    shapeCasts_S8x512_S8x512
/-- The carried gradient after the point, in a group's columns. -/
def next (g : Fin 4) : FVec Ideal S128x512 .f32 :=
  shapeCast S128x512
    (addf
      (mulf (I.ds g) (broadcastTo S128x512 (extractStridedSlice S1x512 ![0, 512 * g.val] I.el (groupRow g)) broadcasts_S1x512_S128x512))
      (matmul dot_S128x128_S128x512_S128x512_0_0_1_1_n_n none (I.cg g)
        (truncf .bf16 (extractStridedSlice S128x512 ![0, 512 * g.val] I.dys (groupCols g)) bitsLt_bf16_f32)
        (constant S128x512 .f32 0x00000000#32)))
    shapeCasts_S128x512_S128x512

/-! ## A head: the `r`-th of group `g` is head `8 g + r` -/

/-- The group of a head. -/
def grp (h : Fin 32) : Fin 4 := ⟨h.val / 8, by omega⟩
/-- A head's place in its group. -/
def sub (h : Fin 32) : Fin 8 := ⟨h.val % 8, by omega⟩

def dec (h : Fin 32) : FVec Ideal S128x128 .f32 :=
  exp
    (select k0_pay9
      (subf (broadcastTo S128x128 (extractStridedSlice S128x1 ![0, h.val] I.cs (headCol h)) broadcasts_S128x1_S128x128)
        (broadcastTo S128x128 (extractStridedSlice S1x128 ![h.val, 0] I.cst (headRow h)) broadcasts_S1x128_S128x128))
      (broadcast S128x128 (Named.named κ "mask" 0xF149F2CA#32)))
def mm (h : Fin 32) : FVec Ideal S128x128 .f32 := mulf (I.cb (grp h)) (I.dec h)
def dm (h : Fin 32) : FVec Ideal S128x128 .f32 :=
  matmul dot_S128x64_S128x64_S128x128_1_1_0_0_n_n none (extractStridedSlice S128x64 ![0, 64 * h.val] I.dyb (headCols h))
    (extractStridedSlice S128x64 ![0, 64 * h.val] I.xdb (headCols h)) (constant S128x128 .f32 0x00000000#32)
def ee (h : Fin 32) : FVec Ideal S128x128 .f32 := mulf (I.dm h) (I.mm h)
/-- A head's columns of the gradient of the inputs times `dt`. -/
def dxd (h : Fin 32) : FVec Ideal S128x64 .f32 :=
  shapeCast S128x64
    (addf
      (matmul dot_S128x128_S128x64_S128x64_0_0_1_1_n_n none (truncf .bf16 (I.mm h) bitsLt_bf16_f32)
        (extractStridedSlice S128x64 ![0, 64 * h.val] I.dyb (headCols h)) (constant S128x64 .f32 0x00000000#32))
      (extractStridedSlice S128x64 ![0, 64 * (sub h).val] (I.dxs (grp h)) (headIn (sub h))))
    shapeCasts_S128x64_S128x64

/-- The first `n` heads' gradients of the scores, of group `g`. -/
def dcb (g : Fin 4) : (n : ℕ) → n ≤ 8 → FVec Ideal S128x128 .f32
  | 0, _ => broadcast S128x128 (Scalar.ofBits .f32 0x00000000#32)
  | n + 1, hn => addf (dcb g n (Nat.le_of_succ_le hn)) (mulf (I.dm ⟨8 * g.val + n, by omega⟩) (I.dec ⟨8 * g.val + n, by omega⟩))

/-- What the steps receive, the first `n` heads in their lanes. -/
def rows : (n : ℕ) → n ≤ 32 → FVec Ideal S128x128 .f32
  | 0, _ => broadcast S128x128 (Scalar.ofBits .f32 0x00000000#32)
  | n + 1, hn =>
    addf (rows n (Nat.le_of_succ_le hn))
      (select (cmpi .eq (iota .tc S128x128 32 [1] iota_S128x128_d1_w32) (broadcast S128x128 (BitVec.ofNat 32 n)))
        (broadcastTo S128x128
          (shapeCast S128x1
            (shapeCast S128x1 (multiReduction .add [1] S128 (I.ee ⟨n, hn⟩) 0x00000000#32 reduces_S128x128_S128 (.inl rfl) rfl)
              shapeCasts_S128_S128x1)
            shapeCasts_S128x1_S128x1)
          broadcasts_S128x1_S128x128)
        (broadcast S128x128 (Scalar.ofBits .f32 0x00000000#32)))

/-- What the steps give, the first `n` heads in their rows. -/
def cols : (n : ℕ) → n ≤ 32 → FVec Ideal S128x128 .f32
  | 0, _ => broadcast S128x128 (Scalar.ofBits .f32 0x00000000#32)
  | n + 1, hn =>
    addf (cols n (Nat.le_of_succ_le hn))
      (select (cmpi .eq (iota .tc S128x128 32 [0] iota_S128x128_d0_w32) (broadcast S128x128 (BitVec.ofNat 32 n)))
        (broadcastTo S128x128
          (shapeCast S1x128
            (shapeCast S1x128 (multiReduction .add [0] S128 (I.ee ⟨n, hn⟩) 0x00000000#32 reduces_S128x128_S128_2 (.inl rfl) rfl)
              shapeCasts_S128_S1x128)
            shapeCasts_S1x128_S1x128)
          broadcasts_S1x128_S128x128)
        (broadcast S128x128 (Scalar.ofBits .f32 0x00000000#32)))

/-- The gradients of a group's columns `b` and `c`. -/
def dbOut (g : Fin 4) : FVec Ideal S128x128 .f32 :=
  addf (I.db g)
    (matmul dot_S128x128_S128x128_S128x128_0_0_1_1_n_n none (truncf .bf16 (I.dcb g 8 le_rfl) bitsLt_bf16_f32) (I.cg g)
      (constant S128x128 .f32 0x00000000#32))
def dcOut (g : Fin 4) : FVec Ideal S128x128 .f32 :=
  addf (I.dc g)
    (matmul dot_S128x128_S128x128_S128x128_1_0_0_1_n_n none (truncf .bf16 (I.dcb g 8 le_rfl) bitsLt_bf16_f32) (I.bg g)
      (constant S128x128 .f32 0x00000000#32))

/-- The gradient of the log decays, from what the scratch memory holds of the steps' exchanges with the states. -/
def dla (Y : FVec Ideal S128x2048 .f32) (Z : FVec Ideal S8x2048 .f32) : FVec Ideal S128x128 .f32 :=
  k0_pay373 (k0_pay372 (k0_pay5 I.exT) (I.rows 32 le_rfl) (I.cols 32 le_rfl) Y Z) (iota .tc S128x128 32 [0] iota_S128x128_d0_w32)
    (iota .tc S128x128 32 [1] iota_S128x128_d1_w32)
def ddtOut (D Y : FVec Ideal S128x2048 .f32) (Z : FVec Ideal S8x2048 .f32) : FVec Ideal S128x128 .f32 :=
  k0_pay1 (k0_pay7 I.al)
    (k0_pay371 (k0_pay5 I.exT) (k0_pay367 (k0_pay22 I.x) D) (k0_pay369 (k0_pay22 I.x) D) (k0_pay370 (k0_pay22 I.x) D)) (I.dla Y Z)
def daOut (Y : FVec Ideal S128x2048 .f32) (Z : FVec Ideal S8x2048 .f32) : FVec Ideal S1x128 .f32 := k0_pay2 I.dt (I.dla Y Z) I.da
def dxOut (D : FVec Ideal S128x2048 .f32) : FVec Ideal S128x2048 .f32 := k0_pay365 I.dtx I.dy D I.sk

/-! ## The scratch memory and the results -/

theorem inb64 (h : Fin 32) : ∀ a, (![0, 64 * h.val] : Fin 2 → Nat) a + (![128, 64] : Fin 2 → Nat) a ≤ S128x2048.size a := fun a => by
  have := h.isLt; fin_cases a <;> simp <;> omega
theorem inb512 (g : Fin 4) : ∀ a, (![0, 512 * g.val] : Fin 2 → Nat) a + (![128, 512] : Fin 2 → Nat) a ≤ S128x2048.size a := fun a => by
  have := g.isLt; fin_cases a <;> simp <;> omega
theorem inb8 (g : Fin 4) : ∀ a, (![0, 512 * g.val] : Fin 2 → Nat) a + (![8, 512] : Fin 2 → Nat) a ≤ S8x2048.size a := fun a => by
  have := g.isLt; fin_cases a <;> simp <;> omega

/-- The heads' columns, last first. -/
def dxdPieces : List (View.Piece (Elt Ideal) S128x2048 .f32) :=
  List.ofFn fun k : Fin 32 => ⟨Rect.unit ![0, 64 * k.rev.val] ![128, 64] (inb64 k.rev), I.dxd k.rev⟩
def ydPieces : List (View.Piece (Elt Ideal) S128x2048 .f32) :=
  List.ofFn fun k : Fin 4 => ⟨Rect.unit ![0, 512 * k.rev.val] ![128, 512] (inb512 k.rev), I.yd k.rev⟩
def lastPieces : List (View.Piece (Elt Ideal) S8x2048 .f32) :=
  List.ofFn fun k : Fin 4 => ⟨Rect.unit ![0, 512 * k.rev.val] ![8, 512] (inb8 k.rev), I.last k.rev⟩
def nextPieces : List (View.Piece (Elt Ideal) S128x2048 .f32) :=
  List.ofFn fun k : Fin 4 => ⟨Rect.unit ![0, 512 * k.rev.val] ![128, 512] (inb512 k.rev), I.next k.rev⟩

theorem inbBC (k : Fin 8) : ∀ a, (![0, 2048 + 512 * ((k.val + 1) % 2) + 128 * (3 - k.val / 2)] : Fin 2 → Nat) a + (![128, 128] : Fin 2 → Nat) a
    ≤ S128x3072.size a := fun a => by have := k.isLt; fin_cases a <;> simp <;> omega

/-- The columns `c` and `b` of the groups, last group first. -/
def bcPieces : List (View.Piece (Elt Ideal) S128x3072 .f32) :=
  List.ofFn fun k : Fin 8 => ⟨Rect.unit ![0, 2048 + 512 * ((k.val + 1) % 2) + 128 * (3 - k.val / 2)] ![128, 128] (inbBC k),
    if k.val % 2 = 0 then I.dcOut ⟨3 - k.val / 2, by omega⟩ else I.dbOut ⟨3 - k.val / 2, by omega⟩⟩
def dxPieces (D : FVec Ideal S128x2048 .f32) : List (View.Piece (Elt Ideal) S128x3072 .f32) :=
  ⟨Rect.unit ![0, 0] ![128, 2048] inb_S128x3072_S128x2048_0_0, I.dxOut D⟩ :: I.bcPieces
def ddtPieces (D Y : FVec Ideal S128x2048 .f32) (Z : FVec Ideal S8x2048 .f32) : List (View.Piece (Elt Ideal) S128x128 .f32) :=
  [⟨Rect.unit ![0, 0] ![128, 128] inb_S128x128_S128x128_0_0, I.ddtOut D Y Z⟩]
def daPieces (Y : FVec Ideal S128x2048 .f32) (Z : FVec Ideal S8x2048 .f32) : List (View.Piece (Elt Ideal) S1x128 .f32) :=
  [⟨Rect.unit ![0, 0] ![1, 128] inb_S1x128_S1x128_0_0, I.daOut Y Z⟩]

end In

end Cert.KernelIdeal.Hand
-- ==== Proof.SsdEval.lean ====
/- A grid point of the recurrence's gradient, on real operands: each of the body's values is a block of real numbers, given here as a
   formula of the chunk's own steps, the state saved before it and the gradient carried from after it. -/
module

public import proofs.«01_k».proof.Proof.SsdBody
public import proofs.«01_k».proof.Proof.SsdReal

@[expose] public section

set_option maxRecDepth 16384

noncomputable section

namespace Cert.KernelIdeal.Hand

open Cert.KernelIdeal Cert.KernelIdeal.Gen Idealize.ShloMosaic Idealize.ShloMosaic.TcCoe Finset

/-- The real numbers that a grid point reads: rows are the chunk's steps, columns a head's inputs, the state's rows its `n`. -/
structure Chunk where
  x : ℕ → ℕ → ℝ
  dt : ℕ → ℕ → ℝ
  al : ℕ → ℝ
  dy : ℕ → ℕ → ℝ
  sk : ℕ → ℝ
  st : ℕ → ℕ → ℝ
  ds : ℕ → ℕ → ℝ
  da : ℕ → ℝ

namespace Chunk

variable (D : Chunk)

/-- Column `p` of the inputs is in head `p / 64`. -/
def hot (p h : ℕ) : ℝ := if p / 64 = h then 1 else 0

/-- The blocks of those real numbers. -/
def toIn : In where
  x := mat (w := .f32) D.x
  dt := mat (w := .f32) D.dt
  al := mat (w := .f32) fun _ j => D.al j
  ex := mat (w := .bf16) fun h p => hot p h
  exT := mat (w := .bf16) hot
  dy := mat (w := .f32) D.dy
  sk := mat (w := .f32) fun _ j => D.sk j
  st := fun g i => ((D.st (i 1).val (512 * g.val + (i 2).val) : ℝ) : EReal)
  ds := fun g => mat (w := .f32) fun n q => D.ds n (512 * g.val + q)
  da := mat (w := .f32) fun _ j => D.da j

/-! ## Formulas -/

def a (h : ℕ) : ℝ := 0 - Real.exp (D.al h)
def la (t h : ℕ) : ℝ := D.dt t h * D.a h
def cs (t h : ℕ) : ℝ := ∑ k ∈ range (t + 1), D.la k h
def ecs (t p : ℕ) : ℝ := Real.exp (D.cs t (p / 64))
def tail (t p : ℕ) : ℝ := Real.exp (D.cs 127 (p / 64) - D.cs t (p / 64))
def xd (t p : ℕ) : ℝ := D.x t p * D.dt t (p / 64)
def b (g s n : ℕ) : ℝ := D.x s (2048 + 128 * g + n)
def c (g t n : ℕ) : ℝ := D.x t (2560 + 128 * g + n)
def cb (g t s : ℕ) : ℝ := ∑ n ∈ range 128, D.c g t n * D.b g s n
def dec (h t s : ℕ) : ℝ := if s ≤ t then Real.exp (D.cs t h - D.cs s h) else 0
def dm (h t s : ℕ) : ℝ := ∑ p ∈ range 64, D.dy t (64 * h + p) * D.xd s (64 * h + p)
def ee (h t s : ℕ) : ℝ := D.dm h t s * (D.cb (h / 8) t s * D.dec h t s)
def dcb (g n t s : ℕ) : ℝ := ∑ r ∈ range n, D.dm (8 * g + r) t s * D.dec (8 * g + r) t s
/-- What step `s` receives from after the chunk. -/
def dxs (s p : ℕ) : ℝ := D.tail s p * ∑ n ∈ range 128, D.b (p / 512) s n * D.ds n p
def dxd (s p : ℕ) : ℝ := ∑ t ∈ range 128, D.cb (p / 512) t s * D.dec (p / 64) t s * D.dy t p + D.dxs s p
/-- What step `t` receives from before the chunk. -/
def ysl (t p : ℕ) : ℝ := D.dy t p * D.ecs t p * ∑ n ∈ range 128, D.c (p / 512) t n * D.st n p
def yd (t p : ℕ) : ℝ := D.ysl t p - D.xd t p * D.dxs t p
def last (p : ℕ) : ℝ := ∑ t ∈ range 128, D.xd t p * D.dxs t p + D.ecs 127 p * ∑ n ∈ range 128, D.ds n p * D.st n p
def next (n p : ℕ) : ℝ := D.ds n p * D.ecs 127 p + ∑ t ∈ range 128, D.c (p / 512) t n * (D.dy t p * D.ecs t p)
def dbOut (g s n : ℕ) : ℝ :=
  ∑ q ∈ range 512, D.xd s (512 * g + q) * D.tail s (512 * g + q) * D.ds n (512 * g + q) + ∑ t ∈ range 128, D.dcb g 8 t s * D.c g t n
def dcOut (g t n : ℕ) : ℝ :=
  ∑ q ∈ range 512, D.dy t (512 * g + q) * D.ecs t (512 * g + q) * D.st n (512 * g + q) + ∑ s ∈ range 128, D.dcb g 8 t s * D.b g s n
/-- What a step's log decay receives, before the sum over the later steps. -/
def dcs (t h : ℕ) : ℝ :=
  (if h < 32 then ∑ s ∈ range 128, D.ee h t s else 0) - (if h < 32 then ∑ s ∈ range 128, D.ee h s t else 0)
    + ∑ p ∈ range 2048, D.yd t p * hot p h + (if t = 127 then ∑ p ∈ range 2048, D.last p * hot p h else 0)
def dla (t h : ℕ) : ℝ := ∑ u ∈ range 128, (if t ≤ u then 1 else 0) * D.dcs u h
def ddtOut (t h : ℕ) : ℝ := D.dla t h * D.a h + ∑ p ∈ range 2048, D.dxd t p * D.x t p * hot p h
def daOut (h : ℕ) : ℝ := D.da h + ∑ t ∈ range 128, D.dla t h * D.dt t h
def dxOut (t p : ℕ) : ℝ := D.dxd t p * D.dt t (p / 64) + D.dy t p * D.sk p

/-! ## The body's values -/

theorem sum_le (f : ℕ → ℝ) {t n : ℕ} (h : t < n) : (∑ k ∈ range n, (if k ≤ t then 1 else 0) * f k) = ∑ k ∈ range (t + 1), f k := by
  simp only [ite_mul, one_mul, zero_mul]
  rw [← sum_filter]
  refine sum_congr ?_ fun _ _ => rfl
  ext k; simp; omega

theorem sum_hot (f : ℕ → ℝ) {p n : ℕ} (h : p / 64 < n) : (∑ k ∈ range n, f k * hot p k) = f (p / 64) := by
  simp [hot, h]

theorem bf16_lt : FTy.bf16.bits < FTy.f32.bits := bitsLt_bf16_f32

theorem a_mat : k0_pay7 (F := Ideal) D.toIn.al = mat fun _ j => D.a j := by
  unfold k0_pay7
  simp only [toIn, exp_mat, zero_mat, subf_mat]
  rfl

theorem la_mat : k0_pay8 (F := Ideal) D.toIn.dt D.toIn.al = mat D.la := by
  unfold k0_pay8
  rw [a_mat]
  simp only [toIn, row_mat, mulf_mat]
  rfl

theorem cs_mat : D.toIn.cs = mat D.cs := by
  unfold In.cs k0_pay17 k0_pay14 k0_pay15 k0_pay16 k0_pay13 k0_pay12 k0_pay11
  rw [la_mat, tri_mat]
  simp only [truncf_mat, extf_mat, subf_mat, dot_S128x128_S128x128_S128x128_1_0_0_1, addf_mat]
  refine mat_congr fun i hi j _ => ?_
  rw [sum_le (fun k => D.la k j) hi]
  simp [cs]

theorem cst_mat : D.toIn.cst = mat fun h t => D.cs t h := by
  unfold In.cst k0_pay18
  rw [la_mat, tri_mat]
  simp only [truncf_mat, extf_mat, subf_mat, dot_S128x128_S128x128_S128x128_0_1_1_0, addf_mat]
  refine mat_congr fun i hi j hj => ?_
  have h : (∑ k ∈ range 128, D.la k i * if k ≤ j then 1 else 0) = D.cs j i := by
    simpa only [mul_comm, cs] using sum_le (fun k => D.la k i) hj
  rw [h]
  simp

theorem ecs_mat : D.toIn.ecs = mat D.ecs := by
  have h := cs_mat D
  unfold In.cs at h
  unfold In.ecs k0_pay19 k0_pay6
  rw [h]
  simp only [toIn, exp_mat, slice_mat, truncf_mat, extf_mat, subf_mat, cast_mat, dot_S128x32_S32x2048_S128x2048_1_0_0_1, addf_mat]
  refine mat_congr fun i hi j hj => ?_
  rw [sum_hot _ (by omega)]
  simp [ecs]

theorem tail_mat : D.toIn.tail = mat D.tail := by
  have h := cs_mat D
  unfold In.cs at h
  unfold In.tail k0_pay20 k0_pay6
  rw [h]
  simp only [toIn, exp_mat, slice_mat, row_mat, truncf_mat, extf_mat, subf_mat, cast_mat, dot_S128x32_S32x2048_S128x2048_1_0_0_1, addf_mat]
  refine mat_congr fun i hi j hj => ?_
  rw [sum_hot (fun k => Real.exp (D.cs (127 + 0) (0 + (0 + k)) - D.cs (0 + i) (0 + k))) (by omega)]
  simp [tail]

theorem dtx_mat : D.toIn.dtx = mat fun t p => D.dt t (p / 64) := by
  unfold In.dtx k0_pay21 k0_pay6
  simp only [toIn, slice_mat, truncf_mat, extf_mat, subf_mat, cast_mat, dot_S128x32_S32x2048_S128x2048_1_0_0_1, addf_mat]
  refine mat_congr fun i hi j hj => ?_
  rw [sum_hot _ (by omega)]
  simp

theorem xs_mat : k0_pay22 (F := Ideal) D.toIn.x = mat D.x := by
  unfold k0_pay22
  simp only [toIn, slice_mat, Nat.zero_add]

theorem xd_mat : D.toIn.xd = mat D.xd := by
  have h := dtx_mat D
  unfold In.dtx at h
  unfold In.xd k0_pay23
  rw [h, xs_mat, mulf_mat]
  rfl

theorem xdb_mat : D.toIn.xdb = mat D.xd := by
  have h := xd_mat D
  unfold In.xd at h
  unfold In.xdb k0_pay24
  rw [h, truncf_mat]

theorem dyb_mat : D.toIn.dyb = mat D.dy := rfl

theorem dys_mat : D.toIn.dys = mat fun t p => D.dy t p * D.ecs t p := by
  unfold In.dys k0_pay26
  rw [ecs_mat]
  simp only [toIn, mulf_mat]

theorem xt_mat : D.toIn.xt = mat fun t p => D.xd t p * D.tail t p := by
  unfold In.xt k0_pay27
  rw [tail_mat, xd_mat, mulf_mat]

theorem el_mat : D.toIn.el = mat fun _ p => D.ecs 127 p := by
  unfold In.el k0_pay28
  rw [ecs_mat, slice_mat]
  exact mat_congr fun i hi j _ => by rw [Nat.lt_one_iff.mp hi, Nat.zero_add]

theorem bg_mat (g : Fin 4) : D.toIn.bg g = mat (D.b g.val) := by
  unfold In.bg
  simp only [toIn, slice_mat, truncf_mat, Nat.zero_add]
  rfl
theorem cg_mat (g : Fin 4) : D.toIn.cg g = mat (D.c g.val) := by
  unfold In.cg
  simp only [toIn, slice_mat, truncf_mat, Nat.zero_add]
  rfl
theorem cb_mat (g : Fin 4) : D.toIn.cb g = mat (D.cb g.val) := by
  unfold In.cb
  rw [bg_mat, cg_mat, dot_S128x128_S128x128_S128x128_1_1_0_0]
  rfl
theorem sg_mat (g : Fin 4) : D.toIn.sg g = mat fun n q => D.st n (512 * g.val + q) := by
  unfold In.sg
  funext i
  simp only [toIn]
  pointwise
  rfl
theorem ds_mat (g : Fin 4) : D.toIn.ds g = mat (w := .f32) fun n q => D.ds n (512 * g.val + q) := rfl

theorem dc_mat (g : Fin 4) : D.toIn.dc g
    = mat fun t n => ∑ q ∈ range 512, D.dy t (512 * g.val + q) * D.ecs t (512 * g.val + q) * D.st n (512 * g.val + q) := by
  unfold In.dc
  rw [dys_mat, sg_mat]
  simp only [slice_mat, truncf_mat, Nat.zero_add, dot_S128x512_S128x512_S128x128_1_1_0_0]
theorem db_mat (g : Fin 4) : D.toIn.db g
    = mat fun s n => ∑ q ∈ range 512, D.xd s (512 * g.val + q) * D.tail s (512 * g.val + q) * D.ds n (512 * g.val + q) := by
  unfold In.db
  rw [xt_mat, ds_mat]
  simp only [slice_mat, truncf_mat, Nat.zero_add, dot_S128x512_S128x512_S128x128_1_1_0_0]

theorem group_of {g q : ℕ} (hq : q < 512) : (512 * g + q) / 512 = g := by omega

theorem dxs_mat (g : Fin 4) : D.toIn.dxs g = mat fun s q => D.dxs s (512 * g.val + q) := by
  unfold In.dxs
  rw [tail_mat, bg_mat, ds_mat]
  simp only [slice_mat, truncf_mat, Nat.zero_add, dot_S128x128_S128x512_S128x512_1_0_0_1, mulf_mat]
  exact mat_congr fun s _ q hq => by rw [dxs, group_of hq]
theorem tp_mat (g : Fin 4) : D.toIn.tp g = mat fun s q => D.xd s (512 * g.val + q) * D.dxs s (512 * g.val + q) := by
  unfold In.tp
  rw [xd_mat, dxs_mat]
  simp only [slice_mat, Nat.zero_add, mulf_mat]
theorem yd_mat (g : Fin 4) : D.toIn.yd g = mat fun t q => D.yd t (512 * g.val + q) := by
  unfold In.yd
  rw [dys_mat, cg_mat, sg_mat, tp_mat]
  simp only [slice_mat, truncf_mat, Nat.zero_add, dot_S128x128_S128x512_S128x512_1_0_0_1, mulf_mat, subf_mat, cast_mat]
  exact mat_congr fun t _ q hq => by rw [yd, ysl, group_of hq]
theorem last_mat (g : Fin 4) : D.toIn.last g = mat fun _ q => D.last (512 * g.val + q) := by
  unfold In.last
  rw [tp_mat, el_mat, ds_mat, sg_mat]
  rw [mulf_mat, sum_col512_mat, sum_col512_mat, slice_mat, mulf_mat, addf_mat, cast_mat, row_mat, cast_mat]
  rfl
theorem next_mat (g : Fin 4) : D.toIn.next g = mat fun n q => D.next n (512 * g.val + q) := by
  unfold In.next
  rw [ds_mat, el_mat, cg_mat, dys_mat]
  simp only [slice_mat, row_mat, truncf_mat, Nat.zero_add, dot_S128x128_S128x512_S128x512_0_0_1_1, mulf_mat, addf_mat, cast_mat]
  exact mat_congr fun t _ q hq => by rw [next, group_of hq]

theorem dec_mat (h : Fin 32) : D.toIn.dec h = mat (D.dec h.val) := by
  unfold In.dec
  rw [cs_mat, cst_mat, slice_mat, slice_mat, col_mat, row_mat, subf_mat, Hand.dec_mat]
  simp only [Nat.zero_add, Nat.add_zero]
  rfl
theorem mm_mat (h : Fin 32) : D.toIn.mm h = mat fun t s => D.cb (h.val / 8) t s * D.dec h.val t s := by
  unfold In.mm
  rw [cb_mat, dec_mat, mulf_mat]
  rfl
theorem dm_mat (h : Fin 32) : D.toIn.dm h = mat (D.dm h.val) := by
  unfold In.dm
  rw [dyb_mat, xdb_mat, slice_mat, slice_mat, dot_S128x64_S128x64_S128x128_1_1_0_0]
  simp only [Nat.zero_add]
  rfl
theorem ee_mat (h : Fin 32) : D.toIn.ee h = mat (D.ee h.val) := by
  unfold In.ee
  rw [dm_mat, mm_mat, mulf_mat]
  rfl
theorem dxd_mat (h : Fin 32) : D.toIn.dxd h = mat fun s p => D.dxd s (64 * h.val + p) := by
  unfold In.dxd
  rw [mm_mat, dyb_mat, dxs_mat]
  simp only [slice_mat, truncf_mat, Nat.zero_add, dot_S128x128_S128x64_S128x64_0_0_1_1, addf_mat, cast_mat]
  refine mat_congr fun s _ p hp => ?_
  have h1 : 512 * (In.grp h).val + (64 * (In.sub h).val + p) = 64 * h.val + p := by simp only [In.grp, In.sub]; omega
  rw [dxd, h1, show (64 * h.val + p) / 64 = h.val by omega, show (64 * h.val + p) / 512 = h.val / 8 by omega]

theorem dcb_mat (g : Fin 4) : ∀ (n : ℕ) (hn : n ≤ 8), D.toIn.dcb g n hn = mat (D.dcb g.val n)
  | 0, _ => by
    unfold In.dcb
    rw [zero_mat]
    exact mat_congr fun _ _ _ _ => by simp [dcb]
  | n + 1, hn => by
    unfold In.dcb
    rw [dcb_mat g n, dm_mat, dec_mat, mulf_mat, addf_mat]
    exact mat_congr fun _ _ _ _ => by simp only [dcb, sum_range_succ]

theorem rows_mat : ∀ (n : ℕ) (hn : n ≤ 32), D.toIn.rows n hn = mat fun t h => if h < n then ∑ s ∈ range 128, D.ee h t s else 0
  | 0, _ => by
    unfold In.rows
    rw [zero_mat]
    exact mat_congr fun _ _ _ _ => by simp
  | n + 1, hn => by
    unfold In.rows
    rw [rows_mat n, ee_mat, sum_row_mat, cast_mat, col_mat, zero_mat, lane_mat _ _ (by omega), addf_mat]
    refine mat_congr fun t _ h _ => ?_
    rcases lt_trichotomy h n with hh | hh | hh
    · rw [if_pos hh, if_neg hh.ne, if_pos (by omega), add_zero]
    · subst hh; simp
    · rw [if_neg (by omega), if_neg hh.ne', if_neg (by omega), add_zero]

theorem cols_mat : ∀ (n : ℕ) (hn : n ≤ 32), D.toIn.cols n hn = mat fun h s => if h < n then ∑ t ∈ range 128, D.ee h t s else 0
  | 0, _ => by
    unfold In.cols
    rw [zero_mat]
    exact mat_congr fun _ _ _ _ => by simp
  | n + 1, hn => by
    unfold In.cols
    rw [cols_mat n, ee_mat, sum_col_mat, cast_mat, row_mat, zero_mat, sublane_mat _ _ (by omega), addf_mat]
    refine mat_congr fun h _ t _ => ?_
    rcases lt_trichotomy h n with hh | hh | hh
    · rw [if_pos hh, if_neg hh.ne, if_pos (by omega), add_zero]
    · subst hh; simp
    · rw [if_neg (by omega), if_neg hh.ne', if_neg (by omega), add_zero]

theorem dbOut_mat (g : Fin 4) : D.toIn.dbOut g = mat (D.dbOut g.val) := by
  unfold In.dbOut
  rw [db_mat, dcb_mat, cg_mat, truncf_mat, dot_S128x128_S128x128_S128x128_0_0_1_1, addf_mat]
  rfl
theorem dcOut_mat (g : Fin 4) : D.toIn.dcOut g = mat (D.dcOut g.val) := by
  unfold In.dcOut
  rw [dc_mat, dcb_mat, bg_mat, truncf_mat, dot_S128x128_S128x128_S128x128_1_0_0_1, addf_mat]
  rfl

theorem dla_mat : D.toIn.dla (mat D.yd) (mat fun _ p => D.last p) = mat D.dla := by
  unfold In.dla k0_pay373 k0_pay372 k0_pay5
  rw [rows_mat, cols_mat]
  simp only [toIn, cast_mat, truncf_mat, extf_mat, subf_mat, dot_S128x2048_S2048x128_S128x128_1_0_0_1, dot_S8x2048_S2048x128_S8x128_1_0_0_1,
    addf_mat, slice_mat, transpose_mat, row_mat, zero_mat, one_mat]
  rw [sublane_mat _ _ (by omega : 127 < 128), transpose_mat, subf_mat, upper_mat]
  simp only [addf_mat, truncf_mat, extf_mat, subf_mat, dot_S128x128_S128x128_S128x128_1_0_0_1, addf_mat]
  refine mat_congr fun t _ h _ => ?_
  simp [dla, dcs]

theorem ddtOut_mat : D.toIn.ddtOut (mat D.dxd) (mat D.yd) (mat fun _ p => D.last p) = mat D.ddtOut := by
  unfold In.ddtOut k0_pay1 k0_pay371 k0_pay370 k0_pay369 k0_pay368 k0_pay367 k0_pay366 k0_pay5
  rw [dla_mat, a_mat, xs_mat]
  simp only [toIn, cast_mat, truncf_mat, extf_mat, subf_mat, mulf_mat, dot_S128x2048_S2048x128_S128x128_1_0_0_1, addf_mat, row_mat]
  refine mat_congr fun t _ h _ => ?_
  simp [ddtOut]

theorem daOut_mat : D.toIn.daOut (mat D.yd) (mat fun _ p => D.last p) = mat fun _ h => D.daOut h := by
  unfold In.daOut k0_pay2
  rw [dla_mat]
  simp only [toIn, mulf_mat, cast_mat]
  rw [sum_col_mat, addf_mat]
  rfl

theorem dxOut_mat : D.toIn.dxOut (mat D.dxd) = mat D.dxOut := by
  unfold In.dxOut k0_pay365
  rw [dtx_mat]
  simp only [toIn, mulf_mat, row_mat, addf_mat]
  rfl

end Chunk

end Cert.KernelIdeal.Hand
-- ==== Proof.SsdPieces.lean ====
/- What the body of the recurrence's gradient leaves in memory, in each of its three cases (a batch's first chunk, which is the last in
   time, starts the carried gradient at zero; the very first point also starts the decay rates' gradient), as the same functions of
   what the point reads. -/
module

public import proofs.«01_k».proof.Proof.SsdBody
public import proofs.«01_k».proof.Proof.Gen.KernelIdeal.Frame.RunA
public import proofs.«01_k».proof.Proof.Gen.KernelIdeal.Frame.RunB
public import proofs.«01_k».proof.Proof.Gen.KernelIdeal.Frame.RunC

@[expose] public section

set_option maxRecDepth 65536
set_option maxHeartbeats 1000000

noncomputable section

namespace Cert.KernelIdeal.Hand

open Cert.KernelIdeal Cert.KernelIdeal.Gen Idealize.ShloMosaic Idealize.ShloMosaic.TcCoe Idealize.ShloMosaic.Tactic

theorem inbSt (g : Fin 4) : ∀ a, (![0, 0, 512 * g.val] : Fin 3 → Nat) a + (![1, 128, 512] : Fin 3 → Nat) a ≤ S1x128x2048.size a := fun a => by
  have := g.isLt; fin_cases a <;> simp <;> omega

/-- The columns of a group of a block of the state. -/
def gRect (g : Fin 4) : Rect S128x2048 := Rect.unit ![0, 512 * g.val] ![128, 512] (In.inb512 g)
def gRect3 (g : Fin 4) : Rect S1x128x2048 := Rect.unit ![0, 0, 512 * g.val] ![1, 128, 512] (inbSt g)

namespace In

/-- The same operands with another carried gradient. -/
def withDs (I : In) (d : Fin 4 → Vec Ideal S128x512 .f32) : In := { I with ds := d }

/-- A group's columns of what the stores `L` leave. -/
def loadGroup (v : Memref sig .tc .vmem S128x2048 .f32) (L : List (View.Piece (Elt Ideal) S128x2048 .f32)) (g : Fin 4) : Vec Ideal S128x512 .f32 :=
  v.view.readCov L (gRect g).toLoadRect

/-- The carried gradient's stores by the first `n` groups of a batch's first chunk, which has first been cleared; each group reads the
    carried gradient before its own store. -/
def clearedPieces (v : Memref sig .tc .vmem S128x2048 .f32) (I : In) : (n : ℕ) → n ≤ 4 → List (View.Piece (Elt Ideal) S128x2048 .f32)
  | 0, _ => [⟨Rect.unit ![0, 0] S128x2048.size inb_S128x2048_S128x2048_0_0, k0_pay3 (F := Ideal)⟩]
  | n + 1, h =>
    ⟨gRect ⟨n, h⟩,
      (I.withDs fun _ => loadGroup v (clearedPieces v I n (Nat.le_of_succ_le h)) ⟨n, h⟩).next ⟨n, h⟩⟩
      :: clearedPieces v I n (Nat.le_of_succ_le h)

/-- What a batch's first chunk reads of the carried gradient. -/
def cleared (v : Memref sig .tc .vmem S128x2048 .f32) (I : In) : In :=
  I.withDs fun g => loadGroup v (clearedPieces v I g.val g.isLt.le) g

end In

section

variable (arg2 : Memref sig .tc .vmem S128x3072 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S32x2048 .bf16) (harg5 : arg5.IsWhole) (arg6 : Memref sig .tc .vmem S2048x128 .bf16) (harg6 : arg6.IsWhole) (arg7 : Memref sig .tc .vmem S1x128x2048 .f32) (harg7 : arg7.IsWhole) (arg8 : Memref sig .tc .vmem S128x2048 .f32) (harg8 : arg8.IsWhole) (arg9 : Memref sig .tc .vmem S1x2048 .f32) (harg9 : arg9.IsWhole) (arg10 : Memref sig .tc .vmem S128x3072 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S8x2048 .f32) (harg16 : arg16.IsWhole)
    (x0 : Vec Ideal S128x3072 .f32) (x1 : Vec Ideal S128x128 .f32) (x2 : Vec Ideal S1x128 .f32) (x3 : Vec Ideal S32x2048 .bf16) (x4 : Vec Ideal S2048x128 .bf16) (x5 : Vec Ideal S1x128x2048 .f32) (x6 : Vec Ideal S128x2048 .f32) (x7 : Vec Ideal S1x2048 .f32) (xs0 : Vec Ideal S128x2048 .f32)

/-- What a point reads, the carried gradient being what it was left as. -/
def rawIn (da : Vec Ideal S1x128 .f32) : In where
  x := View.readAt (Elt Ideal) arg2.view (Rect.unit (s := S128x3072) ![0, 0] S128x3072.size inb_S128x3072_S128x3072_0_0).toLoadRect (harg2.unread x0)
  dt := View.readAt (Elt Ideal) arg3.view (Rect.unit (s := S128x128) ![0, 0] S128x128.size inb_S128x128_S128x128_0_0).toLoadRect (harg3.unread x1)
  al := View.readAt (Elt Ideal) arg4.view (Rect.unit (s := S1x128) ![0, 0] S1x128.size inb_S1x128_S1x128_0_0).toLoadRect (harg4.unread x2)
  ex := View.readAt (Elt Ideal) arg5.view (Rect.unit (s := S32x2048) ![0, 0] S32x2048.size inb_S32x2048_S32x2048_0_0).toLoadRect (harg5.unread x3)
  exT := View.readAt (Elt Ideal) arg6.view (Rect.unit (s := S2048x128) ![0, 0] S2048x128.size inb_S2048x128_S2048x128_0_0).toLoadRect (harg6.unread x4)
  dy := View.readAt (Elt Ideal) arg8.view (Rect.unit (s := S128x2048) ![0, 0] S128x2048.size inb_S128x2048_S128x2048_0_0).toLoadRect (harg8.unread x6)
  sk := View.readAt (Elt Ideal) arg9.view (Rect.unit (s := S1x2048) ![0, 0] S1x2048.size inb_S1x2048_S1x2048_0_0).toLoadRect (harg9.unread x7)
  st := fun g => View.readAt (Elt Ideal) arg7.view (gRect3 g).toLoadRect (harg7.unread x5)
  ds := fun g => View.readAt (Elt Ideal) arg13.view (gRect g).toLoadRect (harg13.unread xs0)
  da := da

end

theorem step_dx (c : Dev nD) (i : grid0.Coords) (arg2 : Memref sig .tc .vmem S128x3072 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S32x2048 .bf16) (harg5 : arg5.IsWhole) (arg6 : Memref sig .tc .vmem S2048x128 .bf16) (harg6 : arg6.IsWhole) (arg7 : Memref sig .tc .vmem S1x128x2048 .f32) (harg7 : arg7.IsWhole) (arg8 : Memref sig .tc .vmem S128x2048 .f32) (harg8 : arg8.IsWhole) (arg9 : Memref sig .tc .vmem S1x2048 .f32) (harg9 : arg9.IsWhole) (arg10 : Memref sig .tc .vmem S128x3072 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S8x2048 .f32) (harg16 : arg16.IsWhole) (hc0 : ¬cond0_0 i) (hc1 : ¬cond0_1 i)
    (x0 : Vec Ideal S128x3072 .f32) (x1 : Vec Ideal S128x128 .f32) (x2 : Vec Ideal S1x128 .f32) (x3 : Vec Ideal S32x2048 .bf16) (x4 : Vec Ideal S2048x128 .bf16) (x5 : Vec Ideal S1x128x2048 .f32) (x6 : Vec Ideal S128x2048 .f32) (x7 : Vec Ideal S1x2048 .f32) (xo10 : Vec Ideal S1x128 .f32) (xs0 : Vec Ideal S128x2048 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xs0).1
      = let I := (rawIn arg2 harg2 arg3 harg3 arg4 harg4 arg5 harg5 arg6 harg6 arg7 harg7 arg8 harg8 arg9 harg9 arg13 harg13 x0 x1 x2 x3 x4 x5 x6 x7 xs0 (View.readAt (Elt Ideal) arg12.view (Rect.unit (s := S1x128) ![0, 0] S1x128.size inb_S1x128_S1x128_0_0).toLoadRect (harg12.unread xo10)))
        I.dxPieces (arg14.view.readCov (I.dxdPieces) (Rect.unit (s := S128x2048) ![0, 0] S128x2048.size inb_S128x2048_S128x2048_0_0).toLoadRect) := by
  sl_kernel_rfl

theorem step_ddt (c : Dev nD) (i : grid0.Coords) (arg2 : Memref sig .tc .vmem S128x3072 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S32x2048 .bf16) (harg5 : arg5.IsWhole) (arg6 : Memref sig .tc .vmem S2048x128 .bf16) (harg6 : arg6.IsWhole) (arg7 : Memref sig .tc .vmem S1x128x2048 .f32) (harg7 : arg7.IsWhole) (arg8 : Memref sig .tc .vmem S128x2048 .f32) (harg8 : arg8.IsWhole) (arg9 : Memref sig .tc .vmem S1x2048 .f32) (harg9 : arg9.IsWhole) (arg10 : Memref sig .tc .vmem S128x3072 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S8x2048 .f32) (harg16 : arg16.IsWhole) (hc0 : ¬cond0_0 i) (hc1 : ¬cond0_1 i)
    (x0 : Vec Ideal S128x3072 .f32) (x1 : Vec Ideal S128x128 .f32) (x2 : Vec Ideal S1x128 .f32) (x3 : Vec Ideal S32x2048 .bf16) (x4 : Vec Ideal S2048x128 .bf16) (x5 : Vec Ideal S1x128x2048 .f32) (x6 : Vec Ideal S128x2048 .f32) (x7 : Vec Ideal S1x2048 .f32) (xo10 : Vec Ideal S1x128 .f32) (xs0 : Vec Ideal S128x2048 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xs0).2.1
      = let I := (rawIn arg2 harg2 arg3 harg3 arg4 harg4 arg5 harg5 arg6 harg6 arg7 harg7 arg8 harg8 arg9 harg9 arg13 harg13 x0 x1 x2 x3 x4 x5 x6 x7 xs0 (View.readAt (Elt Ideal) arg12.view (Rect.unit (s := S1x128) ![0, 0] S1x128.size inb_S1x128_S1x128_0_0).toLoadRect (harg12.unread xo10)))
        I.ddtPieces (arg14.view.readCov (I.dxdPieces) (Rect.unit (s := S128x2048) ![0, 0] S128x2048.size inb_S128x2048_S128x2048_0_0).toLoadRect) (arg15.view.readCov I.ydPieces (Rect.unit (s := S128x2048) ![0, 0] S128x2048.size inb_S128x2048_S128x2048_0_0).toLoadRect) (arg16.view.readCov I.lastPieces (Rect.unit (s := S8x2048) ![0, 0] S8x2048.size inb_S8x2048_S8x2048_0_0).toLoadRect) := by
  sl_kernel_rfl

theorem step_da (c : Dev nD) (i : grid0.Coords) (arg2 : Memref sig .tc .vmem S128x3072 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S32x2048 .bf16) (harg5 : arg5.IsWhole) (arg6 : Memref sig .tc .vmem S2048x128 .bf16) (harg6 : arg6.IsWhole) (arg7 : Memref sig .tc .vmem S1x128x2048 .f32) (harg7 : arg7.IsWhole) (arg8 : Memref sig .tc .vmem S128x2048 .f32) (harg8 : arg8.IsWhole) (arg9 : Memref sig .tc .vmem S1x2048 .f32) (harg9 : arg9.IsWhole) (arg10 : Memref sig .tc .vmem S128x3072 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S8x2048 .f32) (harg16 : arg16.IsWhole) (hc0 : ¬cond0_0 i) (hc1 : ¬cond0_1 i)
    (x0 : Vec Ideal S128x3072 .f32) (x1 : Vec Ideal S128x128 .f32) (x2 : Vec Ideal S1x128 .f32) (x3 : Vec Ideal S32x2048 .bf16) (x4 : Vec Ideal S2048x128 .bf16) (x5 : Vec Ideal S1x128x2048 .f32) (x6 : Vec Ideal S128x2048 .f32) (x7 : Vec Ideal S1x2048 .f32) (xo10 : Vec Ideal S1x128 .f32) (xs0 : Vec Ideal S128x2048 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xs0).2.2.1
      = let I := (rawIn arg2 harg2 arg3 harg3 arg4 harg4 arg5 harg5 arg6 harg6 arg7 harg7 arg8 harg8 arg9 harg9 arg13 harg13 x0 x1 x2 x3 x4 x5 x6 x7 xs0 (View.readAt (Elt Ideal) arg12.view (Rect.unit (s := S1x128) ![0, 0] S1x128.size inb_S1x128_S1x128_0_0).toLoadRect (harg12.unread xo10)))
        I.daPieces (arg15.view.readCov I.ydPieces (Rect.unit (s := S128x2048) ![0, 0] S128x2048.size inb_S128x2048_S128x2048_0_0).toLoadRect) (arg16.view.readCov I.lastPieces (Rect.unit (s := S8x2048) ![0, 0] S8x2048.size inb_S8x2048_S8x2048_0_0).toLoadRect) := by
  sl_kernel_rfl

theorem step_next (c : Dev nD) (i : grid0.Coords) (arg2 : Memref sig .tc .vmem S128x3072 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S32x2048 .bf16) (harg5 : arg5.IsWhole) (arg6 : Memref sig .tc .vmem S2048x128 .bf16) (harg6 : arg6.IsWhole) (arg7 : Memref sig .tc .vmem S1x128x2048 .f32) (harg7 : arg7.IsWhole) (arg8 : Memref sig .tc .vmem S128x2048 .f32) (harg8 : arg8.IsWhole) (arg9 : Memref sig .tc .vmem S1x2048 .f32) (harg9 : arg9.IsWhole) (arg10 : Memref sig .tc .vmem S128x3072 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S8x2048 .f32) (harg16 : arg16.IsWhole) (hc0 : ¬cond0_0 i) (hc1 : ¬cond0_1 i)
    (x0 : Vec Ideal S128x3072 .f32) (x1 : Vec Ideal S128x128 .f32) (x2 : Vec Ideal S1x128 .f32) (x3 : Vec Ideal S32x2048 .bf16) (x4 : Vec Ideal S2048x128 .bf16) (x5 : Vec Ideal S1x128x2048 .f32) (x6 : Vec Ideal S128x2048 .f32) (x7 : Vec Ideal S1x2048 .f32) (xo10 : Vec Ideal S1x128 .f32) (xs0 : Vec Ideal S128x2048 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xs0).2.2.2.1
      = let I := (rawIn arg2 harg2 arg3 harg3 arg4 harg4 arg5 harg5 arg6 harg6 arg7 harg7 arg8 harg8 arg9 harg9 arg13 harg13 x0 x1 x2 x3 x4 x5 x6 x7 xs0 (View.readAt (Elt Ideal) arg12.view (Rect.unit (s := S1x128) ![0, 0] S1x128.size inb_S1x128_S1x128_0_0).toLoadRect (harg12.unread xo10)))
        I.nextPieces := by
  sl_kernel_rfl

theorem start_dx (c : Dev nD) (i : grid0.Coords) (arg2 : Memref sig .tc .vmem S128x3072 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S32x2048 .bf16) (harg5 : arg5.IsWhole) (arg6 : Memref sig .tc .vmem S2048x128 .bf16) (harg6 : arg6.IsWhole) (arg7 : Memref sig .tc .vmem S1x128x2048 .f32) (harg7 : arg7.IsWhole) (arg8 : Memref sig .tc .vmem S128x2048 .f32) (harg8 : arg8.IsWhole) (arg9 : Memref sig .tc .vmem S1x2048 .f32) (harg9 : arg9.IsWhole) (arg10 : Memref sig .tc .vmem S128x3072 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S8x2048 .f32) (harg16 : arg16.IsWhole) (hc0 : cond0_0 i) (hc1 : ¬cond0_1 i)
    (x0 : Vec Ideal S128x3072 .f32) (x1 : Vec Ideal S128x128 .f32) (x2 : Vec Ideal S1x128 .f32) (x3 : Vec Ideal S32x2048 .bf16) (x4 : Vec Ideal S2048x128 .bf16) (x5 : Vec Ideal S1x128x2048 .f32) (x6 : Vec Ideal S128x2048 .f32) (x7 : Vec Ideal S1x2048 .f32) (xo10 : Vec Ideal S1x128 .f32) (xs0 : Vec Ideal S128x2048 .f32) :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10).1
      = let I := ((rawIn arg2 harg2 arg3 harg3 arg4 harg4 arg5 harg5 arg6 harg6 arg7 harg7 arg8 harg8 arg9 harg9 arg13 harg13 x0 x1 x2 x3 x4 x5 x6 x7 xs0 (View.readAt (Elt Ideal) arg12.view (Rect.unit (s := S1x128) ![0, 0] S1x128.size inb_S1x128_S1x128_0_0).toLoadRect (harg12.unread xo10))).cleared arg13)
        I.dxPieces (arg14.view.readCov (I.dxdPieces) (Rect.unit (s := S128x2048) ![0, 0] S128x2048.size inb_S128x2048_S128x2048_0_0).toLoadRect) := by
  sl_kernel_rfl

theorem start_ddt (c : Dev nD) (i : grid0.Coords) (arg2 : Memref sig .tc .vmem S128x3072 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S32x2048 .bf16) (harg5 : arg5.IsWhole) (arg6 : Memref sig .tc .vmem S2048x128 .bf16) (harg6 : arg6.IsWhole) (arg7 : Memref sig .tc .vmem S1x128x2048 .f32) (harg7 : arg7.IsWhole) (arg8 : Memref sig .tc .vmem S128x2048 .f32) (harg8 : arg8.IsWhole) (arg9 : Memref sig .tc .vmem S1x2048 .f32) (harg9 : arg9.IsWhole) (arg10 : Memref sig .tc .vmem S128x3072 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S8x2048 .f32) (harg16 : arg16.IsWhole) (hc0 : cond0_0 i) (hc1 : ¬cond0_1 i)
    (x0 : Vec Ideal S128x3072 .f32) (x1 : Vec Ideal S128x128 .f32) (x2 : Vec Ideal S1x128 .f32) (x3 : Vec Ideal S32x2048 .bf16) (x4 : Vec Ideal S2048x128 .bf16) (x5 : Vec Ideal S1x128x2048 .f32) (x6 : Vec Ideal S128x2048 .f32) (x7 : Vec Ideal S1x2048 .f32) (xo10 : Vec Ideal S1x128 .f32) (xs0 : Vec Ideal S128x2048 .f32) :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10).2.1
      = let I := ((rawIn arg2 harg2 arg3 harg3 arg4 harg4 arg5 harg5 arg6 harg6 arg7 harg7 arg8 harg8 arg9 harg9 arg13 harg13 x0 x1 x2 x3 x4 x5 x6 x7 xs0 (View.readAt (Elt Ideal) arg12.view (Rect.unit (s := S1x128) ![0, 0] S1x128.size inb_S1x128_S1x128_0_0).toLoadRect (harg12.unread xo10))).cleared arg13)
        I.ddtPieces (arg14.view.readCov (I.dxdPieces) (Rect.unit (s := S128x2048) ![0, 0] S128x2048.size inb_S128x2048_S128x2048_0_0).toLoadRect) (arg15.view.readCov I.ydPieces (Rect.unit (s := S128x2048) ![0, 0] S128x2048.size inb_S128x2048_S128x2048_0_0).toLoadRect) (arg16.view.readCov I.lastPieces (Rect.unit (s := S8x2048) ![0, 0] S8x2048.size inb_S8x2048_S8x2048_0_0).toLoadRect) := by
  sl_kernel_rfl

theorem start_da (c : Dev nD) (i : grid0.Coords) (arg2 : Memref sig .tc .vmem S128x3072 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S32x2048 .bf16) (harg5 : arg5.IsWhole) (arg6 : Memref sig .tc .vmem S2048x128 .bf16) (harg6 : arg6.IsWhole) (arg7 : Memref sig .tc .vmem S1x128x2048 .f32) (harg7 : arg7.IsWhole) (arg8 : Memref sig .tc .vmem S128x2048 .f32) (harg8 : arg8.IsWhole) (arg9 : Memref sig .tc .vmem S1x2048 .f32) (harg9 : arg9.IsWhole) (arg10 : Memref sig .tc .vmem S128x3072 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S8x2048 .f32) (harg16 : arg16.IsWhole) (hc0 : cond0_0 i) (hc1 : ¬cond0_1 i)
    (x0 : Vec Ideal S128x3072 .f32) (x1 : Vec Ideal S128x128 .f32) (x2 : Vec Ideal S1x128 .f32) (x3 : Vec Ideal S32x2048 .bf16) (x4 : Vec Ideal S2048x128 .bf16) (x5 : Vec Ideal S1x128x2048 .f32) (x6 : Vec Ideal S128x2048 .f32) (x7 : Vec Ideal S1x2048 .f32) (xo10 : Vec Ideal S1x128 .f32) (xs0 : Vec Ideal S128x2048 .f32) :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10).2.2.1
      = let I := ((rawIn arg2 harg2 arg3 harg3 arg4 harg4 arg5 harg5 arg6 harg6 arg7 harg7 arg8 harg8 arg9 harg9 arg13 harg13 x0 x1 x2 x3 x4 x5 x6 x7 xs0 (View.readAt (Elt Ideal) arg12.view (Rect.unit (s := S1x128) ![0, 0] S1x128.size inb_S1x128_S1x128_0_0).toLoadRect (harg12.unread xo10))).cleared arg13)
        I.daPieces (arg15.view.readCov I.ydPieces (Rect.unit (s := S128x2048) ![0, 0] S128x2048.size inb_S128x2048_S128x2048_0_0).toLoadRect) (arg16.view.readCov I.lastPieces (Rect.unit (s := S8x2048) ![0, 0] S8x2048.size inb_S8x2048_S8x2048_0_0).toLoadRect) := by
  sl_kernel_rfl

theorem start_next (c : Dev nD) (i : grid0.Coords) (arg2 : Memref sig .tc .vmem S128x3072 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S32x2048 .bf16) (harg5 : arg5.IsWhole) (arg6 : Memref sig .tc .vmem S2048x128 .bf16) (harg6 : arg6.IsWhole) (arg7 : Memref sig .tc .vmem S1x128x2048 .f32) (harg7 : arg7.IsWhole) (arg8 : Memref sig .tc .vmem S128x2048 .f32) (harg8 : arg8.IsWhole) (arg9 : Memref sig .tc .vmem S1x2048 .f32) (harg9 : arg9.IsWhole) (arg10 : Memref sig .tc .vmem S128x3072 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S8x2048 .f32) (harg16 : arg16.IsWhole) (hc0 : cond0_0 i) (hc1 : ¬cond0_1 i)
    (x0 : Vec Ideal S128x3072 .f32) (x1 : Vec Ideal S128x128 .f32) (x2 : Vec Ideal S1x128 .f32) (x3 : Vec Ideal S32x2048 .bf16) (x4 : Vec Ideal S2048x128 .bf16) (x5 : Vec Ideal S1x128x2048 .f32) (x6 : Vec Ideal S128x2048 .f32) (x7 : Vec Ideal S1x2048 .f32) (xo10 : Vec Ideal S1x128 .f32) (xs0 : Vec Ideal S128x2048 .f32) :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10).2.2.2.1
      = let I := ((rawIn arg2 harg2 arg3 harg3 arg4 harg4 arg5 harg5 arg6 harg6 arg7 harg7 arg8 harg8 arg9 harg9 arg13 harg13 x0 x1 x2 x3 x4 x5 x6 x7 xs0 (View.readAt (Elt Ideal) arg12.view (Rect.unit (s := S1x128) ![0, 0] S1x128.size inb_S1x128_S1x128_0_0).toLoadRect (harg12.unread xo10))).cleared arg13)
        (I.clearedPieces arg13 4 le_rfl) := by
  sl_kernel_rfl

theorem first_dx (c : Dev nD) (i : grid0.Coords) (arg2 : Memref sig .tc .vmem S128x3072 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S32x2048 .bf16) (harg5 : arg5.IsWhole) (arg6 : Memref sig .tc .vmem S2048x128 .bf16) (harg6 : arg6.IsWhole) (arg7 : Memref sig .tc .vmem S1x128x2048 .f32) (harg7 : arg7.IsWhole) (arg8 : Memref sig .tc .vmem S128x2048 .f32) (harg8 : arg8.IsWhole) (arg9 : Memref sig .tc .vmem S1x2048 .f32) (harg9 : arg9.IsWhole) (arg10 : Memref sig .tc .vmem S128x3072 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S8x2048 .f32) (harg16 : arg16.IsWhole) (hc0 : cond0_0 i) (hc1 : cond0_1 i)
    (x0 : Vec Ideal S128x3072 .f32) (x1 : Vec Ideal S128x128 .f32) (x2 : Vec Ideal S1x128 .f32) (x3 : Vec Ideal S32x2048 .bf16) (x4 : Vec Ideal S2048x128 .bf16) (x5 : Vec Ideal S1x128x2048 .f32) (x6 : Vec Ideal S128x2048 .f32) (x7 : Vec Ideal S1x2048 .f32) (xs0 : Vec Ideal S128x2048 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).1
      = let I := ((rawIn arg2 harg2 arg3 harg3 arg4 harg4 arg5 harg5 arg6 harg6 arg7 harg7 arg8 harg8 arg9 harg9 arg13 harg13 x0 x1 x2 x3 x4 x5 x6 x7 xs0 (arg12.view.readCov [⟨Rect.unit (s := S1x128) ![0, 0] S1x128.size inb_S1x128_S1x128_0_0, k0_pay4 (F := Ideal)⟩] (Rect.unit (s := S1x128) ![0, 0] S1x128.size inb_S1x128_S1x128_0_0).toLoadRect)).cleared arg13)
        I.dxPieces (arg14.view.readCov (I.dxdPieces) (Rect.unit (s := S128x2048) ![0, 0] S128x2048.size inb_S128x2048_S128x2048_0_0).toLoadRect) := by
  sl_kernel_rfl

theorem first_ddt (c : Dev nD) (i : grid0.Coords) (arg2 : Memref sig .tc .vmem S128x3072 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S32x2048 .bf16) (harg5 : arg5.IsWhole) (arg6 : Memref sig .tc .vmem S2048x128 .bf16) (harg6 : arg6.IsWhole) (arg7 : Memref sig .tc .vmem S1x128x2048 .f32) (harg7 : arg7.IsWhole) (arg8 : Memref sig .tc .vmem S128x2048 .f32) (harg8 : arg8.IsWhole) (arg9 : Memref sig .tc .vmem S1x2048 .f32) (harg9 : arg9.IsWhole) (arg10 : Memref sig .tc .vmem S128x3072 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S8x2048 .f32) (harg16 : arg16.IsWhole) (hc0 : cond0_0 i) (hc1 : cond0_1 i)
    (x0 : Vec Ideal S128x3072 .f32) (x1 : Vec Ideal S128x128 .f32) (x2 : Vec Ideal S1x128 .f32) (x3 : Vec Ideal S32x2048 .bf16) (x4 : Vec Ideal S2048x128 .bf16) (x5 : Vec Ideal S1x128x2048 .f32) (x6 : Vec Ideal S128x2048 .f32) (x7 : Vec Ideal S1x2048 .f32) (xs0 : Vec Ideal S128x2048 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.1
      = let I := ((rawIn arg2 harg2 arg3 harg3 arg4 harg4 arg5 harg5 arg6 harg6 arg7 harg7 arg8 harg8 arg9 harg9 arg13 harg13 x0 x1 x2 x3 x4 x5 x6 x7 xs0 (arg12.view.readCov [⟨Rect.unit (s := S1x128) ![0, 0] S1x128.size inb_S1x128_S1x128_0_0, k0_pay4 (F := Ideal)⟩] (Rect.unit (s := S1x128) ![0, 0] S1x128.size inb_S1x128_S1x128_0_0).toLoadRect)).cleared arg13)
        I.ddtPieces (arg14.view.readCov (I.dxdPieces) (Rect.unit (s := S128x2048) ![0, 0] S128x2048.size inb_S128x2048_S128x2048_0_0).toLoadRect) (arg15.view.readCov I.ydPieces (Rect.unit (s := S128x2048) ![0, 0] S128x2048.size inb_S128x2048_S128x2048_0_0).toLoadRect) (arg16.view.readCov I.lastPieces (Rect.unit (s := S8x2048) ![0, 0] S8x2048.size inb_S8x2048_S8x2048_0_0).toLoadRect) := by
  sl_kernel_rfl

theorem first_da (c : Dev nD) (i : grid0.Coords) (arg2 : Memref sig .tc .vmem S128x3072 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S32x2048 .bf16) (harg5 : arg5.IsWhole) (arg6 : Memref sig .tc .vmem S2048x128 .bf16) (harg6 : arg6.IsWhole) (arg7 : Memref sig .tc .vmem S1x128x2048 .f32) (harg7 : arg7.IsWhole) (arg8 : Memref sig .tc .vmem S128x2048 .f32) (harg8 : arg8.IsWhole) (arg9 : Memref sig .tc .vmem S1x2048 .f32) (harg9 : arg9.IsWhole) (arg10 : Memref sig .tc .vmem S128x3072 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S8x2048 .f32) (harg16 : arg16.IsWhole) (hc0 : cond0_0 i) (hc1 : cond0_1 i)
    (x0 : Vec Ideal S128x3072 .f32) (x1 : Vec Ideal S128x128 .f32) (x2 : Vec Ideal S1x128 .f32) (x3 : Vec Ideal S32x2048 .bf16) (x4 : Vec Ideal S2048x128 .bf16) (x5 : Vec Ideal S1x128x2048 .f32) (x6 : Vec Ideal S128x2048 .f32) (x7 : Vec Ideal S1x2048 .f32) (xs0 : Vec Ideal S128x2048 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.1
      = let I := ((rawIn arg2 harg2 arg3 harg3 arg4 harg4 arg5 harg5 arg6 harg6 arg7 harg7 arg8 harg8 arg9 harg9 arg13 harg13 x0 x1 x2 x3 x4 x5 x6 x7 xs0 (arg12.view.readCov [⟨Rect.unit (s := S1x128) ![0, 0] S1x128.size inb_S1x128_S1x128_0_0, k0_pay4 (F := Ideal)⟩] (Rect.unit (s := S1x128) ![0, 0] S1x128.size inb_S1x128_S1x128_0_0).toLoadRect)).cleared arg13)
        I.daPieces (arg15.view.readCov I.ydPieces (Rect.unit (s := S128x2048) ![0, 0] S128x2048.size inb_S128x2048_S128x2048_0_0).toLoadRect) (arg16.view.readCov I.lastPieces (Rect.unit (s := S8x2048) ![0, 0] S8x2048.size inb_S8x2048_S8x2048_0_0).toLoadRect) ++ [⟨Rect.unit (s := S1x128) ![0, 0] S1x128.size inb_S1x128_S1x128_0_0, k0_pay4 (F := Ideal)⟩] := by
  sl_kernel_rfl

theorem first_next (c : Dev nD) (i : grid0.Coords) (arg2 : Memref sig .tc .vmem S128x3072 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S32x2048 .bf16) (harg5 : arg5.IsWhole) (arg6 : Memref sig .tc .vmem S2048x128 .bf16) (harg6 : arg6.IsWhole) (arg7 : Memref sig .tc .vmem S1x128x2048 .f32) (harg7 : arg7.IsWhole) (arg8 : Memref sig .tc .vmem S128x2048 .f32) (harg8 : arg8.IsWhole) (arg9 : Memref sig .tc .vmem S1x2048 .f32) (harg9 : arg9.IsWhole) (arg10 : Memref sig .tc .vmem S128x3072 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S8x2048 .f32) (harg16 : arg16.IsWhole) (hc0 : cond0_0 i) (hc1 : cond0_1 i)
    (x0 : Vec Ideal S128x3072 .f32) (x1 : Vec Ideal S128x128 .f32) (x2 : Vec Ideal S1x128 .f32) (x3 : Vec Ideal S32x2048 .bf16) (x4 : Vec Ideal S2048x128 .bf16) (x5 : Vec Ideal S1x128x2048 .f32) (x6 : Vec Ideal S128x2048 .f32) (x7 : Vec Ideal S1x2048 .f32) (xs0 : Vec Ideal S128x2048 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.1
      = let I := ((rawIn arg2 harg2 arg3 harg3 arg4 harg4 arg5 harg5 arg6 harg6 arg7 harg7 arg8 harg8 arg9 harg9 arg13 harg13 x0 x1 x2 x3 x4 x5 x6 x7 xs0 (arg12.view.readCov [⟨Rect.unit (s := S1x128) ![0, 0] S1x128.size inb_S1x128_S1x128_0_0, k0_pay4 (F := Ideal)⟩] (Rect.unit (s := S1x128) ![0, 0] S1x128.size inb_S1x128_S1x128_0_0).toLoadRect)).cleared arg13)
        (I.clearedPieces arg13 4 le_rfl) := by
  sl_kernel_rfl

end Cert.KernelIdeal.Hand
-- ==== Proof.SsdOut.lean ====
/- The results of each case of the recurrence's gradient on real operands, as blocks of real numbers. -/
module

public import proofs.«01_k».proof.Proof.SsdEval
public import proofs.«01_k».proof.Proof.SsdPieces
public import proofs.«01_k».proof.Proof.Gen.KernelIdeal.Frame
public import Idealize.ShloMosaic.Lib.Pipeline.ValueKit.Tiles

@[expose] public section

set_option maxRecDepth 16384

noncomputable section

namespace Cert.KernelIdeal.Hand

open Cert.KernelIdeal Cert.KernelIdeal.Gen Idealize.ShloMosaic Idealize.ShloMosaic.TcCoe

theorem hz : (![0, 0] : Fin 2 → Nat) = fun _ => 0 := funext fun a => by fin_cases a <;> rfl

theorem mat_at {a b : ℕ} {w : FTy} (f : ℕ → ℕ → ℝ) (x : (⟨2, ![a, b]⟩ : Shape).Idx) :
    (mat f : FVec Ideal ⟨2, ![a, b]⟩ w) x = ((f (x 0).val (x 1).val : ℝ) : EReal) := rfl

theorem mat_eq_at {a b a' b' : ℕ} {w w' : FTy} (f g : ℕ → ℕ → ℝ) (x : (⟨2, ![a, b]⟩ : Shape).Idx) (y : (⟨2, ![a', b']⟩ : Shape).Idx)
    (h : f (x 0).val (x 1).val = g (y 0).val (y 1).val) :
    (mat f : FVec Ideal ⟨2, ![a, b]⟩ w) x = (mat g : FVec Ideal ⟨2, ![a', b']⟩ w') y := congrArg _ h

/-- A family of blocks of columns, all of the matrix `f`, leaves `f`. -/
theorem canon_cols {R C w N : ℕ} (hC : C = w * N) (hw : 0 < w) (f : ℕ → ℕ → ℝ)
    (P : Fin N → FVec Ideal ⟨2, ![R, w]⟩ .f32) (hP : ∀ k, P k = mat fun i j => f i (w * k.val + j))
    (inb : ∀ (k : Fin N) a, (![0, w * k.val] : Fin 2 → ℕ) a + (![R, w] : Fin 2 → ℕ) a ≤ (⟨2, ![R, C]⟩ : Shape).size a) :
    View.canon (List.ofFn fun k : Fin N => (⟨Rect.unit (s := ⟨2, ![R, C]⟩) ![0, w * k.rev.val] ![R, w] (inb k.rev), P k.rev⟩ :
      View.Piece (Elt Ideal) ⟨2, ![R, C]⟩ .f32)) = (mat f : FVec Ideal ⟨2, ![R, C]⟩ .f32) := by
  funext y
  have hy : (y 1).val < w * N := hC ▸ (y 1).isLt
  refine View.canon_ofFn_unit_eq_of_forall (S := ⟨2, ![R, C]⟩) (fun k : Fin N => ![0, w * k.rev.val]) ![R, w] _ _ y _
    ⟨(⟨(y 1).val / w, Nat.div_lt_of_lt_mul hy⟩ : Fin N).rev, fun a => ?_⟩ fun k x hx => ?_
  · rw [Fin.rev_rev]
    have := Nat.div_add_mod (y 1).val w
    have := Nat.mod_lt (y 1).val hw
    fin_cases a
    · exact ⟨Nat.zero_le _, by simpa using (y 0).isLt⟩
    · refine ⟨?_, ?_⟩ <;> simp only [Fin.mk_one, Matrix.cons_val_one, Matrix.cons_val_fin_one] <;> omega
  · rw [hP]
    refine mat_eq_at _ _ _ _ ?_
    have h0 : (y 0).val = 0 + (x 0).val := hx 0
    have h1 : (y 1).val = w * k.rev.val + (x 1).val := hx 1
    rw [h0, h1, Nat.zero_add]

theorem emb_ext {R C : ℕ} {x : (⟨2, ![R, C]⟩ : Shape).Idx} (y : (⟨2, ![R, C]⟩ : Shape).Idx) (h0 : (x 0).val = (y 0).val)
    (h1 : (x 1).val = (y 1).val) : x = y := funext fun a => Fin.ext (by fin_cases a; exacts [h0, h1])

namespace Chunk

variable (D : Chunk)

/-- The block of the inputs' gradient: the heads' columns, then the groups' `b` and `c`. -/
def outX (s p : ℕ) : ℝ :=
  if p < 2048 then D.dxOut s p else if p < 2560 then D.dbOut ((p - 2048) / 128) s ((p - 2048) % 128)
    else D.dcOut ((p - 2560) / 128) s ((p - 2560) % 128)

theorem canon_dxd : View.canon D.toIn.dxdPieces = (mat D.dxd : FVec Ideal S128x2048 .f32) :=
  canon_cols (R := 128) (C := 2048) (w := 64) (N := 32) rfl (by decide) D.dxd _ D.dxd_mat In.inb64
theorem canon_yd : View.canon D.toIn.ydPieces = (mat D.yd : FVec Ideal S128x2048 .f32) :=
  canon_cols (R := 128) (C := 2048) (w := 512) (N := 4) rfl (by decide) D.yd _ D.yd_mat In.inb512
theorem canon_last : View.canon D.toIn.lastPieces = (mat fun _ p => D.last p : FVec Ideal S8x2048 .f32) :=
  canon_cols (R := 8) (C := 2048) (w := 512) (N := 4) rfl (by decide) (fun _ p => D.last p) _ D.last_mat In.inb8
theorem canon_next : View.canon D.toIn.nextPieces = (mat D.next : FVec Ideal S128x2048 .f32) :=
  canon_cols (R := 128) (C := 2048) (w := 512) (N := 4) rfl (by decide) D.next _ D.next_mat In.inb512

theorem bc_mat (k : Fin 8) : (if k.val % 2 = 0 then D.toIn.dcOut ⟨3 - k.val / 2, by omega⟩ else D.toIn.dbOut ⟨3 - k.val / 2, by omega⟩)
    = mat fun s n => if k.val % 2 = 0 then D.dcOut (3 - k.val / 2) s n else D.dbOut (3 - k.val / 2) s n := by
  split
  · exact D.dcOut_mat _
  · exact D.dbOut_mat _

theorem canon_dx (y : S128x3072.Idx) : View.canon (D.toIn.dxPieces (mat D.dxd)) y = (mat D.outX : FVec Ideal S128x3072 .f32) y := by
  have hy : (y 1).val < 3072 := (y 1).isLt
  have hy0 : (y 0).val < 128 := (y 0).isLt
  unfold In.dxPieces
  by_cases h : (y 1).val < 2048
  · have he : y = (Rect.unit (s := S128x3072) ![0, 0] ![128, 2048] inb_S128x3072_S128x2048_0_0).emb
        (ix2 (⟨(y 0).val, hy0⟩ : Fin 128) (⟨(y 1).val, h⟩ : Fin 2048)) :=
      emb_ext _ (by show (y 0).val = 0 + 1 * (y 0).val; omega) (by show (y 1).val = 0 + 1 * (y 1).val; omega)
    conv_lhs => rw [he]
    rw [View.canon_cons_emb, dxOut_mat]
    refine mat_eq_at _ _ _ _ ?_
    show D.dxOut (y 0).val (y 1).val = _
    rw [outX, if_pos h]
  · rw [View.canon_cons_of_not_mem _ _ (by rw [Rect.mem_set_unit]; intro hh; exact h (by simpa using (hh 1).2))]
    refine View.canon_ofFn_unit_eq_of_forall (S := S128x3072) (fun k : Fin 8 => ![0, 2048 + 512 * ((k.val + 1) % 2) + 128 * (3 - k.val / 2)])
      ![128, 128] _ _ y _
      ⟨⟨if (y 1).val < 2560 then 7 - 2 * (((y 1).val - 2048) / 128) else 6 - 2 * (((y 1).val - 2560) / 128), by split <;> omega⟩, fun a => ?_⟩
      fun k x hx => ?_
    · fin_cases a
      · exact ⟨Nat.zero_le _, by simpa using hy0⟩
      · simp only [Fin.mk_one, Matrix.cons_val_one, Matrix.cons_val_fin_one]
        split <;> omega
    · rw [bc_mat]
      refine mat_eq_at _ _ _ _ ?_
      have h0 : (y 0).val = 0 + (x 0).val := hx 0
      have h1 : (y 1).val = 2048 + 512 * ((k.val + 1) % 2) + 128 * (3 - k.val / 2) + (x 1).val := hx 1
      have hx1 : (x 1).val < 128 := (x 1).isLt
      have hk := k.isLt
      unfold outX
      rw [h0, Nat.zero_add, if_neg h]
      split
      · rw [if_neg (by omega), show ((y 1).val - 2560) / 128 = 3 - k.val / 2 by omega, show ((y 1).val - 2560) % 128 = (x 1).val by omega]
      · rw [if_pos (by omega), show ((y 1).val - 2048) / 128 = 3 - k.val / 2 by omega, show ((y 1).val - 2048) % 128 = (x 1).val by omega]

end Chunk

/-- The operands read hold the real numbers `D`. -/
structure Reads (D : Chunk) (x0 : Vec Ideal S128x3072 .f32) (x1 : Vec Ideal S128x128 .f32) (x2 : Vec Ideal S1x128 .f32) (x3 : Vec Ideal S32x2048 .bf16) (x4 : Vec Ideal S2048x128 .bf16) (x5 : Vec Ideal S1x128x2048 .f32) (x6 : Vec Ideal S128x2048 .f32) (x7 : Vec Ideal S1x2048 .f32) : Prop where
  x : x0 = (mat D.x : FVec Ideal S128x3072 .f32)
  dt : x1 = (mat D.dt : FVec Ideal S128x128 .f32)
  al : x2 = (mat (fun _ j => D.al j) : FVec Ideal S1x128 .f32)
  ex : x3 = (mat (fun h p => Chunk.hot p h) : FVec Ideal S32x2048 .bf16)
  exT : x4 = (mat Chunk.hot : FVec Ideal S2048x128 .bf16)
  st : x5 = fun i : S1x128x2048.Idx => ((D.st (i 1).val (i 2).val : ℝ) : EReal)
  dy : x6 = (mat D.dy : FVec Ideal S128x2048 .f32)
  sk : x7 = (mat (fun _ j => D.sk j) : FVec Ideal S1x2048 .f32)

section

variable {arg2 : Memref sig .tc .vmem S128x3072 .f32} {harg2 : arg2.IsWhole} {arg3 : Memref sig .tc .vmem S128x128 .f32} {harg3 : arg3.IsWhole} {arg4 : Memref sig .tc .vmem S1x128 .f32} {harg4 : arg4.IsWhole} {arg5 : Memref sig .tc .vmem S32x2048 .bf16} {harg5 : arg5.IsWhole} {arg6 : Memref sig .tc .vmem S2048x128 .bf16} {harg6 : arg6.IsWhole} {arg7 : Memref sig .tc .vmem S1x128x2048 .f32} {harg7 : arg7.IsWhole} {arg8 : Memref sig .tc .vmem S128x2048 .f32} {harg8 : arg8.IsWhole} {arg9 : Memref sig .tc .vmem S1x2048 .f32} {harg9 : arg9.IsWhole} {arg10 : Memref sig .tc .vmem S128x3072 .f32} {harg10 : arg10.IsWhole} {arg11 : Memref sig .tc .vmem S128x128 .f32} {harg11 : arg11.IsWhole} {arg12 : Memref sig .tc .vmem S1x128 .f32} {harg12 : arg12.IsWhole} {arg13 : Memref sig .tc .vmem S128x2048 .f32} {harg13 : arg13.IsWhole} {arg14 : Memref sig .tc .vmem S128x2048 .f32} {harg14 : arg14.IsWhole} {arg15 : Memref sig .tc .vmem S128x2048 .f32} {harg15 : arg15.IsWhole} {arg16 : Memref sig .tc .vmem S8x2048 .f32} {harg16 : arg16.IsWhole}
  {D : Chunk} {x0 : Vec Ideal S128x3072 .f32} {x1 : Vec Ideal S128x128 .f32} {x2 : Vec Ideal S1x128 .f32} {x3 : Vec Ideal S32x2048 .bf16} {x4 : Vec Ideal S2048x128 .bf16} {x5 : Vec Ideal S1x128x2048 .f32} {x6 : Vec Ideal S128x2048 .f32} {x7 : Vec Ideal S1x2048 .f32}

/-- What a point reads of those operands. -/
theorem rawIn_eq (H : Reads D x0 x1 x2 x3 x4 x5 x6 x7) (xs0 : Vec Ideal S128x2048 .f32) (da : Vec Ideal S1x128 .f32) :
    rawIn arg2 harg2 arg3 harg3 arg4 harg4 arg5 harg5 arg6 harg6 arg7 harg7 arg8 harg8 arg9 harg9 arg13 harg13 x0 x1 x2 x3 x4 x5 x6 x7 xs0 da
      = { D.toIn with ds := fun g => View.ld xs0 (gRect g), da := da } := by
  obtain ⟨rfl, rfl, rfl, rfl, rfl, rfl, rfl, rfl⟩ := H
  unfold rawIn Chunk.toIn
  simp only [View.readAt_eq_ld, harg2.read_unread, harg3.read_unread, harg4.read_unread, harg5.read_unread, harg6.read_unread, harg7.read_unread,
    harg8.read_unread, harg9.read_unread, harg13.read_unread, View.ld_unit_zero (S := S128x3072) hz, View.ld_unit_zero (S := S128x128) hz,
    View.ld_unit_zero (S := S1x128) hz, View.ld_unit_zero (S := S32x2048) hz, View.ld_unit_zero (S := S2048x128) hz,
    View.ld_unit_zero (S := S128x2048) hz, View.ld_unit_zero (S := S1x2048) hz]
  congr 1
  funext g i
  show ((D.st (0 + 1 * (i 1).val) (512 * g.val + 1 * (i 2).val) : ℝ) : EReal) = _
  rw [Nat.zero_add, Nat.one_mul, Nat.one_mul]

theorem rawIn_carried (H : Reads D x0 x1 x2 x3 x4 x5 x6 x7) :
    rawIn arg2 harg2 arg3 harg3 arg4 harg4 arg5 harg5 arg6 harg6 arg7 harg7 arg8 harg8 arg9 harg9 arg13 harg13 x0 x1 x2 x3 x4 x5 x6 x7 (mat D.ds : FVec Ideal S128x2048 .f32)
      (mat (fun _ j => D.da j) : FVec Ideal S1x128 .f32) = D.toIn := by
  rw [rawIn_eq (H := H)]
  have : (fun g => View.ld (mat D.ds : FVec Ideal S128x2048 .f32) (gRect g)) = D.toIn.ds := by
    funext g i
    show ((D.ds (0 + 1 * (i 0).val) (512 * g.val + 1 * (i 1).val) : ℝ) : EReal) = _
    rw [Nat.zero_add, Nat.one_mul, Nat.one_mul]
    rfl
  rw [this]
  rfl

/-- The chunk that starts with no carried gradient. -/
def Chunk.fresh (D : Chunk) : Chunk := { D with ds := fun _ _ => 0 }

theorem pay3_mat : k0_pay3 (F := Ideal) = mat fun _ _ => 0 := by
  unfold k0_pay3; funext i; pointwise; rfl
theorem pay4_mat : k0_pay4 (F := Ideal) = mat fun _ _ => 0 := by
  unfold k0_pay4; funext i; pointwise; rfl

theorem loadGroup_zero (v : Memref sig .tc .vmem S128x2048 .f32) (L : List (View.Piece (Elt Ideal) S128x2048 .f32)) (f : ℕ → ℕ → ℝ)
    (h : View.canon L = (mat f : FVec Ideal S128x2048 .f32)) (g : Fin 4) (hf : ∀ i p, 512 * g.val ≤ p → p < 512 * g.val + 512 → f i p = 0) :
    In.loadGroup v L g = D.fresh.toIn.ds g := by
  unfold In.loadGroup
  rw [View.readCov_eq_canon', h]
  funext j
  have hj : (j 1).val < 512 := (j 1).isLt
  show ((f _ (512 * g.val + 1 * (j 1).val) : ℝ) : EReal) = ((0 : ℝ) : EReal)
  exact congrArg _ (hf _ _ (by omega) (by omega))

/-- After the first `n` groups' stores the groups from `n` on still hold zero and those before it the gradient carried on. -/
theorem canon_cleared (v : Memref sig .tc .vmem S128x2048 .f32) (I : In) (hI : ∀ d, I.withDs d = D.toIn.withDs d) :
    ∀ (n : ℕ) (hn : n ≤ 4), View.canon (I.clearedPieces v n hn) = (mat fun i p => if p < 512 * n then D.fresh.next i p else 0 : FVec Ideal S128x2048 .f32)
  | 0, _ => by
    unfold In.clearedPieces
    rw [View.canon_unit_zero (S := S128x2048) hz, pay3_mat]
    exact mat_congr fun _ _ _ _ => by simp
  | n + 1, hn => by
    unfold In.clearedPieces
    have e : (I.withDs fun _ => In.loadGroup v (I.clearedPieces v n (Nat.le_of_succ_le hn)) ⟨n, hn⟩).next ⟨n, hn⟩ = D.fresh.toIn.next ⟨n, hn⟩ := by
      rw [hI, loadGroup_zero (D := D) v _ _ (canon_cleared v I hI n (Nat.le_of_succ_le hn)) ⟨n, hn⟩ fun i p h _ => if_neg (Nat.not_lt.mpr h)]
      rfl
    rw [e, Chunk.next_mat]
    funext y
    have hy : (y 1).val < 2048 := (y 1).isLt
    have hy0 : (y 0).val < 128 := (y 0).isLt
    by_cases h : 512 * n ≤ (y 1).val ∧ (y 1).val < 512 * n + 512
    · have he : y = (gRect ⟨n, hn⟩).emb (ix2 (⟨(y 0).val, hy0⟩ : Fin 128) (⟨(y 1).val - 512 * n, by omega⟩ : Fin 512)) :=
        emb_ext _ (by show (y 0).val = 0 + 1 * (y 0).val; omega) (by show (y 1).val = 512 * n + 1 * ((y 1).val - 512 * n); omega)
      conv_lhs => rw [he]
      refine (View.canon_cons_emb (gRect ⟨n, hn⟩) _ _ _).trans ?_
      refine mat_eq_at _ _ _ _ ?_
      show D.fresh.next (y 0).val (512 * n + ((y 1).val - 512 * n)) = if (y 1).val < 512 * (n + 1) then D.fresh.next (y 0).val (y 1).val else 0
      rw [if_pos (by omega), Nat.add_sub_cancel' h.1]
    · rw [View.canon_cons_of_not_mem _ _ (by show y ∉ (Rect.unit (s := S128x2048) ![0, 512 * n] ![128, 512] (In.inb512 ⟨n, hn⟩)).set; rw [Rect.mem_set_unit]; intro hh; exact h (by simpa using hh 1)), canon_cleared v I hI n]
      refine mat_eq_at _ _ _ _ ?_
      simp only [show ((y 1).val < 512 * (n + 1) ↔ (y 1).val < 512 * n) by omega]

theorem cleared_eq (v : Memref sig .tc .vmem S128x2048 .f32) (I : In) (hI : ∀ d, I.withDs d = D.toIn.withDs d) :
    I.cleared v = D.fresh.toIn := by
  unfold In.cleared
  rw [hI]
  have : (fun g : Fin 4 => In.loadGroup v (I.clearedPieces v g.val g.isLt.le) g) = D.fresh.toIn.ds :=
    funext fun g => loadGroup_zero v _ _ (canon_cleared v I hI g.val g.isLt.le) g fun i p h _ => if_neg (Nat.not_lt.mpr h)
  rw [this]
  rfl

/-- A load of a whole block is the block. -/
theorem readCov_whole {R C : ℕ} (v : View sig .tc .vmem ⟨2, ![R, C]⟩ .f32) (L : List (View.Piece (Elt Ideal) ⟨2, ![R, C]⟩ .f32)) (inb) :
    v.readCov L (Rect.unit (s := ⟨2, ![R, C]⟩) ![0, 0] ![R, C] inb).toLoadRect = View.canon L := by
  rw [View.readCov_eq_canon']
  exact View.ld_unit_zero (S := ⟨2, ![R, C]⟩) hz inb (View.canon L)

end

/-- A point that takes over the gradient carried from the chunk after its own. -/
theorem step_out {c : Dev nD} {i : grid0.Coords} {arg2 : Memref sig .tc .vmem S128x3072 .f32} {harg2 : arg2.IsWhole} {arg3 : Memref sig .tc .vmem S128x128 .f32} {harg3 : arg3.IsWhole} {arg4 : Memref sig .tc .vmem S1x128 .f32} {harg4 : arg4.IsWhole} {arg5 : Memref sig .tc .vmem S32x2048 .bf16} {harg5 : arg5.IsWhole} {arg6 : Memref sig .tc .vmem S2048x128 .bf16} {harg6 : arg6.IsWhole} {arg7 : Memref sig .tc .vmem S1x128x2048 .f32} {harg7 : arg7.IsWhole} {arg8 : Memref sig .tc .vmem S128x2048 .f32} {harg8 : arg8.IsWhole} {arg9 : Memref sig .tc .vmem S1x2048 .f32} {harg9 : arg9.IsWhole} {arg10 : Memref sig .tc .vmem S128x3072 .f32} {harg10 : arg10.IsWhole} {arg11 : Memref sig .tc .vmem S128x128 .f32} {harg11 : arg11.IsWhole} {arg12 : Memref sig .tc .vmem S1x128 .f32} {harg12 : arg12.IsWhole} {arg13 : Memref sig .tc .vmem S128x2048 .f32} {harg13 : arg13.IsWhole} {arg14 : Memref sig .tc .vmem S128x2048 .f32} {harg14 : arg14.IsWhole} {arg15 : Memref sig .tc .vmem S128x2048 .f32} {harg15 : arg15.IsWhole} {arg16 : Memref sig .tc .vmem S8x2048 .f32} {harg16 : arg16.IsWhole} {hc0 : ¬cond0_0 i} {hc1 : ¬cond0_1 i}
    {x0 : Vec Ideal S128x3072 .f32} {x1 : Vec Ideal S128x128 .f32} {x2 : Vec Ideal S1x128 .f32} {x3 : Vec Ideal S32x2048 .bf16} {x4 : Vec Ideal S2048x128 .bf16} {x5 : Vec Ideal S1x128x2048 .f32} {x6 : Vec Ideal S128x2048 .f32} {x7 : Vec Ideal S1x2048 .f32} {xo10 : Vec Ideal S1x128 .f32} {xs0 : Vec Ideal S128x2048 .f32} {D : Chunk} (H : Reads D x0 x1 x2 x3 x4 x5 x6 x7) (hda : xo10 = (mat (fun _ j => D.da j) : FVec Ideal S1x128 .f32)) (hds : xs0 = (mat D.ds : FVec Ideal S128x2048 .f32)) :
    (out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xs0, out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xs0, out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xs0, sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10 xs0)
      = ((mat D.outX : FVec Ideal S128x3072 .f32), (mat D.ddtOut : FVec Ideal S128x128 .f32),
        (mat (fun _ h => D.daOut h) : FVec Ideal S1x128 .f32), (mat D.next : FVec Ideal S128x2048 .f32)) := by
  subst hda hds
  refine Prod.ext ?_ (Prod.ext ?_ (Prod.ext ?_ ?_)) <;> dsimp only
  · unfold out0_B_8
    rw [View.read_writes_eq_canon _ _ _ (fun y => cover0_B_8 (y := y) ..), step_dx]
    dsimp only
    simp only [View.readAt_eq_ld, harg12.read_unread, View.ld_unit_zero (S := S1x128) hz, ]
    rw [rawIn_carried (H := H)]
    rw [readCov_whole (R := 128) (C := 2048), D.canon_dxd]; exact funext D.canon_dx
  · unfold out0_B_9
    rw [View.read_writes_eq_canon _ _ _ (fun y => cover0_B_9 (y := y) ..), step_ddt]
    dsimp only
    simp only [View.readAt_eq_ld, harg12.read_unread, View.ld_unit_zero (S := S1x128) hz, ]
    rw [rawIn_carried (H := H)]
    rw [readCov_whole (R := 128) (C := 2048), D.canon_dxd, readCov_whole (R := 128) (C := 2048), D.canon_yd, readCov_whole (R := 8) (C := 2048), D.canon_last, In.ddtPieces, View.canon_unit_zero (S := S128x128) hz, Chunk.ddtOut_mat]
  · unfold out0_B_10
    rw [View.read_writes_eq_canon _ _ _ (fun y => cover0_B_10 (y := y) ..), step_da]
    dsimp only
    simp only [View.readAt_eq_ld, harg12.read_unread, View.ld_unit_zero (S := S1x128) hz, ]
    rw [rawIn_carried (H := H)]
    rw [readCov_whole (R := 128) (C := 2048), D.canon_yd, readCov_whole (R := 8) (C := 2048), D.canon_last, In.daPieces]; rw [View.canon_unit_zero (S := S1x128) hz, Chunk.daOut_mat]
  · unfold sout0_B_0
    rw [View.read_writes_eq_canon _ _ _ (fun y => scover0_B_0 (y := y) ..), step_next]
    dsimp only
    simp only [View.readAt_eq_ld, harg12.read_unread, View.ld_unit_zero (S := S1x128) hz, ]
    rw [rawIn_carried (H := H)]
    exact D.canon_next

/-- A batch's first point, whose chunk is the last in time. -/
theorem start_out {c : Dev nD} {i : grid0.Coords} {arg2 : Memref sig .tc .vmem S128x3072 .f32} {harg2 : arg2.IsWhole} {arg3 : Memref sig .tc .vmem S128x128 .f32} {harg3 : arg3.IsWhole} {arg4 : Memref sig .tc .vmem S1x128 .f32} {harg4 : arg4.IsWhole} {arg5 : Memref sig .tc .vmem S32x2048 .bf16} {harg5 : arg5.IsWhole} {arg6 : Memref sig .tc .vmem S2048x128 .bf16} {harg6 : arg6.IsWhole} {arg7 : Memref sig .tc .vmem S1x128x2048 .f32} {harg7 : arg7.IsWhole} {arg8 : Memref sig .tc .vmem S128x2048 .f32} {harg8 : arg8.IsWhole} {arg9 : Memref sig .tc .vmem S1x2048 .f32} {harg9 : arg9.IsWhole} {arg10 : Memref sig .tc .vmem S128x3072 .f32} {harg10 : arg10.IsWhole} {arg11 : Memref sig .tc .vmem S128x128 .f32} {harg11 : arg11.IsWhole} {arg12 : Memref sig .tc .vmem S1x128 .f32} {harg12 : arg12.IsWhole} {arg13 : Memref sig .tc .vmem S128x2048 .f32} {harg13 : arg13.IsWhole} {arg14 : Memref sig .tc .vmem S128x2048 .f32} {harg14 : arg14.IsWhole} {arg15 : Memref sig .tc .vmem S128x2048 .f32} {harg15 : arg15.IsWhole} {arg16 : Memref sig .tc .vmem S8x2048 .f32} {harg16 : arg16.IsWhole} {hc0 : cond0_0 i} {hc1 : ¬cond0_1 i}
    {x0 : Vec Ideal S128x3072 .f32} {x1 : Vec Ideal S128x128 .f32} {x2 : Vec Ideal S1x128 .f32} {x3 : Vec Ideal S32x2048 .bf16} {x4 : Vec Ideal S2048x128 .bf16} {x5 : Vec Ideal S1x128x2048 .f32} {x6 : Vec Ideal S128x2048 .f32} {x7 : Vec Ideal S1x2048 .f32} {xo10 : Vec Ideal S1x128 .f32} {D : Chunk} (H : Reads D x0 x1 x2 x3 x4 x5 x6 x7) (hda : xo10 = (mat (fun _ j => D.da j) : FVec Ideal S1x128 .f32)) :
    (out0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10, out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10, out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10, sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo10)
      = ((mat D.fresh.outX : FVec Ideal S128x3072 .f32), (mat D.fresh.ddtOut : FVec Ideal S128x128 .f32),
        (mat (fun _ h => D.fresh.daOut h) : FVec Ideal S1x128 .f32), (mat D.fresh.next : FVec Ideal S128x2048 .f32)) := by
  subst hda
  have hI (d) := congrArg (fun I => In.withDs I d) (rawIn_eq (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg13 := arg13) (harg13 := harg13) (H := H) (mat D.ds : FVec Ideal S128x2048 .f32) (mat (fun _ j => D.da j) : FVec Ideal S1x128 .f32))
  refine Prod.ext ?_ (Prod.ext ?_ (Prod.ext ?_ ?_)) <;> dsimp only
  · unfold out0_C_8
    rw [View.read_writes_eq_canon _ _ _ (fun y => cover0_C_8 (y := y) ..), start_dx (xs0 := (mat D.ds : FVec Ideal S128x2048 .f32))]
    dsimp only
    simp only [View.readAt_eq_ld, harg12.read_unread, View.ld_unit_zero (S := S1x128) hz, ]
    rw [cleared_eq arg13 _ hI]
    rw [readCov_whole (R := 128) (C := 2048), D.fresh.canon_dxd]; exact funext D.fresh.canon_dx
  · unfold out0_C_9
    rw [View.read_writes_eq_canon _ _ _ (fun y => cover0_C_9 (y := y) ..), start_ddt (xs0 := (mat D.ds : FVec Ideal S128x2048 .f32))]
    dsimp only
    simp only [View.readAt_eq_ld, harg12.read_unread, View.ld_unit_zero (S := S1x128) hz, ]
    rw [cleared_eq arg13 _ hI]
    rw [readCov_whole (R := 128) (C := 2048), D.fresh.canon_dxd, readCov_whole (R := 128) (C := 2048), D.fresh.canon_yd, readCov_whole (R := 8) (C := 2048), D.fresh.canon_last, In.ddtPieces, View.canon_unit_zero (S := S128x128) hz, Chunk.ddtOut_mat]
  · unfold out0_C_10
    rw [View.read_writes_eq_canon _ _ _ (fun y => cover0_C_10 (y := y) ..), start_da (xs0 := (mat D.ds : FVec Ideal S128x2048 .f32))]
    dsimp only
    simp only [View.readAt_eq_ld, harg12.read_unread, View.ld_unit_zero (S := S1x128) hz, ]
    rw [cleared_eq arg13 _ hI]
    rw [readCov_whole (R := 128) (C := 2048), D.fresh.canon_yd, readCov_whole (R := 8) (C := 2048), D.fresh.canon_last, In.daPieces]; rw [View.canon_unit_zero (S := S1x128) hz, Chunk.daOut_mat]
  · unfold sout0_C_0
    rw [View.read_writes_eq_canon _ _ _ (fun y => scover0_C_0 (y := y) ..), start_next (xs0 := (mat D.ds : FVec Ideal S128x2048 .f32))]
    dsimp only
    simp only [View.readAt_eq_ld, harg12.read_unread, View.ld_unit_zero (S := S1x128) hz, ]
    rw [canon_cleared (D := D) arg13 (In.cleared arg13 (rawIn arg2 harg2 arg3 harg3 arg4 harg4 arg5 harg5 arg6 harg6 arg7 harg7 arg8 harg8 arg9 harg9 arg13 harg13 x0 x1 x2 x3 x4 x5 x6 x7 (mat D.ds : FVec Ideal S128x2048 .f32) (mat (fun _ j => D.da j) : FVec Ideal S1x128 .f32))) hI]; exact mat_congr fun _ _ j hj => if_pos hj

/-- The very first point. -/
theorem first_out {c : Dev nD} {i : grid0.Coords} {arg2 : Memref sig .tc .vmem S128x3072 .f32} {harg2 : arg2.IsWhole} {arg3 : Memref sig .tc .vmem S128x128 .f32} {harg3 : arg3.IsWhole} {arg4 : Memref sig .tc .vmem S1x128 .f32} {harg4 : arg4.IsWhole} {arg5 : Memref sig .tc .vmem S32x2048 .bf16} {harg5 : arg5.IsWhole} {arg6 : Memref sig .tc .vmem S2048x128 .bf16} {harg6 : arg6.IsWhole} {arg7 : Memref sig .tc .vmem S1x128x2048 .f32} {harg7 : arg7.IsWhole} {arg8 : Memref sig .tc .vmem S128x2048 .f32} {harg8 : arg8.IsWhole} {arg9 : Memref sig .tc .vmem S1x2048 .f32} {harg9 : arg9.IsWhole} {arg10 : Memref sig .tc .vmem S128x3072 .f32} {harg10 : arg10.IsWhole} {arg11 : Memref sig .tc .vmem S128x128 .f32} {harg11 : arg11.IsWhole} {arg12 : Memref sig .tc .vmem S1x128 .f32} {harg12 : arg12.IsWhole} {arg13 : Memref sig .tc .vmem S128x2048 .f32} {harg13 : arg13.IsWhole} {arg14 : Memref sig .tc .vmem S128x2048 .f32} {harg14 : arg14.IsWhole} {arg15 : Memref sig .tc .vmem S128x2048 .f32} {harg15 : arg15.IsWhole} {arg16 : Memref sig .tc .vmem S8x2048 .f32} {harg16 : arg16.IsWhole} {hc0 : cond0_0 i} {hc1 : cond0_1 i}
    {x0 : Vec Ideal S128x3072 .f32} {x1 : Vec Ideal S128x128 .f32} {x2 : Vec Ideal S1x128 .f32} {x3 : Vec Ideal S32x2048 .bf16} {x4 : Vec Ideal S2048x128 .bf16} {x5 : Vec Ideal S1x128x2048 .f32} {x6 : Vec Ideal S128x2048 .f32} {x7 : Vec Ideal S1x2048 .f32} {D : Chunk} (H : Reads D x0 x1 x2 x3 x4 x5 x6 x7) (hda : ∀ j, D.da j = 0) :
    (out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7, out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7, out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7, sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)
      = ((mat D.fresh.outX : FVec Ideal S128x3072 .f32), (mat D.fresh.ddtOut : FVec Ideal S128x128 .f32),
        (mat (fun _ h => D.fresh.daOut h) : FVec Ideal S1x128 .f32), (mat D.fresh.next : FVec Ideal S128x2048 .f32)) := by
  have hI (d) := congrArg (fun I => In.withDs I d) (rawIn_eq (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg13 := arg13) (harg13 := harg13) (H := H) (mat D.ds : FVec Ideal S128x2048 .f32) (mat (fun _ j => D.da j) : FVec Ideal S1x128 .f32))
  have hz4 : (mat (fun _ _ => 0) : FVec Ideal S1x128 .f32) = mat fun _ j => D.da j := mat_congr fun _ _ j _ => (hda j).symm
  refine Prod.ext ?_ (Prod.ext ?_ (Prod.ext ?_ ?_)) <;> dsimp only
  · unfold out0_A_8
    rw [View.read_writes_eq_canon _ _ _ (fun y => cover0_A_8 (y := y) ..), first_dx (xs0 := (mat D.ds : FVec Ideal S128x2048 .f32))]
    dsimp only
    simp only [readCov_whole (R := 1) (C := 128), View.canon_unit_zero (S := S1x128) hz, pay4_mat, hz4, ]
    rw [cleared_eq arg13 _ hI]
    rw [readCov_whole (R := 128) (C := 2048), D.fresh.canon_dxd]; exact funext D.fresh.canon_dx
  · unfold out0_A_9
    rw [View.read_writes_eq_canon _ _ _ (fun y => cover0_A_9 (y := y) ..), first_ddt (xs0 := (mat D.ds : FVec Ideal S128x2048 .f32))]
    dsimp only
    simp only [readCov_whole (R := 1) (C := 128), View.canon_unit_zero (S := S1x128) hz, pay4_mat, hz4, ]
    rw [cleared_eq arg13 _ hI]
    rw [readCov_whole (R := 128) (C := 2048), D.fresh.canon_dxd, readCov_whole (R := 128) (C := 2048), D.fresh.canon_yd, readCov_whole (R := 8) (C := 2048), D.fresh.canon_last, In.ddtPieces, View.canon_unit_zero (S := S128x128) hz, Chunk.ddtOut_mat]
  · unfold out0_A_10
    rw [View.read_writes_eq_canon _ _ _ (fun y => cover0_A_10 (y := y) ..), first_da (xs0 := (mat D.ds : FVec Ideal S128x2048 .f32))]
    dsimp only
    simp only [readCov_whole (R := 1) (C := 128), View.canon_unit_zero (S := S1x128) hz, pay4_mat, hz4, ]
    rw [cleared_eq arg13 _ hI]
    rw [readCov_whole (R := 128) (C := 2048), D.fresh.canon_yd, readCov_whole (R := 8) (C := 2048), D.fresh.canon_last, In.daPieces]; rw [List.singleton_append, View.canon_cons_unit_zero (S := S1x128) hz, Chunk.daOut_mat]
  · unfold sout0_A_0
    rw [View.read_writes_eq_canon _ _ _ (fun y => scover0_A_0 (y := y) ..), first_next (xs0 := (mat D.ds : FVec Ideal S128x2048 .f32))]
    dsimp only
    simp only [readCov_whole (R := 1) (C := 128), View.canon_unit_zero (S := S1x128) hz, pay4_mat, hz4, ]
    rw [canon_cleared (D := D) arg13 (In.cleared arg13 (rawIn arg2 harg2 arg3 harg3 arg4 harg4 arg5 harg5 arg6 harg6 arg7 harg7 arg8 harg8 arg9 harg9 arg13 harg13 x0 x1 x2 x3 x4 x5 x6 x7 (mat D.ds : FVec Ideal S128x2048 .f32) (mat (fun _ j => D.da j) : FVec Ideal S1x128 .f32))) hI]; exact mat_congr fun _ _ j hj => if_pos hj

end Cert.KernelIdeal.Hand
-- ==== Proof.SsdChunk.lean ====
/- What a chunk computes is its part of the whole sequence's gradient: the state saved before the chunk and the gradient carried from after
   it stand for all the steps outside it. -/
module

public import proofs.«01_k».proof.Proof.SsdEval
public import proofs.«01_k».proof.Proof.SsdWhole

@[expose] public section

noncomputable section

namespace Cert.Ssd.Whole

open Finset Cert.Recurrence Cert.KernelIdeal.Hand

variable (W : Whole)

/-- Chunk `k` of sequence `q`, with what the earlier grid points left in the gradient at the decay rates. -/
def chunk (q k : ℕ) (da : ℕ → ℝ) : Chunk where
  x t p := W.X (4096 * q + (128 * k + t)) p
  dt t h := W.Dt (4096 * q + (128 * k + t)) h
  al := W.Al
  dy t p := W.Dy (4096 * q + (128 * k + t)) p
  sk := W.Sk
  st n p := state (W.la q (p / 64)) (fun s => W.b q (p / 512) s n) (W.xd q (p / 64) (p % 64)) (128 * k)
  ds n p := dstate 4096 (W.la q (p / 64)) (fun t => W.c q (p / 512) t n) (W.y q (p / 64) (p % 64)) (128 * k + 128)
  da := da

variable (q k : ℕ) (da : ℕ → ℝ)

/-- A row of blocks is its blocks. -/
theorem sum_blocks (n m : ℕ) (f : ℕ → ℝ) : ∑ i ∈ range (n * m), f i = ∑ r ∈ range n, ∑ p ∈ range m, f (m * r + p) := by
  induction n with
  | zero => simp
  | succ n ih =>
    rw [Nat.succ_mul, sum_range_add, ih, sum_range_succ]
    exact congrArg _ (sum_congr rfl fun p _ => by rw [Nat.mul_comm])

/-- The steps split at a chunk. -/
theorem split_at {k : ℕ} (hk : k < 32) (f : ℕ → ℝ) :
    ∑ t ∈ range 4096, f t = ∑ t ∈ range (128 * k), f t + ∑ t ∈ range 128, f (128 * k + t) + ∑ t ∈ Ico (128 * k + 128) 4096, f t := by
  have h1 : ∑ t ∈ range 128, f (128 * k + t) = ∑ t ∈ Ico (128 * k) (128 * k + 128), f t := by
    rw [sum_Ico_eq_sum_range]; simp
  rw [h1, range_eq_Ico, range_eq_Ico, sum_Ico_consecutive _ (by omega) (by omega), sum_Ico_consecutive _ (by omega) (by omega)]

theorem pre_chunk (la : ℕ → ℝ) (e t : ℕ) : pre la (e + t + 1) = pre la e + ∑ r ∈ range (t + 1), la (e + r) := pre_add la e (t + 1)

theorem chunk_la (t h : ℕ) : (W.chunk q k da).la t h = W.la q h (128 * k + t) :=
  congrArg (fun r : ℝ => W.Dt (4096 * q + (128 * k + t)) h * r) (zero_sub _)

theorem chunk_cs (t h : ℕ) : (W.chunk q k da).cs t h = pre (W.la q h) (128 * k + t + 1) - pre (W.la q h) (128 * k) := by
  rw [pre_chunk, Chunk.cs, sum_congr rfl fun r _ => W.chunk_la q k da r h]
  ring

theorem chunk_dec (h t s : ℕ) : (W.chunk q k da).dec h t s = W.w q h (128 * k + t) (128 * k + s) := by
  rw [Chunk.dec, chunk_cs, chunk_cs, w, wt]
  by_cases hs : s ≤ t
  · rw [if_pos hs, if_pos (by omega)]; congr 1; ring
  · rw [if_neg hs, if_neg (by omega)]

theorem chunk_ecs (t p : ℕ) : (W.chunk q k da).ecs t p = Real.exp (pre (W.la q (p / 64)) (128 * k + t + 1) - pre (W.la q (p / 64)) (128 * k)) := by
  rw [Chunk.ecs, chunk_cs]

theorem chunk_tail (t p : ℕ) :
    (W.chunk q k da).tail t p = Real.exp (pre (W.la q (p / 64)) (128 * k + 128) - pre (W.la q (p / 64)) (128 * k + t + 1)) := by
  rw [Chunk.tail, chunk_cs, chunk_cs]; congr 1; ring

theorem chunk_xd (t p : ℕ) : (W.chunk q k da).xd t p = W.xd q (p / 64) (p % 64) (128 * k + t) := by
  rw [xd, x, Nat.div_add_mod]; rfl

theorem chunk_dy (t p : ℕ) : (W.chunk q k da).dy t p = W.y q (p / 64) (p % 64) (128 * k + t) := by
  rw [y, Nat.div_add_mod]; rfl

theorem chunk_dm (h t s : ℕ) : (W.chunk q k da).dm h t s = W.dm q h (128 * k + t) (128 * k + s) := by
  refine sum_congr rfl fun p hp => ?_
  have := mem_range.mp hp
  rw [chunk_xd, show (64 * h + p) / 64 = h by omega, show (64 * h + p) % 64 = p by omega]; rfl

theorem chunk_cb (g t s : ℕ) : (W.chunk q k da).cb g t s = W.sc q g (128 * k + t) (128 * k + s) := rfl

theorem score_eq (g t s : ℕ) : score (fun s (j : Fin 128) => W.b q g s j.val) (fun t (j : Fin 128) => W.c q g t j.val) t s = W.sc q g t s := by
  rw [score, sc, sum_range]

/-- What a step of the chunk receives from the steps after it. -/
theorem chunk_dxs {s : ℕ} (hs : s < 128) (p : ℕ) : (W.chunk q k da).dxs s p
    = ∑ t ∈ Ico (128 * k + 128) 4096, W.w q (p / 64) t (128 * k + s) * W.sc q (p / 512) t (128 * k + s) * W.y q (p / 64) (p % 64) t := by
  rw [Chunk.dxs, chunk_tail, sum_range]
  refine (dstate_seen 4096 (W.la q (p / 64)) (fun s (j : Fin 128) => W.b q (p / 512) s j.val) (fun t (j : Fin 128) => W.c q (p / 512) t j.val)
    (W.y q (p / 64) (p % 64)) (show 128 * k + s < 128 * k + 128 by omega)).trans (sum_congr rfl fun t _ => ?_)
  rw [score_eq]; rfl

/-- What a step of the chunk receives from the steps before it. -/
theorem chunk_ysl (t p : ℕ) : (W.chunk q k da).ysl t p
    = ∑ s ∈ range (128 * k), W.w q (p / 64) (128 * k + t) s * W.sc q (p / 512) (128 * k + t) s * (W.y q (p / 64) (p % 64) (128 * k + t) * W.xd q (p / 64) (p % 64) s) := by
  rw [Chunk.ysl, chunk_ecs, chunk_dy, sum_range, mul_assoc]
  refine (congrArg _ (state_seen (W.la q (p / 64)) (fun s (j : Fin 128) => W.b q (p / 512) s j.val) (fun t (j : Fin 128) => W.c q (p / 512) t j.val)
    (W.xd q (p / 64) (p % 64)) (show 128 * k ≤ 128 * k + t by omega))).trans ?_
  rw [mul_sum]
  refine sum_congr rfl fun s _ => ?_
  rw [score_eq]; show _ * (W.w q _ _ _ * _ * _) = _; ring

/-! ## The results -/

variable {k} (hk : k < 32)
include hk

theorem chunk_dxd {s : ℕ} (hs : s < 128) {p : ℕ} (hp : p < 2048) : (W.chunk q k da).dxd s p = W.dxd q (p / 64) (p % 64) (128 * k + s) := by
  rw [dxd, split_at hk, sum_eq_zero (s := range (128 * k)), zero_add, Chunk.dxd, chunk_dxs _ _ _ _ hs, show p / 64 / 8 = p / 512 by omega]
  · refine congrArg₂ (fun a b : ℝ => a + b) (sum_congr rfl fun t _ => ?_) (sum_congr rfl fun t _ => ?_)
    · rw [chunk_dec, chunk_dy, chunk_cb]; ring
    · ring
  · intro t ht
    rw [w, wt_of_lt (by have := mem_range.mp ht; omega), mul_zero, mul_zero]

theorem chunk_dxOut {s : ℕ} (hs : s < 128) {p : ℕ} (hp : p < 2048) :
    (W.chunk q k da).dxOut s p = W.Sk p * W.Dy (4096 * q + (128 * k + s)) p + W.dxd q (p / 64) (p % 64) (128 * k + s) * W.Dt (4096 * q + (128 * k + s)) (p / 64) := by
  rw [Chunk.dxOut, W.chunk_dxd q da hk hs hp]
  show _ * W.Dt _ _ + W.Dy _ _ * W.Sk _ = _
  ring

theorem chunk_dbOut {g : ℕ} {s : ℕ} (hs : s < 128) (n : ℕ) : (W.chunk q k da).dbOut g s n = W.db q g (128 * k + s) n := by
  rw [db, split_at hk, sum_eq_zero (s := range (128 * k)), zero_add, Chunk.dbOut, add_comm]
  · refine congrArg₂ (fun a b : ℝ => a + b) (sum_congr rfl fun t _ => ?_) ?_
    · refine congrArg (· * _) (sum_congr rfl fun r _ => ?_)
      rw [chunk_dm, chunk_dec]
    · rw [show range 512 = range (8 * 64) from rfl, sum_blocks]
      simp only [dsc, dm, sum_mul]
      refine Eq.trans (sum_congr rfl fun r hr => ?_) sum_comm
      refine Eq.trans (sum_congr rfl fun p hp => ?_) sum_comm
      have hr := mem_range.mp hr
      have hp := mem_range.mp hp
      have e1 : (512 * g + (64 * r + p)) / 64 = 8 * g + r := by omega
      have e2 : (512 * g + (64 * r + p)) % 64 = p := by omega
      have e3 : (512 * g + (64 * r + p)) / 512 = g := by omega
      rw [chunk_xd, chunk_tail, e1, e2]
      show _ * _ * dstate _ (W.la q ((512 * g + (64 * r + p)) / 64)) _ _ _ = _
      rw [e1, e2, e3, dstate, mul_sum]
      refine sum_congr rfl fun t ht => ?_
      rw [w, wt_cut _ (show 128 * k + s < 128 * k + 128 by omega) (mem_Ico.mp ht).1]
      ring
  · intro t ht
    rw [dsc, sum_eq_zero fun r _ => ?_, zero_mul]
    rw [w, wt_of_lt (by have := mem_range.mp ht; omega), mul_zero]

theorem chunk_dcOut {g : ℕ} {t : ℕ} (ht : t < 128) (n : ℕ) : (W.chunk q k da).dcOut g t n = W.dc q g (128 * k + t) n := by
  rw [dc, split_at hk, sum_eq_zero (s := Ico (128 * k + 128) 4096), add_zero, Chunk.dcOut]
  · refine congrArg₂ (fun a b : ℝ => a + b) ?_ (sum_congr rfl fun s _ => ?_)
    · rw [show range 512 = range (8 * 64) from rfl, sum_blocks]
      simp only [dsc, dm, sum_mul]
      refine Eq.trans (sum_congr rfl fun r hr => ?_) sum_comm
      refine Eq.trans (sum_congr rfl fun p hp => ?_) sum_comm
      have hr := mem_range.mp hr
      have hp := mem_range.mp hp
      have e1 : (512 * g + (64 * r + p)) / 64 = 8 * g + r := by omega
      have e2 : (512 * g + (64 * r + p)) % 64 = p := by omega
      have e3 : (512 * g + (64 * r + p)) / 512 = g := by omega
      rw [chunk_dy, chunk_ecs, e1, e2]
      show _ * _ * state (W.la q ((512 * g + (64 * r + p)) / 64)) _ _ _ = _
      rw [e1, e2, e3, state, mul_sum]
      refine sum_congr rfl fun s hs => ?_
      rw [w, wt_cut _ (mem_range.mp hs) (show 128 * k ≤ 128 * k + t by omega)]
      ring
    · refine congrArg (· * _) (sum_congr rfl fun r _ => ?_)
      rw [chunk_dm, chunk_dec]
  · intro s hs
    rw [dsc, sum_eq_zero fun r _ => ?_, zero_mul]
    rw [w, wt_of_lt (by have := (mem_Ico.mp hs).1; omega), mul_zero]

/-- The gradient carried to the chunk before. -/
theorem chunk_next (n p : ℕ) : (W.chunk q k da).next n p
    = dstate 4096 (W.la q (p / 64)) (fun t => W.c q (p / 512) t n) (W.y q (p / 64) (p % 64)) (128 * k) := by
  rw [dstate_step 4096 _ _ _ (128 * k) 128 (by omega), Chunk.next, chunk_ecs]
  refine congrArg₂ (fun a b : ℝ => a + b) rfl (sum_congr rfl fun t _ => ?_)
  rw [chunk_ecs, chunk_dy]
  show W.c q (p / 512) (128 * k + t) n * _ = _
  ring

/-! ## The gradient at the log decays -/

omit hk in
theorem hot_sum (f : ℕ → ℝ) {h : ℕ} (hh : h < 32) : ∑ p ∈ range 2048, f p * Chunk.hot p h = ∑ p ∈ range 64, f (64 * h + p) := by
  rw [show range 2048 = range (32 * 64) from rfl, sum_blocks, sum_eq_single h]
  · refine sum_congr rfl fun p hp => ?_
    rw [Chunk.hot, if_pos (by have := mem_range.mp hp; omega), mul_one]
  · intro r _ hr
    refine sum_eq_zero fun p hp => ?_
    rw [Chunk.hot, if_neg (by have := mem_range.mp hp; omega), mul_zero]
  · intro hn; exact absurd (mem_range.mpr hh) hn

omit hk in
theorem hot_out (f : ℕ → ℝ) {h : ℕ} (hh : ¬h < 32) : ∑ p ∈ range 2048, f p * Chunk.hot p h = 0 :=
  sum_eq_zero fun p hp => by rw [Chunk.hot, if_neg (by have := mem_range.mp hp; omega), mul_zero]

omit hk in
theorem chunk_ee (h t s : ℕ) : (W.chunk q k da).ee h t s = W.E q h (128 * k + t) (128 * k + s) := by
  rw [Chunk.ee, chunk_dm, chunk_cb, chunk_dec, E]; ring

omit hk in
/-- A head's exchanges with the steps before the chunk, over its inputs. -/
theorem ysl_sum (h t : ℕ) : ∑ p ∈ range 64, (W.chunk q k da).ysl t (64 * h + p) = ∑ s ∈ range (128 * k), W.E q h (128 * k + t) s := by
  simp only [chunk_ysl]
  rw [sum_comm]
  refine sum_congr rfl fun s _ => ?_
  rw [E, dm, mul_sum, sum_mul]
  refine sum_congr rfl fun p hp => ?_
  have hp := mem_range.mp hp
  rw [show (64 * h + p) / 64 = h by omega, show (64 * h + p) % 64 = p by omega, show (64 * h + p) / 512 = h / 8 by omega]
  ring

omit hk in
/-- A head's exchanges with the steps after the chunk, over its inputs. -/
theorem dxs_sum (h : ℕ) {s : ℕ} (hs : s < 128) :
    ∑ p ∈ range 64, (W.chunk q k da).xd s (64 * h + p) * (W.chunk q k da).dxs s (64 * h + p) = ∑ t ∈ Ico (128 * k + 128) 4096, W.E q h t (128 * k + s) := by
  simp only [chunk_dxs _ _ _ _ hs, chunk_xd, mul_sum]
  rw [sum_comm]
  refine sum_congr rfl fun t _ => ?_
  rw [E, dm, mul_sum, sum_mul]
  refine sum_congr rfl fun p hp => ?_
  have hp := mem_range.mp hp
  rw [show (64 * h + p) / 64 = h by omega, show (64 * h + p) % 64 = p by omega, show (64 * h + p) / 512 = h / 8 by omega]
  ring

omit hk in
/-- A head's exchanges across the whole chunk. -/
theorem across_sum (h : ℕ) :
    ∑ p ∈ range 64, (W.chunk q k da).ecs 127 (64 * h + p) * ∑ n ∈ range 128, (W.chunk q k da).ds n (64 * h + p) * (W.chunk q k da).st n (64 * h + p)
      = ∑ t ∈ Ico (128 * k + 128) 4096, ∑ s ∈ range (128 * k), W.E q h t s := by
  have key : ∀ p ∈ range 64, (W.chunk q k da).ecs 127 (64 * h + p) * ∑ n ∈ range 128, (W.chunk q k da).ds n (64 * h + p) * (W.chunk q k da).st n (64 * h + p)
      = ∑ t ∈ Ico (128 * k + 128) 4096, ∑ s ∈ range (128 * k), W.w q h t s * W.sc q (h / 8) t s * (W.y q h p t * W.xd q h p s) := fun p hp => by
    have hp := mem_range.mp hp
    have e1 : (64 * h + p) / 64 = h := by omega
    have e2 : (64 * h + p) % 64 = p := by omega
    have e3 : (64 * h + p) / 512 = h / 8 := by omega
    rw [chunk_ecs, sum_range]
    refine (state_dstate 4096 (W.la q ((64 * h + p) / 64)) (fun s (j : Fin 128) => W.b q ((64 * h + p) / 512) s j.val) (fun t (j : Fin 128) => W.c q ((64 * h + p) / 512) t j.val)
      (W.xd q ((64 * h + p) / 64) ((64 * h + p) % 64)) (W.y q ((64 * h + p) / 64) ((64 * h + p) % 64)) (show 128 * k ≤ 128 * k + 128 by omega)).trans ?_
    rw [e1, e2, e3]
    exact sum_congr rfl fun t _ => sum_congr rfl fun s _ => by rw [score_eq]; rfl
  rw [sum_congr rfl key, sum_comm]
  refine sum_congr rfl fun t _ => ?_
  rw [sum_comm]
  refine sum_congr rfl fun s _ => ?_
  rw [E, dm, mul_sum, sum_mul]
  exact sum_congr rfl fun p _ => by ring

omit hk in
theorem chunk_dcs {t : ℕ} (ht : t < 128) {h : ℕ} (hh : h < 32) : (W.chunk q k da).dcs t h
    = (∑ s ∈ Ico (128 * k) (128 * k + 128), W.E q h (128 * k + t) s - ∑ t' ∈ Ico (128 * k) (128 * k + 128), W.E q h t' (128 * k + t)
        + (∑ s ∈ range (128 * k), W.E q h (128 * k + t) s - ∑ t' ∈ Ico (128 * k + 128) 4096, W.E q h t' (128 * k + t)))
      + if t = 127 then ∑ t' ∈ Ico (128 * k + 128) 4096, ∑ s ∈ range (128 * k + 128), W.E q h t' s else 0 := by
  have hlast : ∑ p ∈ range 64, (W.chunk q k da).last (64 * h + p) = ∑ t' ∈ Ico (128 * k + 128) 4096, ∑ s ∈ range (128 * k + 128), W.E q h t' s := by
    simp only [Chunk.last, sum_add_distrib]
    rw [across_sum, sum_comm, sum_congr rfl fun s hs => W.dxs_sum q da h (mem_range.mp hs), sum_comm, add_comm, ← sum_add_distrib]
    exact sum_congr rfl fun t' _ => (sum_range_add _ _ _).symm
  rw [Chunk.dcs, if_pos hh, if_pos hh, hot_sum _ hh, hot_sum _ hh, hlast]
  simp only [Chunk.yd, sum_sub_distrib, chunk_ee]
  rw [ysl_sum, dxs_sum _ _ _ _ ht, sum_Ico_eq_sum_range (fun s => W.E q h (128 * k + t) s) (128 * k) (128 * k + 128),
    sum_Ico_eq_sum_range (fun t' => W.E q h t' (128 * k + t)) (128 * k) (128 * k + 128), Nat.add_sub_cancel_left]

theorem chunk_dla {t : ℕ} (ht : t < 128) {h : ℕ} (hh : h < 32) : (W.chunk q k da).dla t h = W.dla q h (128 * k + t) := by
  rw [dla, ← net_from 4096 (W.E q h) (W.E_of_lt q h) (show 128 * k ≤ 128 * k + t by omega) (show 128 * k + t ≤ 128 * k + 128 by omega) (show 128 * k + 128 ≤ 4096 by omega),
    Chunk.dla, sum_congr rfl fun u hu => congrArg _ (W.chunk_dcs q da (mem_range.mp hu) hh)]
  simp only [ite_mul, one_mul, zero_mul]
  rw [← sum_filter, show filter (fun u => t ≤ u) (range 128) = Ico t 128 by ext u; simp; omega, sum_add_distrib, sum_ite_eq', if_pos (by simp; omega)]
  congr 1
  rw [sum_Ico_eq_sum_range, sum_Ico_eq_sum_range (n := 128 * k + 128), show 128 * k + 128 - (128 * k + t) = 128 - t by omega]
  exact sum_congr rfl fun u _ => by rw [Nat.add_assoc (128 * k)]

omit hk in
theorem chunk_dla_out {t h : ℕ} (hh : ¬h < 32) : (W.chunk q k da).dla t h = 0 := by
  refine sum_eq_zero fun u _ => ?_
  rw [Chunk.dcs, if_neg hh, if_neg hh, hot_out _ hh, hot_out _ hh]
  simp

theorem chunk_ddtOut {t : ℕ} (ht : t < 128) (h : ℕ) : (W.chunk q k da).ddtOut t h
    = if h < 32 then (∑ p ∈ range 64, W.x q h p (128 * k + t) * W.dxd q h p (128 * k + t)) + W.dla q h (128 * k + t) * W.a h else 0 := by
  by_cases hh : h < 32
  · rw [if_pos hh, Chunk.ddtOut, W.chunk_dla q da hk ht hh, hot_sum _ hh, add_comm]
    refine congrArg₂ (fun a b : ℝ => a + b) (sum_congr rfl fun p hp => ?_) (congrArg _ (zero_sub _))
    have hp := mem_range.mp hp
    rw [W.chunk_dxd q da hk ht (by omega), show (64 * h + p) / 64 = h by omega, show (64 * h + p) % 64 = p by omega, mul_comm]
    rfl
  · rw [if_neg hh, Chunk.ddtOut, chunk_dla_out _ _ _ hh, hot_out _ hh]; simp

theorem chunk_daOut (h : ℕ) : (W.chunk q k da).daOut h
    = da h + if h < 32 then ∑ t ∈ range 128, W.Dt (4096 * q + (128 * k + t)) h * W.dla q h (128 * k + t) else 0 := by
  by_cases hh : h < 32
  · rw [if_pos hh, Chunk.daOut]
    refine congrArg₂ (fun a b : ℝ => a + b) rfl (sum_congr rfl fun t ht => ?_)
    rw [W.chunk_dla q da hk (mem_range.mp ht) hh, mul_comm]; rfl
  · rw [if_neg hh, Chunk.daOut, sum_eq_zero fun t _ => by rw [chunk_dla_out _ _ _ hh, zero_mul]]; rfl

end Cert.Ssd.Whole
-- ==== Proof.SsdFold.lean ====
/- The recurrence's gradient over its grid: each point's blocks, and the three arrays after the last point. -/
module

public import proofs.«01_k».proof.Proof.SsdOut
public import proofs.«01_k».proof.Proof.SsdChunk
public import proofs.«01_k».proof.Proof.Gen.KernelIdeal.Value

@[expose] public section

set_option maxRecDepth 16384

noncomputable section

namespace Cert.KernelIdeal.Hand

open Cert.KernelIdeal Cert.KernelIdeal.Gen Idealize.ShloMosaic Idealize.ShloMosaic.TcCoe Idealize.SL.Sem
open Cert.Ssd Cert.Recurrence

variable (m : (ℓ : Loc nD τ sig) → Buf (Elt Ideal) ℓ) (c : Dev nD) (W : Whole)

/-- The state before chunk `r` of the batch's chunks. -/
def stAt (r n p : ℕ) : ℝ := state (W.la (r / 32) (p / 64)) (fun s => W.b (r / 32) (p / 512) s n) (W.xd (r / 32) (p / 64) (p % 64)) (128 * (r % 32))

/-- What the call's operands hold when its first grid point begins. -/
structure Entry : Prop where
  x : V m c main_arg0 = fun i : S8192x3072.Idx => ((W.X (i 0).val (i 1).val : ℝ) : EReal)
  dt : V m c main_arg1 = fun i : S8192x128.Idx => ((W.Dt (i 0).val (i 1).val : ℝ) : EReal)
  al : V m c main_arg2 = fun i : S1x128.Idx => ((W.Al (i 1).val : ℝ) : EReal)
  ex : V m c main_v4 = fun i : S32x2048.Idx => ((Chunk.hot (i 1).val (i 0).val : ℝ) : EReal)
  exT : V m c main_v6 = fun i : S2048x128.Idx => ((Chunk.hot (i 0).val (i 1).val : ℝ) : EReal)
  st : V m c main_v49 = fun i : S64x128x2048.Idx => ((stAt W (i 0).val (i 1).val (i 2).val : ℝ) : EReal)
  dy : V m c main_arg3 = fun i : S8192x2048.Idx => ((W.Dy (i 0).val (i 1).val : ℝ) : EReal)
  sk : V m c main_arg4 = fun i : S1x2048.Idx => ((W.Sk (i 1).val : ℝ) : EReal)

/-- The blocks that each point reads and writes, decided over the grid's points. -/
theorem idx_facts : ∀ t : Fin cfg0.N, win0_0.index t (0 : Fin 2) = 32 * (t.val / 32) + (31 - t.val % 32) ∧ win0_0.index t (1 : Fin 2) = 0
    ∧ win0_1.index t (0 : Fin 2) = 32 * (t.val / 32) + (31 - t.val % 32) ∧ win0_1.index t (1 : Fin 2) = 0
    ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 32 * (t.val / 32) + (31 - t.val % 32) ∧ win0_5.index t (1 : Fin 3) = 0 ∧ win0_5.index t (2 : Fin 3) = 0
    ∧ win0_6.index t (0 : Fin 2) = 32 * (t.val / 32) + (31 - t.val % 32) ∧ win0_6.index t (1 : Fin 2) = 0
    ∧ win0_7.index t (1 : Fin 2) = 0 :=
  (by decide +kernel : ∀ t : Fin grid0.N, _)

theorem out_facts : ∀ t : Fin cfg0.N, win0_8.index t (0 : Fin 2) = 32 * (t.val / 32) + (31 - t.val % 32) ∧ win0_8.index t (1 : Fin 2) = 0
    ∧ win0_9.index t (0 : Fin 2) = 32 * (t.val / 32) + (31 - t.val % 32) ∧ win0_9.index t (1 : Fin 2) = 0
    ∧ win0_10.index t (0 : Fin 2) = 0 ∧ win0_10.index t (1 : Fin 2) = 0 :=
  (by decide +kernel : ∀ t : Fin grid0.N, _)

/-- What the points before `n` leave in the gradient at the decay rates. -/
def daBefore (n h : ℕ) : ℝ := ∑ j ∈ Finset.range n, if h < 32 then ∑ t ∈ Finset.range 128,
  W.Dt (4096 * (j / 32) + (128 * (31 - j % 32) + t)) h * W.dla (j / 32) h (128 * (31 - j % 32) + t) else 0

/-- Point `n`'s chunk: the chunks of a sequence are visited from its end. -/
def point (n : ℕ) : Chunk := W.chunk (n / 32) (31 - n % 32) (daBefore W n)

theorem daOut_point (n h : ℕ) : (point W n).daOut h = daBefore W (n + 1) h := by
  unfold point
  rw [W.chunk_daOut _ _ (show 31 - n % 32 < 32 by omega)]
  exact (Finset.sum_range_succ _ n).symm

theorem fresh_point (n : ℕ) (h : n % 32 = 0) : (point W n).fresh = point W n := by
  unfold Chunk.fresh point Whole.chunk
  congr 1
  funext i p
  rw [h]
  exact (dstate_end 4096 _ _ _).symm

theorem next_point (n : ℕ) (h : ¬(n + 1) % 32 = 0) : (point W n).next = (point W (n + 1)).ds := by
  funext i p
  unfold point
  rw [W.chunk_next _ _ (show 31 - n % 32 < 32 by omega)]
  show _ = dstate 4096 _ _ _ (128 * (31 - (n + 1) % 32) + 128)
  rw [show (n + 1) / 32 = n / 32 by omega, show 128 * (31 - (n + 1) % 32) + 128 = 128 * (31 - n % 32) by omega]

theorem stAt_point (n i p : ℕ) : stAt W (32 * (n / 32) + (31 - n % 32)) i p = (point W n).st i p := by
  rw [stAt, show (32 * (n / 32) + (31 - n % 32)) / 32 = n / 32 by omega, show (32 * (n / 32) + (31 - n % 32)) % 32 = 31 - n % 32 by omega]
  rfl

variable {m c W}

/-- A point's rows of the inputs. -/
theorem read_x (H : Entry m c W) (t : Fin cfg0.N) (j : S128x3072.Idx) : (iblk m c 0 t : S128x3072.Idx → EReal) j = (((point W t.val).x (j 0).val (j 1).val : ℝ) : EReal) := by
  have hf := idx_facts t
  unfold iblk
  rw [View.read_apply]
  show V m c main_arg0 _ = _
  rw [H.x]
  refine congrArg (fun r : ℝ => (r : EReal)) (congrArg₂ W.X ?_ ?_)
  · show win0_0.index t (0 : Fin 2) * 128 + 1 * (j 0).val = 4096 * (t.val / 32) + (128 * (31 - t.val % 32) + (j 0).val)
    rw [hf.1]; clear hf; omega
  · show win0_0.index t (1 : Fin 2) * 3072 + 1 * (j 1).val = (j 1).val
    rw [hf.2.1]; clear hf; omega

/-- Its rows of the step sizes. -/
theorem read_dt (H : Entry m c W) (t : Fin cfg0.N) (j : S128x128.Idx) : (iblk m c 1 t : S128x128.Idx → EReal) j = (((point W t.val).dt (j 0).val (j 1).val : ℝ) : EReal) := by
  have hf := idx_facts t
  unfold iblk
  rw [View.read_apply]
  show V m c main_arg1 _ = _
  rw [H.dt]
  refine congrArg (fun r : ℝ => (r : EReal)) (congrArg₂ W.Dt ?_ ?_)
  · show win0_1.index t (0 : Fin 2) * 128 + 1 * (j 0).val = 4096 * (t.val / 32) + (128 * (31 - t.val % 32) + (j 0).val)
    rw [hf.2.2.1]; clear hf; omega
  · show win0_1.index t (1 : Fin 2) * 128 + 1 * (j 1).val = (j 1).val
    rw [hf.2.2.2.1]; clear hf; omega

/-- The decay rates' logarithms. -/
theorem read_al (H : Entry m c W) (t : Fin cfg0.N) (j : S1x128.Idx) : (iblk m c 2 t : S1x128.Idx → EReal) j = (((point W t.val).al (j 1).val : ℝ) : EReal) := by
  have hf := idx_facts t
  unfold iblk
  rw [View.read_apply]
  show V m c main_arg2 _ = _
  rw [H.al]
  refine congrArg (fun r : ℝ => (r : EReal)) (congrArg W.Al ?_)
  show win0_2.index t (1 : Fin 2) * 128 + 1 * (j 1).val = (j 1).val
  rw [hf.2.2.2.2.1]; clear hf; omega

/-- The heads' membership, by rows. -/
theorem read_ex (H : Entry m c W) (t : Fin cfg0.N) (j : S32x2048.Idx) : (iblk m c 3 t : S32x2048.Idx → EReal) j = ((Chunk.hot (j 1).val (j 0).val : ℝ) : EReal) := by
  have hf := idx_facts t
  unfold iblk
  rw [View.read_apply]
  show V m c main_v4 _ = _
  rw [H.ex]
  refine congrArg (fun r : ℝ => (r : EReal)) (congrArg₂ Chunk.hot ?_ ?_)
  · show win0_3.index t (1 : Fin 2) * 2048 + 1 * (j 1).val = (j 1).val
    rw [hf.2.2.2.2.2.2.1]; clear hf; omega
  · show win0_3.index t (0 : Fin 2) * 32 + 1 * (j 0).val = (j 0).val
    rw [hf.2.2.2.2.2.1]; clear hf; omega

/-- The heads' membership, by columns. -/
theorem read_exT (H : Entry m c W) (t : Fin cfg0.N) (j : S2048x128.Idx) : (iblk m c 4 t : S2048x128.Idx → EReal) j = ((Chunk.hot (j 0).val (j 1).val : ℝ) : EReal) := by
  have hf := idx_facts t
  unfold iblk
  rw [View.read_apply]
  show V m c main_v6 _ = _
  rw [H.exT]
  refine congrArg (fun r : ℝ => (r : EReal)) (congrArg₂ Chunk.hot ?_ ?_)
  · show win0_4.index t (0 : Fin 2) * 2048 + 1 * (j 0).val = (j 0).val
    rw [hf.2.2.2.2.2.2.2.1]; clear hf; omega
  · show win0_4.index t (1 : Fin 2) * 128 + 1 * (j 1).val = (j 1).val
    rw [hf.2.2.2.2.2.2.2.2.1]; clear hf; omega

theorem emb5_0 (t : Fin cfg0.N) (j : S1x128x2048.Idx) : (((cfg0.win 5).blk t).view.emb j 0).val = win0_5.index t (0 : Fin 3) * 1 + 1 * (j 0).val := rfl
theorem emb5_1 (t : Fin cfg0.N) (j : S1x128x2048.Idx) : (((cfg0.win 5).blk t).view.emb j 1).val = win0_5.index t (1 : Fin 3) * 128 + 1 * (j 1).val := rfl
theorem emb5_2 (t : Fin cfg0.N) (j : S1x128x2048.Idx) : (((cfg0.win 5).blk t).view.emb j 2).val = win0_5.index t (2 : Fin 3) * 2048 + 1 * (j 2).val := rfl

theorem place5 (t : Fin cfg0.N) (j : S1x128x2048.Idx) : (((cfg0.win 5).blk t).view.emb j 0).val = 32 * (t.val / 32) + (31 - t.val % 32)
    ∧ (((cfg0.win 5).blk t).view.emb j 1).val = (j 1).val ∧ (((cfg0.win 5).blk t).view.emb j 2).val = (j 2).val := by
  have hf := (idx_facts t).2.2.2.2.2.2.2.2.2
  have hj : (j 0).val = 0 := Nat.lt_one_iff.mp (j 0).isLt
  rw [emb5_0, emb5_1, emb5_2, hf.1, hf.2.1, hf.2.2.1, hj]
  simp only [Nat.mul_one, Nat.mul_zero, Nat.add_zero, Nat.zero_mul, Nat.zero_add, Nat.one_mul, and_self]

theorem read5 (t : Fin cfg0.N) (j : S1x128x2048.Idx) : iblk m c 5 t j = V m c main_v49 (((cfg0.win 5).blk t).view.emb j) := by
  unfold iblk
  rw [View.read_apply]
  rfl

/-- The state before the chunk. -/
theorem read_st (H : Entry m c W) (t : Fin cfg0.N) (j : S1x128x2048.Idx) :
    (iblk m c 5 t : S1x128x2048.Idx → EReal) j = (((point W t.val).st (j 1).val (j 2).val : ℝ) : EReal) := by
  obtain ⟨h0, h1, h2⟩ := place5 t j
  refine (read5 t j).trans ((congrFun H.st _).trans ?_)
  refine congrArg (fun r : ℝ => (r : EReal)) ?_
  rw [h0, h1, h2]
  exact stAt_point W t.val _ _

/-- The rows of the outputs' gradient. -/
theorem read_dy (H : Entry m c W) (t : Fin cfg0.N) (j : S128x2048.Idx) : (iblk m c 6 t : S128x2048.Idx → EReal) j = (((point W t.val).dy (j 0).val (j 1).val : ℝ) : EReal) := by
  have hf := idx_facts t
  unfold iblk
  rw [View.read_apply]
  show V m c main_arg3 _ = _
  rw [H.dy]
  refine congrArg (fun r : ℝ => (r : EReal)) (congrArg₂ W.Dy ?_ ?_)
  · show win0_6.index t (0 : Fin 2) * 128 + 1 * (j 0).val = 4096 * (t.val / 32) + (128 * (31 - t.val % 32) + (j 0).val)
    rw [hf.2.2.2.2.2.2.2.2.2.2.2.2.1]; clear hf; omega
  · show win0_6.index t (1 : Fin 2) * 2048 + 1 * (j 1).val = (j 1).val
    rw [hf.2.2.2.2.2.2.2.2.2.2.2.2.2.1]; clear hf; omega

/-- The skip weights. -/
theorem read_sk (H : Entry m c W) (t : Fin cfg0.N) (j : S1x2048.Idx) : (iblk m c 7 t : S1x2048.Idx → EReal) j = (((point W t.val).sk (j 1).val : ℝ) : EReal) := by
  have hf := idx_facts t
  unfold iblk
  rw [View.read_apply]
  show V m c main_arg4 _ = _
  rw [H.sk]
  refine congrArg (fun r : ℝ => (r : EReal)) (congrArg W.Sk ?_)
  show win0_7.index t (1 : Fin 2) * 2048 + 1 * (j 1).val = (j 1).val
  rw [hf.2.2.2.2.2.2.2.2.2.2.2.2.2.2]; clear hf; omega

/-- A point reads its chunk. -/
theorem reads (H : Entry m c W) (t : Fin cfg0.N) : Reads (point W t.val) (iblk m c 0 t) (iblk m c 1 t) (iblk m c 2 t) (iblk m c 3 t) (iblk m c 4 t)
    (iblk m c 5 t) (iblk m c 6 t) (iblk m c 7 t) :=
  ⟨funext (read_x H t), funext (read_dt H t), funext (read_al H t), funext (read_ex H t), funext (read_exT H t), funext (read_st H t), funext (read_dy H t), funext (read_sk H t)⟩

/-- What every point leaves: its chunk's results, the sum over the points so far, and the gradient carried on. -/
theorem outs (H : Entry m c W) : ∀ (n : ℕ) (h : n < cfg0.N), outsAt0 m c n h
    = ((mat (point W n).outX : FVec Ideal S128x3072 .f32), (mat (point W n).ddtOut : FVec Ideal S128x128 .f32),
        (mat (fun _ h => (point W n).daOut h) : FVec Ideal S1x128 .f32), (mat (point W n).next : FVec Ideal S128x2048 .f32)) := by
  intro n
  induction n with
  | zero =>
    intro h
    rw [outsAt0_A m c ⟨0, h⟩ rfl rfl]
    refine (first_out (D := point W 0) (reads H ⟨0, h⟩) (fun j => ?_)).trans ?_
    · rfl
    · rw [fresh_point W 0 rfl]
  | succ n ih =>
    intro h
    have hN : n + 1 < 64 := h
    have hda : (outsAt0 m c n (Nat.lt_of_succ_lt h)).2.2.1 = (mat (fun _ j => (point W (n + 1)).da j) : FVec Ideal S1x128 .f32) := by
      rw [ih]
      exact mat_congr fun _ _ j _ => daOut_point W n j
    by_cases h0 : (n + 1) % 32 = 0
    · rw [outsAt0_C m c ⟨n + 1, h⟩ h0 (by show ¬(n + 1) % 64 = 0; omega)]
      refine (start_out (D := point W (n + 1)) (reads H ⟨n + 1, h⟩) hda).trans ?_
      rw [fresh_point W (n + 1) h0]
    · rw [outsAt0_B m c ⟨n + 1, h⟩ h0 (by show ¬(n + 1) % 64 = 0; omega)]
      refine step_out (D := point W (n + 1)) (reads H ⟨n + 1, h⟩) hda ?_
      show (outsAt0 m c n (Nat.lt_of_succ_lt h)).2.2.2 = _
      rw [ih, ← next_point W n h0]

/-! ## The arrays after the last point -/

theorem outX_row (n s k : ℕ) (hs : s < 128) (hn : n < 64) :
    (point W n).outX s k = W.dX (4096 * (n / 32) + 128 * (31 - n % 32) + s) k := by
  have hk : 31 - n % 32 < 32 := by omega
  have e1 : (4096 * (n / 32) + 128 * (31 - n % 32) + s) / 4096 = n / 32 := by omega
  have e2 : (4096 * (n / 32) + 128 * (31 - n % 32) + s) % 4096 = 128 * (31 - n % 32) + s := by omega
  unfold Chunk.outX Whole.dX point
  rw [e1, e2, Nat.add_assoc]
  by_cases h : k < 2048
  · rw [if_pos h, if_pos h, W.chunk_dxOut _ _ hk hs h]
  · rw [if_neg h, if_neg h, W.chunk_dbOut _ _ hk hs, W.chunk_dcOut _ _ hk hs]

theorem ddtOut_row (n s h : ℕ) (hs : s < 128) (hn : n < 64) :
    (point W n).ddtOut s h = W.dDt (4096 * (n / 32) + 128 * (31 - n % 32) + s) h := by
  have hk : 31 - n % 32 < 32 := by omega
  have e1 : (4096 * (n / 32) + 128 * (31 - n % 32) + s) / 4096 = n / 32 := by omega
  have e2 : (4096 * (n / 32) + 128 * (31 - n % 32) + s) % 4096 = 128 * (31 - n % 32) + s := by omega
  unfold Whole.dDt point
  rw [e1, e2, W.chunk_ddtOut _ _ hk hs]

/-- The sum over all points is the sum over all steps. -/
theorem daBefore_all (h : ℕ) : daBefore W 64 h = W.dA h := by
  unfold daBefore Whole.dA
  by_cases hh : h < 32
  · simp only [if_pos hh]
    rw [show Finset.range 64 = Finset.range (2 * 32) from rfl, Whole.sum_blocks]
    refine Finset.sum_congr rfl fun q _ => ?_
    rw [show Finset.range 4096 = Finset.range (32 * 128) from rfl, Whole.sum_blocks, ← Finset.sum_range_reflect]
    refine Finset.sum_congr rfl fun k hk => ?_
    have hk := Finset.mem_range.mp hk
    rw [show (32 * q + (32 - 1 - k)) / 32 = q by omega, show 31 - (32 * q + (32 - 1 - k)) % 32 = k by omega]
  · simp only [if_neg hh, Finset.sum_const_zero]

theorem flushed_dx (H : Entry m c W) (t : Fin cfg0.N) :
    (dats m 0 c).flushed 8 t = ((cfg0.win 8).blk t).view.read (Elt Ideal) (fun i : S8192x3072.Idx => ((W.dX (i 0).val (i 1).val : ℝ) : EReal)) := by
  obtain ⟨e0, e1, -⟩ := out_facts t
  rw [Value.flushed8]
  funext y
  rw [View.read_apply]
  have hy : (y 0).val < 128 := (y 0).isLt
  show (outsAt0 m c t.val t.isLt).1 y = _
  rw [outs H]
  have b0 : (((cfg0.win 8).blk t).view.emb y 0).val = 4096 * (t.val / 32) + 128 * (31 - t.val % 32) + (y 0).val := by
    show win0_8.index t (0 : Fin 2) * 128 + 1 * (y 0).val = _
    rw [e0]; omega
  have b1 : (((cfg0.win 8).blk t).view.emb y 1).val = (y 1).val := by
    show win0_8.index t (1 : Fin 2) * 3072 + 1 * (y 1).val = _
    rw [e1]; omega
  refine congrArg (fun r : ℝ => (r : EReal)) ((outX_row t.val _ _ hy t.isLt).trans ?_)
  rw [b0, b1]

theorem flushed_ddt (H : Entry m c W) (t : Fin cfg0.N) :
    (dats m 0 c).flushed 9 t = ((cfg0.win 9).blk t).view.read (Elt Ideal) (fun i : S8192x128.Idx => ((W.dDt (i 0).val (i 1).val : ℝ) : EReal)) := by
  obtain ⟨-, -, e0, e1, -⟩ := out_facts t
  rw [Value.flushed9]
  funext y
  rw [View.read_apply]
  have hy : (y 0).val < 128 := (y 0).isLt
  show (outsAt0 m c t.val t.isLt).2.1 y = _
  rw [outs H]
  have b0 : (((cfg0.win 9).blk t).view.emb y 0).val = 4096 * (t.val / 32) + 128 * (31 - t.val % 32) + (y 0).val := by
    show win0_9.index t (0 : Fin 2) * 128 + 1 * (y 0).val = _
    rw [e0]; omega
  have b1 : (((cfg0.win 9).blk t).view.emb y 1).val = (y 1).val := by
    show win0_9.index t (1 : Fin 2) * 128 + 1 * (y 1).val = _
    rw [e1]; omega
  refine congrArg (fun r : ℝ => (r : EReal)) ((ddtOut_row t.val _ _ hy t.isLt).trans ?_)
  rw [b0, b1]

theorem flushed_da (H : Entry m c W) (t : Fin cfg0.N) (hf : (cfg0.win 10).flush t = true) :
    (dats m 0 c).flushed 10 t = ((cfg0.win 10).blk t).view.read (Elt Ideal) (fun i : S1x128.Idx => ((W.dA (i 1).val : ℝ) : EReal)) := by
  obtain ⟨-, -, -, -, e0, e1⟩ := out_facts t
  have hN : t.val < 64 := t.isLt
  have hl : t.val = 63 := by have := (flush0_10 t).mp hf; omega
  rw [Value.flushed10]
  funext y
  rw [View.read_apply]
  show (outsAt0 m c t.val t.isLt).2.2.1 y = _
  rw [outs H]
  have b1 : (((cfg0.win 10).blk t).view.emb y 1).val = (y 1).val := by
    show win0_10.index t (1 : Fin 2) * 128 + 1 * (y 1).val = _
    rw [e1]; omega
  refine congrArg (fun r : ℝ => (r : EReal)) ((daOut_point W t.val _).trans ?_)
  rw [b1, hl, daBefore_all]

/-- The point that writes a row. -/
def rowPoint (i : Fin 8192) : Fin cfg0.N := ⟨32 * (i.val / 4096) + (31 - i.val % 4096 / 128), by show _ < 64; have := i.isLt; omega⟩

/-- A row's place is in the block its point writes. -/
theorem mem_dx (i : S8192x3072.Idx) : i ∈ ((cfg0.win 8).blk (rowPoint (i 0))).view.set := by
  show i ∈ ((View.whole main_v50_0).slice (win0_8.rect (rowPoint (i 0)))).set
  rw [View.set_slice_whole, Rect.mem_set_unit]
  have h0 : (i 0).val < 8192 := (i 0).isLt
  have h1 : (i 1).val < 3072 := (i 1).isLt
  have e0 : win0_8.index (rowPoint (i 0)) (0 : Fin 2) = (i 0).val / 128 := by
    rw [(out_facts (rowPoint (i 0))).1]
    show 32 * ((32 * ((i 0).val / 4096) + (31 - (i 0).val % 4096 / 128)) / 32) + (31 - (32 * ((i 0).val / 4096) + (31 - (i 0).val % 4096 / 128)) % 32) = _
    omega
  have e1 : win0_8.index (rowPoint (i 0)) (1 : Fin 2) = 0 := (out_facts (rowPoint (i 0))).2.1
  intro a
  fin_cases a
  · show win0_8.index (rowPoint (i 0)) (0 : Fin 2) * 128 ≤ (i 0).val ∧ (i 0).val < win0_8.index (rowPoint (i 0)) (0 : Fin 2) * 128 + 128
    rw [e0]; clear e0 e1; omega
  · show win0_8.index (rowPoint (i 0)) (1 : Fin 2) * 3072 ≤ (i 1).val ∧ (i 1).val < win0_8.index (rowPoint (i 0)) (1 : Fin 2) * 3072 + 3072
    rw [e1]; clear e0 e1; omega

/-- The array of the inputs' gradient. -/
theorem final_dx (H : Entry m c W) : (dats m 0 c).arrAt 8 cfg0.N = fun i : S8192x3072.Idx => ((W.dX (i 0).val (i 1).val : ℝ) : EReal) :=
  (dats m 0 c).arrAt_eq_of_cover 8 _ (fun t _ => flushed_dx H t) (fun i => ⟨rowPoint (i 0), flush0_8 _, mem_dx i⟩)

/-- A row's place is in the block its point writes. -/
theorem mem_ddt (i : S8192x128.Idx) : i ∈ ((cfg0.win 9).blk (rowPoint (i 0))).view.set := by
  show i ∈ ((View.whole main_v50_1).slice (win0_9.rect (rowPoint (i 0)))).set
  rw [View.set_slice_whole, Rect.mem_set_unit]
  have h0 : (i 0).val < 8192 := (i 0).isLt
  have h1 : (i 1).val < 128 := (i 1).isLt
  have e0 : win0_9.index (rowPoint (i 0)) (0 : Fin 2) = (i 0).val / 128 := by
    rw [(out_facts (rowPoint (i 0))).2.2.1]
    show 32 * ((32 * ((i 0).val / 4096) + (31 - (i 0).val % 4096 / 128)) / 32) + (31 - (32 * ((i 0).val / 4096) + (31 - (i 0).val % 4096 / 128)) % 32) = _
    omega
  have e1 : win0_9.index (rowPoint (i 0)) (1 : Fin 2) = 0 := (out_facts (rowPoint (i 0))).2.2.2.1
  intro a
  fin_cases a
  · show win0_9.index (rowPoint (i 0)) (0 : Fin 2) * 128 ≤ (i 0).val ∧ (i 0).val < win0_9.index (rowPoint (i 0)) (0 : Fin 2) * 128 + 128
    rw [e0]; clear e0 e1; omega
  · show win0_9.index (rowPoint (i 0)) (1 : Fin 2) * 128 ≤ (i 1).val ∧ (i 1).val < win0_9.index (rowPoint (i 0)) (1 : Fin 2) * 128 + 128
    rw [e1]; clear e0 e1; omega

/-- The array of the step sizes' gradient. -/
theorem final_ddt (H : Entry m c W) : (dats m 0 c).arrAt 9 cfg0.N = fun i : S8192x128.Idx => ((W.dDt (i 0).val (i 1).val : ℝ) : EReal) :=
  (dats m 0 c).arrAt_eq_of_cover 9 _ (fun t _ => flushed_ddt H t) (fun i => ⟨rowPoint (i 0), flush0_9 _, mem_ddt i⟩)

/-- The point that writes the one block back. -/
def lastPoint : Fin cfg0.N := ⟨63, by show _ < 64; omega⟩

theorem mem_da (i : S1x128.Idx) : i ∈ ((cfg0.win 10).blk lastPoint).view.set := by
  show i ∈ ((View.whole main_v50_2).slice (win0_10.rect lastPoint)).set
  rw [View.set_slice_whole, Rect.mem_set_unit]
  have h0 : (i 0).val < 1 := (i 0).isLt
  have h1 : (i 1).val < 128 := (i 1).isLt
  intro a
  fin_cases a
  · show win0_10.index lastPoint (0 : Fin 2) * 1 ≤ (i 0).val ∧ (i 0).val < win0_10.index lastPoint (0 : Fin 2) * 1 + 1
    rw [(out_facts lastPoint).2.2.2.2.1]; omega
  · show win0_10.index lastPoint (1 : Fin 2) * 128 ≤ (i 1).val ∧ (i 1).val < win0_10.index lastPoint (1 : Fin 2) * 128 + 128
    rw [(out_facts lastPoint).2.2.2.2.2]; omega

/-- The array of the gradient at the decay rates. -/
theorem final_da (H : Entry m c W) : (dats m 0 c).arrAt 10 cfg0.N = fun i : S1x128.Idx => ((W.dA (i 1).val : ℝ) : EReal) :=
  (dats m 0 c).arrAt_eq_of_cover 10 _ (fun t hf => flushed_da H t hf) (fun i => ⟨lastPoint, (flush0_10 _).mpr rfl, mem_da i⟩)

end Cert.KernelIdeal.Hand
-- ==== Proof.SsdHost.lean ====
/- What the operations before the recurrence's gradient call prepare for it: the heads' membership matrices and the state before every chunk. -/
module

public import proofs.«01_k».proof.Proof.SsdReference
public import proofs.«01_k».proof.Proof.SsdFold
public import Idealize.ShloMosaic.Lib.Claim

@[expose] public section

set_option maxRecDepth 65536

noncomputable section

namespace Cert.KernelIdeal.Hand

open Cert.KernelIdeal Cert.KernelIdeal.Gen Idealize.ShloMosaic Idealize.ShloMosaic.TcCoe Idealize.SL.Sem

/-! ## The membership matrices -/

/-- Every column's index. -/
def colIx : IVec S32x2048 32 := iotaInDim S32x2048 32 1
/-- The head size, at every place. -/
def headSize : IVec S32x2048 32 := broadcastInDim S32x2048 ![] bcast_S_S32x2048 (id (constantI S_ 32 64#32))
/-- The head of every column: the quotient rounded down. -/
def colHead : IVec S32x2048 32 :=
  select (andi (cmpi .ne (signi colIx) (broadcastInDim S32x2048 ![] bcast_S_S32x2048 (signi (id (constantI S_ 32 64#32)))))
      (cmpi .ne (Host.remsi colIx headSize) (broadcastInDim S32x2048 ![] bcast_S_S32x2048 (constantI S_ 32 0#32))))
    (subi (Host.divsi colIx headSize) (broadcastInDim S32x2048 ![] bcast_S_S32x2048 (constantI S_ 32 1#32)))
    (Host.divsi colIx headSize)
/-- Which columns are a head's. -/
def members : FVec Ideal S32x2048 .bf16 := uitofp .bf16 (cmpi .eq colHead (iotaInDim S32x2048 32 0))
/-- Its transpose, with columns of zeros. -/
def membersT : FVec Ideal S2048x128 .bf16 :=
  pad S2048x128 ![0, 0] ![0, 96] ![0, 0] (transpose S2048x32 [1, 0] members transposes_S32x2048_S2048x32_1_0) (sitofp .bf16 (constantI S_ 32 0#32) : FVec Ideal S_ .bf16)
    pads_S2048x32_S2048x128_000_0960 h_S_

/-! ## The states -/

/-- The log decay up to a chunk's start. -/
def chunkLog (dt : FVec Ideal S8192x128 .f32) (al : FVec Ideal S1x128 .f32) : FVec Ideal S2x32x4x8 .f32 :=
  Host.slice S2x32x4x8 ![0, 0, 0, 0] ![1, 128, 1, 1] (subf (Cert.ReferenceIdeal.Read.val_main_v16 (F := Ideal) dt al) (Cert.ReferenceIdeal.Read.val_main_v15 (F := Ideal) dt al))
    slicesBy_S2x4096x4x8_S2x32x4x8_0s1_0s128_0s1_0s1
/-- The log decay from each step to each chunk's start. -/
def gapLog (dt : FVec Ideal S8192x128 .f32) (al : FVec Ideal S1x128 .f32) : FVec Ideal S2x32x4096x4x8 .f32 :=
  subf (broadcastInDim S2x32x4096x4x8 ![0, 1, 2, 3, 4] bcast_S2x32x1x4x8_S2x32x4096x4x8_0_1_2_3_4
      (broadcastInDim S2x32x1x4x8 ![0, 1, 3, 4] bcast_S2x32x4x8_S2x32x1x4x8_0_1_3_4 (chunkLog dt al)))
    (broadcastInDim S2x32x4096x4x8 ![0, 1, 2, 3, 4] bcast_S2x1x4096x4x8_S2x32x4096x4x8_0_1_2_3_4
      (broadcastInDim S2x1x4096x4x8 ![0, 2, 3, 4] bcast_S2x4096x4x8_S2x1x4096x4x8_0_2_3_4 (Cert.ReferenceIdeal.Read.val_main_v16 (F := Ideal) dt al)))
/-- Which steps come before a chunk. -/
def earlier : IVec S2x32x4096x4x8 1 :=
  broadcastInDim S2x32x4096x4x8 ![0, 1, 2, 3, 4] bcast_S1x32x4096x1x1_S2x32x4096x4x8_0_1_2_3_4
    (broadcastInDim S1x32x4096x1x1 ![1, 2] bcast_S32x4096_S1x32x4096x1x1_1_2
      (cmpi .slt (iotaInDim S32x4096 32 1) (muli (broadcastInDim S32x4096 ![] bcast_S_S32x4096 (constantI S_ 32 128#32)) (iotaInDim S32x4096 32 0))))
/-- The decay from each earlier step to each chunk's start. -/
def gap (dt : FVec Ideal S8192x128 .f32) (al : FVec Ideal S1x128 .f32) : FVec Ideal S2x32x4096x4x8 .f32 :=
  Host.exp (select earlier (gapLog dt al) (broadcastInDim S2x32x4096x4x8 ![] bcast_S_S2x32x4096x4x8 (id (constant S_ .f32 0xFF800000#32 : FVec Ideal S_ .f32))))
/-- Each step's input, decayed to each chunk's start. -/
def decayed (x : FVec Ideal S8192x3072 .f32) (dt : FVec Ideal S8192x128 .f32) (al : FVec Ideal S1x128 .f32) : FVec Ideal S2x32x4096x4x8x64 .f32 :=
  mulf (broadcastInDim S2x32x4096x4x8x64 ![0, 1, 2, 3, 4, 5] bcast_S2x32x4096x4x8x1_S2x32x4096x4x8x64_0_1_2_3_4_5
      (broadcastInDim S2x32x4096x4x8x1 ![0, 1, 2, 3, 4] bcast_S2x32x4096x4x8_S2x32x4096x4x8x1_0_1_2_3_4 (gap dt al)))
    (broadcastInDim S2x32x4096x4x8x64 ![0, 1, 2, 3, 4, 5] bcast_S2x1x4096x4x8x64_S2x32x4096x4x8x64_0_1_2_3_4_5
      (broadcastInDim S2x1x4096x4x8x64 ![0, 2, 3, 4, 5] bcast_S2x4096x4x8x64_S2x1x4096x4x8x64_0_2_3_4_5 (Cert.ReferenceIdeal.Read.val_main_v35 (F := Ideal) x dt)))
/-- The states, by group. -/
def stateSums (x : FVec Ideal S8192x3072 .f32) (dt : FVec Ideal S8192x128 .f32) (al : FVec Ideal S1x128 .f32) : FVec Ideal S2x4x128x32x8x64 .f32 :=
  Host.dotGeneral (φ₁ := .f32) (φ₂ := .f32) dot_S2x4096x4x128_S2x32x4096x4x8x64_S2x4x128x32x8x64_1_2_3_145_02_03 none (Cert.ReferenceIdeal.Read.val_main_v5 (F := Ideal) x) (decayed x dt al)
/-- The states, by chunk. -/
def states (x : FVec Ideal S8192x3072 .f32) (dt : FVec Ideal S8192x128 .f32) (al : FVec Ideal S1x128 .f32) : FVec Ideal S64x128x2048 .f32 :=
  shapeCast _ (transpose S2x32x128x4x8x64 [0, 3, 2, 1, 4, 5] (stateSums x dt al) transposes_S2x4x128x32x8x64_S2x32x128x4x8x64_0_3_2_1_4_5) shapeCasts_S2x32x128x4x8x64_S64x128x2048

variable (m : (ℓ : Loc nD τ sig) → Buf (Elt Ideal) ℓ) (c : Dev nD)

theorem entry_ex : V m c main_v4 = members := by
  entry_read
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem entry_exT : V m c main_v6 = membersT := by
  entry_read
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem entry_st : V m c main_v49 = states (m ((c : Thread nD τ).loc main_arg0)) (m ((c : Thread nD τ).loc main_arg1)) (m ((c : Thread nD τ).loc main_arg2)) := by
  entry_read
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

end Cert.KernelIdeal.Hand
-- ==== Proof.SsdHostValues.lean ====
/- The prepared operands on real arguments: which columns are a head's, and the state before every chunk. -/
module

public import proofs.«01_k».proof.Proof.SsdHost
public import Idealize.ShloMosaic.Lib.ValueIdxRank6

@[expose] public section

set_option maxRecDepth 16384

noncomputable section

namespace Cert.KernelIdeal.Hand

open Cert.KernelIdeal Cert.KernelIdeal.Gen Idealize.ShloMosaic Idealize.ShloMosaic.TcCoe Idealize.SL.Sem
open Cert.Ssd Cert.Recurrence Cert.Running
open Cert.ReferenceIdeal.Hand (ax adt aal ady ask real add_real sub_real mul_real mul_real' bits_bot)

/-! ## Membership -/

/-- A word's sign. -/
def wordSign (p : BitVec 32) : BitVec 32 := if p = 0 then 0 else if p.msb then -1 else 1

/-- The quotient of a column's index by the head size, rounded down, word by word. -/
def headWord (p : BitVec 32) : BitVec 32 :=
  if IntOp.andi (IntOp.cmpi .ne (wordSign p) (wordSign 64#32)) (IntOp.cmpi .ne (IntOp.remsi .host p 64#32) 0#32) = 1#1
    then IntOp.subi (IntOp.divsi .host p 64#32) 1#32 else IntOp.divsi .host p 64#32

theorem headWord_eq : ∀ p : Fin 2048, headWord (BitVec.ofNat 32 p.val) = BitVec.ofNat 32 (p.val / 64) := by
  decide +kernel

theorem colHead_apply (i : S32x2048.Idx) : colHead i = BitVec.ofNat 32 ((i 1).val / 64) :=
  (show colHead i = headWord (BitVec.ofNat 32 (i 1).val) from rfl).trans (headWord_eq (i 1))

theorem members_apply (i : S32x2048.Idx) : members i = ((Chunk.hot (i 1).val (i 0).val : ℝ) : EReal) := by
  have h0 : (i 0).val < 32 := (i 0).isLt
  have h1 : (i 1).val < 2048 := (i 1).isLt
  show FloatOps.uitofp (F := Ideal) .bf16 (IntOp.cmpi .eq (colHead i) (BitVec.ofNat 32 (i 0).val)) = _
  rw [colHead_apply]
  have e : IntOp.cmpi .eq (BitVec.ofNat 32 ((i 1).val / 64)) (BitVec.ofNat 32 (i 0).val) = if (i 1).val / 64 = (i 0).val then 1#1 else 0#1 := by
    have hh : BitVec.ofNat 32 ((i 1).val / 64) = BitVec.ofNat 32 (i 0).val ↔ (i 1).val / 64 = (i 0).val := by
      constructor
      · intro h
        have := congrArg BitVec.toNat h
        rw [BitVec.toNat_ofNat, BitVec.toNat_ofNat, Nat.mod_eq_of_lt (by omega), Nat.mod_eq_of_lt (by omega)] at this
        exact this
      · intro h; rw [h]
    by_cases h : (i 1).val / 64 = (i 0).val
    · rw [if_pos h, h]; simp [IntOp.cmpi]
    · rw [if_neg h]
      have := fun k => h (hh.mp k)
      show BitVec.ofBool (BitVec.ofNat 32 ((i 1).val / 64) == BitVec.ofNat 32 (i 0).val) = 0#1
      rw [beq_false_of_ne this]; rfl
  rw [e, Chunk.hot]
  by_cases h : (i 1).val / 64 = (i 0).val
  · rw [if_pos h, if_pos h]
    show ((((1#1 : BitVec 1).toNat : ℝ)) : EReal) = _
    simp
  · rw [if_neg h, if_neg h]
    show ((((0#1 : BitVec 1).toNat : ℝ)) : EReal) = _
    simp

theorem membersT_apply (i : S2048x128.Idx) : membersT i = ((Chunk.hot (i 0).val (i 1).val : ℝ) : EReal) := by
  have h0 : (i 0).val < 2048 := (i 0).isLt
  unfold membersT
  refine (pad_cols (a := 2048) (b := 32) (n := 128) Chunk.hot (fun j => ?_) (fun _ => ?_) _ _ i).trans (real ?_)
  · exact members_apply _
  · show ((((0#32 : BitVec 32).toInt : ℝ)) : EReal) = 0
    simp
  · by_cases h : (i 1).val < 32
    · rw [if_pos ⟨Nat.zero_le _, h⟩]; rfl
    · rw [if_neg (fun k => h k.2), Chunk.hot, if_neg (by omega)]

/-! ## States -/

variable (W : Whole)

theorem chunkLog_apply (i : S2x32x4x8.Idx) : chunkLog (adt W) (aal W) i
    = ((pre (W.la (i 0).val (8 * (i 2).val + (i 3).val)) (128 * (i 1).val) : ℝ) : EReal) := by
  have h1 : (i 1).val < 32 := (i 1).isLt
  have h2 : (i 2).val < 4 := (i 2).isLt
  have h3 : (i 3).val < 8 := (i 3).isLt
  unfold chunkLog
  refine (sub_real (Cert.ReferenceIdeal.Hand.v16 W _) (Cert.ReferenceIdeal.Hand.v15 W _)).trans (real ?_)
  show pre (W.la (0 + 1 * (i 0).val) (8 * (0 + 1 * (i 2).val) + (0 + 1 * (i 3).val))) (0 + 128 * (i 1).val + 1)
    - W.la (0 + 1 * (i 0).val) (8 * (0 + 1 * (i 2).val) + (0 + 1 * (i 3).val)) (0 + 128 * (i 1).val) = _
  simp only [Nat.zero_add, Nat.one_mul]
  rw [pre, Finset.sum_range_succ]
  exact add_sub_cancel_right _ _

/-! What each repeated operand reads. -/

theorem over_steps (y : FVec Ideal S2x32x4x8 .f32) (i : S2x32x4096x4x8.Idx) :
    broadcastInDim S2x32x4096x4x8 ![0, 1, 2, 3, 4] bcast_S2x32x1x4x8_S2x32x4096x4x8_0_1_2_3_4 (broadcastInDim S2x32x1x4x8 ![0, 1, 3, 4] bcast_S2x32x4x8_S2x32x1x4x8_0_1_3_4 y) i
      = y (ValueIdx.ix4 ⟨(i 0).val, (i 0).isLt⟩ ⟨(i 1).val, (i 1).isLt⟩ ⟨(i 3).val, (i 3).isLt⟩ ⟨(i 4).val, (i 4).isLt⟩) :=
  congrArg y (funext fun a => Fin.ext (by fin_cases a <;> rfl))
theorem over_chunks (y : FVec Ideal S2x4096x4x8 .f32) (i : S2x32x4096x4x8.Idx) :
    broadcastInDim S2x32x4096x4x8 ![0, 1, 2, 3, 4] bcast_S2x1x4096x4x8_S2x32x4096x4x8_0_1_2_3_4 (broadcastInDim S2x1x4096x4x8 ![0, 2, 3, 4] bcast_S2x4096x4x8_S2x1x4096x4x8_0_2_3_4 y) i
      = y (ValueIdx.ix4 ⟨(i 0).val, (i 0).isLt⟩ ⟨(i 2).val, (i 2).isLt⟩ ⟨(i 3).val, (i 3).isLt⟩ ⟨(i 4).val, (i 4).isLt⟩) :=
  congrArg y (funext fun a => Fin.ext (by fin_cases a <;> rfl))
theorem over_cols (y : FVec Ideal S2x32x4096x4x8 .f32) (i : S2x32x4096x4x8x64.Idx) :
    broadcastInDim S2x32x4096x4x8x64 ![0, 1, 2, 3, 4, 5] bcast_S2x32x4096x4x8x1_S2x32x4096x4x8x64_0_1_2_3_4_5
        (broadcastInDim S2x32x4096x4x8x1 ![0, 1, 2, 3, 4] bcast_S2x32x4096x4x8_S2x32x4096x4x8x1_0_1_2_3_4 y) i
      = y (ValueIdx.ix5 ⟨(i 0).val, (i 0).isLt⟩ ⟨(i 1).val, (i 1).isLt⟩ ⟨(i 2).val, (i 2).isLt⟩ ⟨(i 3).val, (i 3).isLt⟩ ⟨(i 4).val, (i 4).isLt⟩) :=
  congrArg y (funext fun a => Fin.ext (by fin_cases a <;> rfl))
theorem cols_over_chunks (y : FVec Ideal S2x4096x4x8x64 .f32) (i : S2x32x4096x4x8x64.Idx) :
    broadcastInDim S2x32x4096x4x8x64 ![0, 1, 2, 3, 4, 5] bcast_S2x1x4096x4x8x64_S2x32x4096x4x8x64_0_1_2_3_4_5
        (broadcastInDim S2x1x4096x4x8x64 ![0, 2, 3, 4, 5] bcast_S2x4096x4x8x64_S2x1x4096x4x8x64_0_2_3_4_5 y) i
      = y (ValueIdx.ix5 ⟨(i 0).val, (i 0).isLt⟩ ⟨(i 2).val, (i 2).isLt⟩ ⟨(i 3).val, (i 3).isLt⟩ ⟨(i 4).val, (i 4).isLt⟩ ⟨(i 5).val, (i 5).isLt⟩) :=
  congrArg y (funext fun a => Fin.ext (by fin_cases a <;> rfl))

theorem gapLog_apply (i : S2x32x4096x4x8.Idx) : gapLog (adt W) (aal W) i
    = ((pre (W.la (i 0).val (8 * (i 3).val + (i 4).val)) (128 * (i 1).val) - pre (W.la (i 0).val (8 * (i 3).val + (i 4).val)) ((i 2).val + 1) : ℝ) : EReal) := by
  unfold gapLog
  exact sub_real ((over_steps _ i).trans (chunkLog_apply W _)) ((over_chunks _ i).trans (Cert.ReferenceIdeal.Hand.v16 W _))

theorem earlier_apply (i : S2x32x4096x4x8.Idx) : earlier i = if (i 2).val < 128 * (i 1).val then 1#1 else 0#1 := by
  have h1 : (i 1).val < 32 := (i 1).isLt
  have h2 : (i 2).val < 4096 := (i 2).isLt
  refine Eq.trans ?_ (cmp_slt (show (i 2).val < 2 ^ 31 by omega) (show 128 * (i 1).val < 2 ^ 31 by omega))
  show IntOp.cmpi .slt (BitVec.ofNat 32 (i 2).val) (128#32 * BitVec.ofNat 32 (i 1).val) = _
  rw [BitVec.ofNat_mul]

theorem gap_apply (i : S2x32x4096x4x8.Idx) : gap (adt W) (aal W) i
    = ((if (i 2).val < 128 * (i 1).val then Real.exp (pre (W.la (i 0).val (8 * (i 3).val + (i 4).val)) (128 * (i 1).val)
        - pre (W.la (i 0).val (8 * (i 3).val + (i 4).val)) ((i 2).val + 1)) else 0 : ℝ) : EReal) := by
  show Ideal.exp (if earlier i = 1#1 then gapLog (adt W) (aal W) i else FloatOps.ofBits (F := Ideal) .f32 0xFF800000#32) = _
  rw [earlier_apply, gapLog_apply, bits_bot]
  by_cases h : (i 2).val < 128 * (i 1).val
  · rw [if_pos h, if_pos h, if_pos rfl]; rfl
  · rw [if_neg h, if_neg h, if_neg (by decide)]; rfl

theorem decayed_apply (i : S2x32x4096x4x8x64.Idx) : decayed (ax W) (adt W) (aal W) i
    = (((if (i 2).val < 128 * (i 1).val then Real.exp (pre (W.la (i 0).val (8 * (i 3).val + (i 4).val)) (128 * (i 1).val)
        - pre (W.la (i 0).val (8 * (i 3).val + (i 4).val)) ((i 2).val + 1)) else 0)
      * W.xd (i 0).val (8 * (i 3).val + (i 4).val) (i 5).val (i 2).val : ℝ) : EReal) := by
  unfold decayed
  exact mul_real ((over_cols _ i).trans (gap_apply W _)) ((cols_over_chunks _ i).trans (Cert.ReferenceIdeal.Hand.v35 W _))

/-! The sums' operand indices. -/

abbrev statesDot := dot_S2x4096x4x128_S2x32x4096x4x8x64_S2x4x128x32x8x64_1_2_3_145_02_03

/-- Where a term of a state's sum reads the keys. -/
def keyIx (i : S2x4x128x32x8x64.Idx) (t : Fin 4096) : S2x4096x4x128.Idx := ValueIdx.ix4 ⟨(i 0).val, (i 0).isLt⟩ t ⟨(i 1).val, (i 1).isLt⟩ ⟨(i 2).val, (i 2).isLt⟩
/-- Where it reads the decayed inputs. -/
def inIx (i : S2x4x128x32x8x64.Idx) (t : Fin 4096) : S2x32x4096x4x8x64.Idx :=
  ValueIdx.ix6 ⟨(i 0).val, (i 0).isLt⟩ ⟨(i 3).val, (i 3).isLt⟩ t ⟨(i 1).val, (i 1).isLt⟩ ⟨(i 4).val, (i 4).isLt⟩ ⟨(i 5).val, (i 5).isLt⟩

theorem lhs_ix (i : S2x4x128x32x8x64.Idx) (t : Fin 4096) (q) (hq : (q ⟨0, by decide⟩ : Fin _).val = t.val) : statesDot.lhsIdx i q = keyIx i t := by
  funext a
  refine Fin.ext ?_
  fin_cases a
  · show (statesDot.lhsIdx i q 0).val = _
    unfold DotDims.lhsIdx
    rw [dif_pos (show (0 : Fin S2x4096x4x128.rank) ∈ statesDot.lhsBatch by decide)]; rfl
  · exact (statesDot.lhsIdx_val_of_single rfl i q).trans hq
  · show (statesDot.lhsIdx i q 2).val = _
    unfold DotDims.lhsIdx
    rw [dif_pos (show (2 : Fin S2x4096x4x128.rank) ∈ statesDot.lhsBatch by decide)]; rfl
  · show (statesDot.lhsIdx i q 3).val = _
    unfold DotDims.lhsIdx
    rw [dif_neg (show ¬(3 : Fin S2x4096x4x128.rank) ∈ statesDot.lhsBatch by decide), dif_pos (show (3 : Fin S2x4096x4x128.rank) ∈ statesDot.lhsNonContracting by decide)]; rfl

theorem rhs_ix (i : S2x4x128x32x8x64.Idx) (t : Fin 4096) (q) (hq : (q ⟨0, by decide⟩ : Fin _).val = t.val) : statesDot.rhsIdx i q = inIx i t := by
  funext a
  refine Fin.ext ?_
  fin_cases a
  · show (statesDot.rhsIdx i q 0).val = _
    unfold DotDims.rhsIdx
    rw [dif_pos (show (0 : Fin S2x32x4096x4x8x64.rank) ∈ statesDot.rhsBatch by decide)]; rfl
  · show (statesDot.rhsIdx i q 1).val = _
    unfold DotDims.rhsIdx
    rw [dif_neg (show ¬(1 : Fin S2x32x4096x4x8x64.rank) ∈ statesDot.rhsBatch by decide), dif_pos (show (1 : Fin S2x32x4096x4x8x64.rank) ∈ statesDot.rhsNonContracting by decide)]; rfl
  · exact (statesDot.rhsIdx_val_of_single rfl i q).trans hq
  · show (statesDot.rhsIdx i q 3).val = _
    unfold DotDims.rhsIdx
    rw [dif_pos (show (3 : Fin S2x32x4096x4x8x64.rank) ∈ statesDot.rhsBatch by decide)]; rfl
  · show (statesDot.rhsIdx i q 4).val = _
    unfold DotDims.rhsIdx
    rw [dif_neg (show ¬(4 : Fin S2x32x4096x4x8x64.rank) ∈ statesDot.rhsBatch by decide), dif_pos (show (4 : Fin S2x32x4096x4x8x64.rank) ∈ statesDot.rhsNonContracting by decide)]; rfl
  · show (statesDot.rhsIdx i q 5).val = _
    unfold DotDims.rhsIdx
    rw [dif_neg (show ¬(5 : Fin S2x32x4096x4x8x64.rank) ∈ statesDot.rhsBatch by decide), dif_pos (show (5 : Fin S2x32x4096x4x8x64.rank) ∈ statesDot.rhsNonContracting by decide)]; rfl

/-- The steps before a chunk are the only ones that count. -/
theorem state_cut (la x b : ℕ → ℝ) {k : ℕ} (hk : k < 32) :
    ∑ t ∈ Finset.range 4096, b t * ((if t < 128 * k then Real.exp (pre la (128 * k) - pre la (t + 1)) else 0) * x t) = state la b x (128 * k) := by
  rw [Whole.split_at hk, Finset.sum_eq_zero (s := Finset.range 128), Finset.sum_eq_zero (s := Finset.Ico _ _), add_zero, add_zero, state]
  · refine Finset.sum_congr rfl fun t ht => ?_
    rw [if_pos (Finset.mem_range.mp ht)]; ring
  · intro t ht
    rw [if_neg (by have := (Finset.mem_Ico.mp ht).1; omega), zero_mul, mul_zero]
  · intro t _
    rw [if_neg (by omega), zero_mul, mul_zero]

theorem stateSums_apply (i : S2x4x128x32x8x64.Idx) : stateSums (ax W) (adt W) (aal W) i
    = ((state (W.la (i 0).val (8 * (i 1).val + (i 4).val)) (fun s => W.b (i 0).val (i 1).val s (i 2).val)
        (W.xd (i 0).val (8 * (i 1).val + (i 4).val) (i 5).val) (128 * (i 3).val) : ℝ) : EReal) := by
  have h3 : (i 3).val < 32 := (i 3).isLt
  rw [← state_cut _ _ _ h3]
  unfold stateSums
  simp only [Host.dotGeneral]
  rw [Ideal.dotGeneral_apply, ← Equiv.sum_comp (ValueIdx.contrEquiv1 statesDot 4096 rfl rfl).symm]
  refine sum_coe (fun t => W.b (i 0).val (i 1).val t (i 2).val * ((if t < 128 * (i 3).val then Real.exp (pre (W.la (i 0).val (8 * (i 1).val + (i 4).val)) (128 * (i 3).val)
    - pre (W.la (i 0).val (8 * (i 1).val + (i 4).val)) (t + 1)) else 0) * W.xd (i 0).val (8 * (i 1).val + (i 4).val) (i 5).val t)) fun t => ?_
  have ht := ValueIdx.contrEquiv1_symm_val statesDot 4096 rfl rfl t
  rw [lhs_ix i t _ ht, rhs_ix i t _ ht]
  exact mul_real' (Cert.ReferenceIdeal.Hand.v5 W _) (decayed_apply W _)

theorem states_apply (i : S64x128x2048.Idx) : states (ax W) (adt W) (aal W) i = ((stAt W (i 0).val (i 1).val (i 2).val : ℝ) : EReal) := by
  have h0 : (i 0).val < 64 := (i 0).isLt
  have h1 : (i 1).val < 128 := (i 1).isLt
  have h2 : (i 2).val < 2048 := (i 2).isLt
  unfold states
  refine (shapeCast_apply _ _ i (ValueIdx.ix6 (⟨(i 0).val / 32, by omega⟩ : Fin 2) (⟨(i 0).val % 32, by omega⟩ : Fin 32) (⟨(i 1).val, h1⟩ : Fin 128)
    (⟨(i 2).val / 512, by omega⟩ : Fin 4) (⟨(i 2).val / 64 % 8, by omega⟩ : Fin 8) (⟨(i 2).val % 64, by omega⟩ : Fin 64)) ?_).trans ?_
  · rw [Shape.rowMajor_val_six, Shape.rowMajor_val_three]
    show ((((((i 0).val / 32) * 32 + (i 0).val % 32) * 128 + (i 1).val) * 4 + (i 2).val / 512) * 8 + (i 2).val / 64 % 8) * 64 + (i 2).val % 64 = ((i 0).val * 128 + (i 1).val) * 2048 + (i 2).val
    omega
  · refine (stateSums_apply W _).trans (real ?_)
    show state (W.la ((i 0).val / 32) (8 * ((i 2).val / 512) + (i 2).val / 64 % 8)) (fun s => W.b ((i 0).val / 32) ((i 2).val / 512) s (i 1).val)
      (W.xd ((i 0).val / 32) (8 * ((i 2).val / 512) + (i 2).val / 64 % 8) ((i 2).val % 64)) (128 * ((i 0).val % 32)) = _
    rw [show 8 * ((i 2).val / 512) + (i 2).val / 64 % 8 = (i 2).val / 64 by omega]
    rfl

end Cert.KernelIdeal.Hand
-- ==== Proof.SsdReferenceSteps.lean ====
/- The reference's gradients at the step sizes and at the decay rates, on real operands. -/
module

public import proofs.«01_k».proof.Proof.SsdReference
public import Idealize.ShloMosaic.PureOps.Reduce

@[expose] public section

set_option maxRecDepth 16384

noncomputable section

namespace Cert.ReferenceIdeal.Hand

open Cert.ReferenceIdeal Cert.ReferenceIdeal.Gen Cert.ReferenceIdeal.Read Idealize.ShloMosaic Finset Cert.Recurrence Cert.Ssd Cert.Running

variable (W : Whole)

/-- The four axes of the per-step values of all heads, read from one row-major number. -/
theorem split4 {q t g r n : ℕ} (hq : q < 2) (ht : t < 4096) (hg : g < 4) (hr : r < 8) (h : n = ((q * 4096 + t) * 4 + g) * 8 + r) :
    n / 131072 = q ∧ n / 32 % 4096 = t ∧ n / 8 % 4 = g ∧ n % 8 = r := by subst h; refine ⟨?_, ?_, ?_, ?_⟩ <;> omega

theorem idx56 (i : S2x4096x4x8.Idx) (k : Fin 1) : idx_main_v56 (idx_main_v59 i k) = i := by
  obtain ⟨h0, h1, h2, h3⟩ := split4 (n := ((((i 0).val * 4096 + (i 1).val) * 4 + (i 2).val) * 8 + (i 3).val) * 1 + k.val) (i 0).isLt (i 1).isLt (i 2).isLt (i 3).isLt
    (by have : k.val < 1 := k.isLt; omega)
  funext a
  match a with
  | ⟨0, _⟩ => exact Fin.ext h0
  | ⟨1, _⟩ => exact Fin.ext h1
  | ⟨2, _⟩ => exact Fin.ext h2
  | ⟨3, _⟩ => exact Fin.ext h3

theorem idx74 (i : S2x4096x4x8.Idx) (k : Fin 1) : idx_main_v74 (idx_main_v79 i k) = i := by
  obtain ⟨h0, h1, h2, h3⟩ := split4 (n := ((((i 0).val * 4096 + (i 1).val) * 1 + k.val) * 4 + (i 2).val) * 8 + (i 3).val) (i 0).isLt (i 1).isLt (i 2).isLt (i 3).isLt
    (by have : k.val < 1 := k.isLt; omega)
  funext a
  match a with
  | ⟨0, _⟩ => exact Fin.ext h0
  | ⟨1, _⟩ => exact Fin.ext h1
  | ⟨2, _⟩ => exact Fin.ext h2
  | ⟨3, _⟩ => exact Fin.ext h3

theorem idx77 (i : S2x4096x4x8.Idx) (k : Fin 1) : idx_main_v77 (idx_main_v78 i k) = i := by
  obtain ⟨h0, h1, h2, h3⟩ := split4 (n := ((((i 0).val * 1 + k.val) * 4096 + (i 1).val) * 4 + (i 2).val) * 8 + (i 3).val) (i 0).isLt (i 1).isLt (i 2).isLt (i 3).isLt
    (by have : k.val < 1 := k.isLt; omega)
  funext a
  match a with
  | ⟨0, _⟩ => exact Fin.ext h0
  | ⟨1, _⟩ => exact Fin.ext h1
  | ⟨2, _⟩ => exact Fin.ext h2
  | ⟨3, _⟩ => exact Fin.ext h3

theorem neg_real {x : EReal} {r : ℝ} (h : x = r) : FloatOps.hostNegf (F := Ideal) (φ := .f32) x = ((-r : ℝ) : EReal) := by subst h; rfl

theorem v59 (i) : val_main_v59 (F := Ideal) (ax W) (adt W) (aal W) (ady W) i
    = ((∑ p ∈ range 64, W.x (i 0).val (8 * (i 2).val + (i 3).val) p (i 1).val * W.dxd (i 0).val (8 * (i 2).val + (i 3).val) p (i 1).val : ℝ) : EReal) := by
  rw [val_main_v59_apply]
  refine one_sum bits_zero fun k => ?_
  rw [val_main_v56_apply, idx56, val_main_v55_apply]
  refine zero_sum (F := fun p => W.x (i 0).val (8 * (i 2).val + (i 3).val) p (i 1).val * W.dxd (i 0).val (8 * (i 2).val + (i 3).val) p (i 1).val) bits_zero fun p => ?_
  rw [val_main_v54_apply]
  exact mul_real (v3 W _) (v53 W _)

theorem v72 (i) : val_main_v72 (F := Ideal) (ax W) (adt W) (aal W) (ady W) i = ((W.E (i 0).val (8 * (i 3).val + (i 4).val) (i 1).val (i 2).val : ℝ) : EReal) := by
  have h4 : (i 4).val < 8 := (i 4).isLt
  rw [val_main_v72_apply, mask]
  show (if (if (i 2).val ≤ (i 1).val then 1#1 else 0#1) = 1#1 then _ else _) = _
  by_cases hs : (i 2).val ≤ (i 1).val
  · rw [if_pos hs, if_pos rfl, val_main_v65_apply, Whole.E, show (8 * (i 3).val + (i 4).val) / 8 = (i 3).val by omega]
    refine mul_real ?_ (v30 W i)
    rw [val_main_v61_apply, val_main_v60_apply, val_main_v29_apply]
    exact mul_real (v28 W _) (v51 W i)
  · rw [if_neg hs, if_neg (by decide), W.E_of_lt _ _ _ _ (Nat.lt_of_not_le hs)]
    exact bits_zero

theorem v80 (i) : val_main_v80 (F := Ideal) (ax W) (adt W) (aal W) (ady W) i
    = ((net 4096 (W.E (i 0).val (8 * (i 2).val + (i 3).val)) (i 1).val : ℝ) : EReal) := by
  rw [val_main_v80_apply]
  refine (add_real (r := ∑ t ∈ range 4096, -W.E (i 0).val (8 * (i 2).val + (i 3).val) t (i 1).val)
    (s := ∑ s ∈ range 4096, W.E (i 0).val (8 * (i 2).val + (i 3).val) (i 1).val s) ?_ ?_).trans (real ?_)
  · rw [val_main_v78_apply]
    refine one_sum bits_zero fun k => ?_
    rw [val_main_v77_apply, idx77, val_main_v76_apply]
    refine zero_sum bits_zero fun t => ?_
    rw [val_main_v75_apply]
    exact neg_real (v72 W _)
  · rw [val_main_v79_apply]
    refine one_sum bits_zero fun k => ?_
    rw [val_main_v74_apply, idx74, val_main_v73_apply]
    exact zero_sum bits_zero fun t => v72 W _
  · rw [net, sum_neg_distrib]; ring

theorem v81 (i) : val_main_v81 (F := Ideal) (ax W) (adt W) (aal W) (ady W) i = ((W.dla (i 0).val (8 * (i 2).val + (i 3).val) (i 1).val : ℝ) : EReal) := by
  unfold val_main_v81
  exact from_ (fun q t g r => net 4096 (W.E q (8 * g + r)) t) (v80 W) (init := val_main_call3_call0_v0 (F := Ideal)) (fun _ => bits_zero) _ _ i

theorem v87 (i) : val_main_v87 (F := Ideal) (ax W) (adt W) (aal W) (ady W) i
    = (((∑ p ∈ range 64, W.x (i 0).val (8 * (i 2).val + (i 3).val) p (i 1).val * W.dxd (i 0).val (8 * (i 2).val + (i 3).val) p (i 1).val)
        + W.dla (i 0).val (8 * (i 2).val + (i 3).val) (i 1).val * W.a (8 * (i 2).val + (i 3).val) : ℝ) : EReal) := by
  rw [val_main_v87_apply]
  refine add_real (v59 W i) ?_
  rw [val_main_v86_apply, val_main_v85_apply]
  exact mul_real (v81 W i) (v13 W _)

theorem v93 (i) : val_main_v93 (F := Ideal) (ax W) (adt W) (aal W) (ady W) i = ((W.dDt (i 0).val (i 1).val : ℝ) : EReal) := by
  unfold val_main_v93
  refine (pad_cols (fun i h => (∑ p ∈ range 64, W.x (i / 4096) h p (i % 4096) * W.dxd (i / 4096) h p (i % 4096)) + W.dla (i / 4096) h (i % 4096) * W.a h)
    (fun j => ?_) (fun _ => bits_zero) _ _ i).trans (real ?_)
  · have j0 : (j 0).val < 8192 := (j 0).isLt
    have j1 : (j 1).val < 32 := (j 1).isLt
    rw [val_main_v92_apply, v87]
    have e0 : ((idx_main_v92 j) 0).val = (j 0).val / 4096 := show ((j 0).val * 32 + (j 1).val) / 131072 = _ by omega
    have e1 : ((idx_main_v92 j) 1).val = (j 0).val % 4096 := show ((j 0).val * 32 + (j 1).val) / 32 % 4096 = _ by omega
    have e2 : 8 * ((idx_main_v92 j) 2).val + ((idx_main_v92 j) 3).val = (j 1).val :=
      show 8 * (((j 0).val * 32 + (j 1).val) / 8 % 4) + ((j 0).val * 32 + (j 1).val) % 8 = _ by omega
    rw [e0, e1, e2]
  · rw [Whole.dDt]
    split_ifs <;> first | omega | simp

/-- The sum over both leading axes. -/
theorem lead_sum {x : S2x4096x4x8.Idx → EReal} {z : EReal} (f : ℕ → ℕ → ℕ → ℕ → ℝ) (hz : z = 0)
    (hx : ∀ i, x i = ((f (i 0).val (i 1).val (i 2).val (i 3).val : ℝ) : EReal)) (h : S2x4096x4x8.ReducesTo [0, 1] S4x8) (j : S4x8.Idx) :
    Ideal.hostReduceAdd h x z j = ((∑ q ∈ range 2, ∑ t ∈ range 4096, f q t (j 0).val (j 1).val : ℝ) : EReal) := by
  unfold Ideal.hostReduceAdd
  rw [hz, zero_add]
  refine Eq.trans (b := ∑ p : Fin 2 × Fin 4096, ((f p.1.val p.2.val (j 0).val (j 1).val : ℝ) : EReal)) ?_ ?_
  · refine (sum_bij (fun (p : Fin 2 × Fin 4096) _ => (fun a => match a with
      | ⟨0, _⟩ => ⟨p.1.val, p.1.isLt⟩
      | ⟨1, _⟩ => ⟨p.2.val, p.2.isLt⟩
      | ⟨2, _⟩ => ⟨(j 0).val, (j 0).isLt⟩
      | ⟨3, _⟩ => ⟨(j 1).val, (j 1).isLt⟩ : S2x4096x4x8.Idx)) ?_ ?_ ?_ ?_).symm
    · intro p _
      refine mem_filter.mpr ⟨mem_univ _, funext fun b => Fin.ext ?_⟩
      match b with
      | ⟨0, _⟩ => exact (Shape.ReducesTo.drop_apply_val h _ 0)
      | ⟨1, _⟩ => exact (Shape.ReducesTo.drop_apply_val h _ 1)
    · intro p _ p' _ he
      exact Prod.ext (Fin.ext (congrArg (fun i : S2x4096x4x8.Idx => (i 0).val) he)) (Fin.ext (congrArg (fun i : S2x4096x4x8.Idx => (i 1).val) he))
    · intro i hi
      have hd := (mem_filter.mp hi).2
      have d0 : (j 0).val = (i 2).val := hd ▸ Shape.ReducesTo.drop_apply_val h i 0
      have d1 : (j 1).val = (i 3).val := hd ▸ Shape.ReducesTo.drop_apply_val h i 1
      refine ⟨(⟨(i 0).val, (i 0).isLt⟩, ⟨(i 1).val, (i 1).isLt⟩), mem_univ _, funext fun a => Fin.ext ?_⟩
      match a with
      | ⟨0, _⟩ => rfl
      | ⟨1, _⟩ => rfl
      | ⟨2, _⟩ => exact d0
      | ⟨3, _⟩ => exact d1
    · intro p _; rw [hx]
  · rw [Fintype.sum_prod_type]
    exact sum_coe (fun q => ∑ t ∈ range 4096, f q t (j 0).val (j 1).val) fun q => sum_coe (fun t => f q.val t (j 0).val (j 1).val) fun _ => rfl

theorem v83 (j) : val_main_v83 (F := Ideal) (ax W) (adt W) (aal W) (ady W) j
    = ((∑ q ∈ range 2, ∑ t ∈ range 4096, W.Dt (4096 * q + t) (8 * (j 0).val + (j 1).val) * W.dla q (8 * (j 0).val + (j 1).val) t : ℝ) : EReal) := by
  unfold val_main_v83
  exact lead_sum (fun q t g r => W.Dt (4096 * q + t) (8 * g + r) * W.dla q (8 * g + r) t) bits_zero
    (fun i => (val_main_v82_apply _ _ _ _ i).trans (mul_real (v9 W i) (v81 W i))) _ j

/-- The sum over two one-place leading axes. -/
theorem lead_one {x : S1x1x4x8.Idx → EReal} {z : EReal} (f : ℕ → ℕ → ℝ) (hz : z = 0)
    (hx : ∀ i, x i = ((f (i 2).val (i 3).val : ℝ) : EReal)) (h : S1x1x4x8.ReducesTo [0, 1] S4x8) (j : S4x8.Idx) :
    Ideal.hostReduceAdd h x z j = ((f (j 0).val (j 1).val : ℝ) : EReal) := by
  unfold Ideal.hostReduceAdd
  rw [hz, zero_add]
  let i0 : S1x1x4x8.Idx := fun a => match a with
      | ⟨0, _⟩ => ⟨0, Nat.one_pos⟩
      | ⟨1, _⟩ => ⟨0, Nat.one_pos⟩
      | ⟨2, _⟩ => ⟨(j 0).val, (j 0).isLt⟩
      | ⟨3, _⟩ => ⟨(j 1).val, (j 1).isLt⟩
  refine (sum_eq_single i0 (fun i hi hne => absurd ?_ hne) fun hn => absurd (mem_filter.mpr ⟨mem_univ _, ?_⟩) hn).trans (hx i0)
  · have hd := (mem_filter.mp hi).2
    have d0 : (j 0).val = (i 2).val := hd ▸ Shape.ReducesTo.drop_apply_val h i 0
    have d1 : (j 1).val = (i 3).val := hd ▸ Shape.ReducesTo.drop_apply_val h i 1
    funext a
    match a with
    | ⟨0, _⟩ => exact Subsingleton.elim (α := Fin 1) _ _
    | ⟨1, _⟩ => exact Subsingleton.elim (α := Fin 1) _ _
    | ⟨2, _⟩ => exact Fin.ext d0.symm
    | ⟨3, _⟩ => exact Fin.ext d1.symm
  · refine funext fun b => Fin.ext ?_
    match b with
    | ⟨0, _⟩ => exact (Shape.ReducesTo.drop_apply_val h i0 0)
    | ⟨1, _⟩ => exact (Shape.ReducesTo.drop_apply_val h i0 1)

theorem v91 (i) : val_main_v91 (F := Ideal) (ax W) (adt W) (aal W) (ady W) i = ((W.dA (i 1).val : ℝ) : EReal) := by
  unfold val_main_v91
  refine (pad_cols (fun _ h => ∑ q ∈ range 2, ∑ t ∈ range 4096, W.Dt (4096 * q + t) h * W.dla q h t)
    (fun j => ?_) (fun _ => bits_zero) _ _ i).trans (real ?_)
  · have j1 : (j 1).val < 32 := (j 1).isLt
    rw [val_main_v90_apply, val_main_v89_apply]
    unfold val_main_v88
    refine (lead_one (fun g r => ∑ q ∈ range 2, ∑ t ∈ range 4096, W.Dt (4096 * q + t) (8 * g + r) * W.dla q (8 * g + r) t) bits_zero (fun k => ?_) _ _).trans (real ?_)
    · have k0 : (k 0).val < 1 := (k 0).isLt
      have k1 : (k 1).val < 1 := (k 1).isLt
      have k2 : (k 2).val < 4 := (k 2).isLt
      have k3 : (k 3).val < 8 := (k 3).isLt
      rw [val_main_v84_apply, v83]
      have e : 8 * ((idx_main_v84 k) 0).val + ((idx_main_v84 k) 1).val = 8 * (k 2).val + (k 3).val := by
        show 8 * (((((k 0).val * 1 + (k 1).val) * 4 + (k 2).val) * 8 + (k 3).val) / 8) + ((((k 0).val * 1 + (k 1).val) * 4 + (k 2).val) * 8 + (k 3).val) % 8 = _
        omega
      rw [e]
    · have e : 8 * ((idx_main_v89 (idx_main_v90 j)) 0).val + ((idx_main_v89 (idx_main_v90 j)) 1).val = (j 1).val := by
        show 8 * ((j 1).val / 8) + (j 1).val % 8 = _
        omega
      rw [e]
  · rw [Whole.dA]
    split_ifs <;> first | omega | simp

end Cert.ReferenceIdeal.Hand
-- ==== Proof.SsdValue.lean ====
/- The recurrence's gradient call against the reference, on real operands: its three results are the reference's. -/
module

public import proofs.«01_k».proof.Proof.SsdHostValues
public import proofs.«01_k».proof.Proof.SsdReferenceSteps
public import proofs.«01_k».proof.Proof.Gen.KernelIdeal.Value
public import proofs.«01_k».proof.Proof.Gen.ReferenceIdeal.Read
public import proofs.«01_k».proof.Proof.Gen.ReferenceIdeal.Run
public import proofs.«01_k».proof.Defs

@[expose] public section

set_option maxRecDepth 16384

noncomputable section

/-- The precondition's own side conditions. -/
theorem Cert.Pre_finite.side : Cert.Pre_finite.Facts := ⟨by decide, by decide, by decide, by decide, by decide⟩

namespace Cert.KernelIdeal.Hand

open Cert.KernelIdeal Cert.KernelIdeal.Gen Idealize.ShloMosaic Idealize.ShloMosaic.TcCoe Idealize.SL.Sem
open Cert.Ssd Cert.Recurrence
open Cert.ReferenceIdeal.Hand (ax adt aal ady ask)

/-! ## Real operands -/

/-- An extended real number below infinity in absolute value is a real one. -/
theorem real_of_abs_lt {x : EReal} (h : max x (-x) < ⊤) : x = ((x.toReal : ℝ) : EReal) := by
  refine (EReal.coe_toReal (fun k => ?_) (fun k => ?_)).symm
  · rw [k] at h; exact absurd h (by simp)
  · rw [k] at h; exact absurd h (by simp)

/-- What the precondition says of one operand. -/
theorem real_of_pre {s : Shape} (b : (⟨0, ![]⟩ : Shape).BroadcastsInDim s (![] : Fin 0 → Fin s.rank)) (x : FVec Ideal s .f32)
    (h : cmpf .olt (Host.absf x) (broadcastInDim s ![] b (constant ⟨0, ![]⟩ .f32 0x7F800000#32 : FVec Ideal ⟨0, ![]⟩ .f32)) = fun _ => 1#1) (i : s.Idx) :
    x i = (((x i : EReal).toReal : ℝ) : EReal) := by
  have e := congrFun h i
  have top : Ideal.ofBits .f32 0x7F800000#32 = ⊤ := by simp [Ideal.ofBits, Ideal.ieee]
  replace e : Ideal.cmp .olt (max (x i : EReal) (-(x i : EReal))) (Ideal.ofBits .f32 0x7F800000#32) = 1#1 := e
  rw [top] at e
  refine real_of_abs_lt ?_
  by_contra k
  simp [Ideal.cmp, k] at e

/-- An array's elements as real numbers, zero outside it. -/
def entries {a b : ℕ} (x : FVec Ideal ⟨2, ![a, b]⟩ .f32) (i j : ℕ) : ℝ :=
  if h : i < a ∧ j < b then (x (ValueIdx.ix2 ⟨i, h.1⟩ ⟨j, h.2⟩) : EReal).toReal else 0

theorem entries_at {a b : ℕ} {x : FVec Ideal ⟨2, ![a, b]⟩ .f32} (hx : ∀ i, x i = (((x i : EReal).toReal : ℝ) : EReal)) (i : (⟨2, ![a, b]⟩ : Shape).Idx) :
    x i = ((entries x (i 0).val (i 1).val : ℝ) : EReal) := by
  have e : ValueIdx.ix2 (⟨(i 0).val, (i 0).isLt⟩ : Fin a) (⟨(i 1).val, (i 1).isLt⟩ : Fin b) = i := funext fun d => Fin.ext (by fin_cases d <;> rfl)
  rw [entries, dif_pos ⟨(i 0).isLt, (i 1).isLt⟩, e]
  exact hx i

variable (m : (ℓ : Loc nD τ sig) → Buf (Elt Ideal) ℓ) (c : Dev nD)

/-- The call's arguments as real numbers. -/
def whole : Whole where
  X := entries (a := 8192) (b := 3072) (m ((c : Thread nD τ).loc main_arg0))
  Dt := entries (a := 8192) (b := 128) (m ((c : Thread nD τ).loc main_arg1))
  Al := entries (a := 1) (b := 128) (m ((c : Thread nD τ).loc main_arg2)) 0
  Dy := entries (a := 8192) (b := 2048) (m ((c : Thread nD τ).loc main_arg3))
  Sk := entries (a := 1) (b := 2048) (m ((c : Thread nD τ).loc main_arg4)) 0

/-- The arguments hold real numbers. -/
structure Real : Prop where
  x : m ((c : Thread nD τ).loc main_arg0) = ax (whole m c)
  dt : m ((c : Thread nD τ).loc main_arg1) = adt (whole m c)
  al : m ((c : Thread nD τ).loc main_arg2) = aal (whole m c)
  dy : m ((c : Thread nD τ).loc main_arg3) = ady (whole m c)
  sk : m ((c : Thread nD τ).loc main_arg4) = ask (whole m c)

/-- An array of one row. -/
theorem entries_row {b : ℕ} {x : FVec Ideal ⟨2, ![1, b]⟩ .f32} (hx : ∀ i, x i = (((x i : EReal).toReal : ℝ) : EReal)) (i : (⟨2, ![1, b]⟩ : Shape).Idx) :
    x i = ((entries x 0 (i 1).val : ℝ) : EReal) := by
  have h0 : (i 0).val = 0 := Nat.lt_one_iff.mp (i 0).isLt
  rw [entries_at hx i, h0]

theorem real_args (h : Pre_KernelIdeal_finite (hPre_finite := Cert.Pre_finite.side) m) : Real m c where
  x := funext (entries_at (real_of_pre (s := S8192x3072) _ _ (h c).1))
  dt := funext (entries_at (real_of_pre (s := S8192x128) _ _ (h c).2.1))
  al := funext (entries_row (real_of_pre (s := S1x128) _ _ (h c).2.2.1))
  dy := funext (entries_at (real_of_pre (s := S8192x2048) _ _ (h c).2.2.2.1))
  sk := funext (entries_row (real_of_pre (s := S1x2048) _ _ (h c).2.2.2.2))

variable {m c}

theorem entry (h : Real m c) : Entry m c (whole m c) where
  x := (V_main_arg0 m c).trans h.x
  dt := (V_main_arg1 m c).trans h.dt
  al := (V_main_arg2 m c).trans h.al
  ex := (entry_ex m c).trans (funext members_apply)
  exT := (entry_exT m c).trans (funext membersT_apply)
  st := (entry_st m c).trans (by rw [h.x, h.dt, h.al]; exact funext (states_apply (whole m c)))
  dy := (V_main_arg3 m c).trans h.dy
  sk := (V_main_arg4 m c).trans h.sk

theorem algebraic : Cert.algebraic_KernelIdeal_ReferenceIdeal_pre_finite (hPre_finite := Cert.Pre_finite.side) := by
  intro m ρ m' ρ' hpre hagree
  have R : ∀ c, Real m c := fun c => real_args m c hpre
  refine ⟨fun c => fun i : S8192x3072.Idx => (((whole m c).dX (i 0).val (i 1).val : ℝ) : EReal),
    fun c => fun i : S8192x128.Idx => (((whole m c).dDt (i 0).val (i 1).val : ℝ) : EReal),
    fun c => fun i : S1x128.Idx => (((whole m c).dA (i 1).val : ℝ) : EReal),
    (θ_run defs _ _).mono (fun _ h c => ⟨(h c).1.trans (final_dx (entry (R c))), (h c).2.1.trans (final_ddt (entry (R c))), (h c).2.2.1.trans (final_da (entry (R c))), (h c).2.2.2⟩)
      (Value.run_blocks (F := Ideal) m ρ), ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · refine (Cert.ReferenceIdeal.Read.val_main_v102_eq (F := Ideal) _ _).trans ?_
    rw [(hagree c).1, (hagree c).2.1, (hagree c).2.2.1, (hagree c).2.2.2.1, (hagree c).2.2.2.2]
    exact (congr (congr (congr (congr (congrArg _ (R c).x) (R c).dt) (R c).al) (R c).dy) (R c).sk).trans (funext (Cert.ReferenceIdeal.Hand.v102 (whole m c)))
  · refine (Cert.ReferenceIdeal.Read.val_main_v93_eq (F := Ideal) _ _).trans ?_
    rw [(hagree c).1, (hagree c).2.1, (hagree c).2.2.1, (hagree c).2.2.2.1]
    exact (congr (congr (congr (congrArg _ (R c).x) (R c).dt) (R c).al) (R c).dy).trans (funext (Cert.ReferenceIdeal.Hand.v93 (whole m c)))
  · refine (Cert.ReferenceIdeal.Read.val_main_v91_eq (F := Ideal) _ _).trans ?_
    rw [(hagree c).1, (hagree c).2.1, (hagree c).2.2.1, (hagree c).2.2.2.1]
    exact (congr (congr (congr (congrArg _ (R c).x) (R c).dt) (R c).al) (R c).dy).trans (funext (Cert.ReferenceIdeal.Hand.v91 (whole m c)))

end Cert.KernelIdeal.Hand

end
-- ==== Proof.FwdBody.lean ====
/- The body of the forward recurrence (the call `ssd_fwd`), one head and one group at a time, and the same on real operands: what a chunk of
   128 steps puts out, and the state it hands on. It shares its decays, its scores and its scaled inputs with the gradient's body; the
   running state is in the place of the carried gradient. -/
module

public import proofs.«01_k».proof.Proof.SsdEval
public import proofs.«01_k».proof.Proof.Gen.Kernel9Ideal.Skeleton

@[expose] public section

set_option maxRecDepth 16384

noncomputable section

namespace Cert.KernelIdeal.Hand

open Cert.KernelIdeal Cert.KernelIdeal.Gen Idealize.ShloMosaic Idealize.ShloMosaic.TcCoe Finset

namespace In

variable (I : In)

/-- What a group's steps see of the state before the chunk. -/
def ys (g : Fin 4) : FVec Ideal S128x512 .f32 :=
  mulf
    (matmul dot_S128x128_S128x512_S128x512_1_0_0_1_n_n none (I.cg g) (truncf .bf16 (I.ds g) bitsLt_bf16_f32)
      (constant S128x512 .f32 0x00000000#32))
    (extractStridedSlice S128x512 ![0, 512 * g.val] I.ecs (groupCols g))

/-- A head's columns of the output. -/
def yOut (h : Fin 32) : FVec Ideal S128x64 .f32 :=
  addf
    (matmul Cert.Kernel9Ideal.dot_S128x128_S128x64_S128x64_1_0_0_1_n_n none (truncf .bf16 (I.mm h) bitsLt_bf16_f32)
      (extractStridedSlice S128x64 ![0, 64 * h.val] I.xdb (headCols h)) (constant S128x64 .f32 0x00000000#32))
    (extractStridedSlice S128x64 ![0, 64 * (sub h).val] (I.ys (grp h)) (headIn (sub h)))

/-- The state after the chunk, in a group's columns. -/
def after (g : Fin 4) : FVec Ideal S128x512 .f32 :=
  shapeCast S128x512
    (addf
      (mulf (I.ds g) (broadcastTo S128x512 (extractStridedSlice S1x512 ![0, 512 * g.val] I.el (groupRow g)) broadcasts_S1x512_S128x512))
      (matmul dot_S128x128_S128x512_S128x512_0_0_1_1_n_n none (I.bg g)
        (extractStridedSlice S128x512 ![0, 512 * g.val] (truncf .bf16 I.xt bitsLt_bf16_f32 : FVec Ideal S128x2048 .bf16) (groupCols g))
        (constant S128x512 .f32 0x00000000#32)))
    shapeCasts_S128x512_S128x512

/-- The heads' columns, last first. -/
def yPieces : List (View.Piece (Elt Ideal) S128x2048 .f32) :=
  List.ofFn fun k : Fin 32 => ⟨Rect.unit ![0, 64 * k.rev.val] ![128, 64] (inb64 k.rev), I.yOut k.rev⟩
def afterPieces : List (View.Piece (Elt Ideal) S128x2048 .f32) :=
  List.ofFn fun k : Fin 4 => ⟨Rect.unit ![0, 512 * k.rev.val] ![128, 512] (inb512 k.rev), I.after k.rev⟩

end In

theorem dot_S128x128_S128x64_S128x64_1_0_0_1 {f g : ℕ → ℕ → ℝ} :
    matmul Cert.Kernel9Ideal.dot_S128x128_S128x64_S128x64_1_0_0_1_n_n none (mat f : FVec Ideal S128x128 .bf16) (mat g : FVec Ideal S128x64 .bf16)
      (constant S128x64 .f32 0x00000000#32) = mat fun i j => ∑ k ∈ range 128, f i k * g k j := by
  funext i; pointwise; exact mul_sum_coe (fun k => f (i 0).val k) fun k => g k (i 1).val

namespace Chunk

variable (D : Chunk)

def yOut (t p : ℕ) : ℝ :=
  ∑ s ∈ range 128, D.cb (p / 512) t s * D.dec (p / 64) t s * D.xd s p + (∑ n ∈ range 128, D.c (p / 512) t n * D.ds n p) * D.ecs t p
def after (n p : ℕ) : ℝ := D.ds n p * D.ecs 127 p + ∑ s ∈ range 128, D.b (p / 512) s n * (D.xd s p * D.tail s p)

theorem ys_mat (g : Fin 4) : D.toIn.ys g
    = mat fun t q => (∑ n ∈ range 128, D.c g.val t n * D.ds n (512 * g.val + q)) * D.ecs t (512 * g.val + q) := by
  unfold In.ys
  rw [cg_mat, ds_mat, ecs_mat]
  simp only [slice_mat, truncf_mat, Nat.zero_add, dot_S128x128_S128x512_S128x512_1_0_0_1, mulf_mat]

theorem yOut_mat (h : Fin 32) : D.toIn.yOut h = mat fun t p => D.yOut t (64 * h.val + p) := by
  unfold In.yOut
  rw [mm_mat, xdb_mat, ys_mat]
  simp only [slice_mat, truncf_mat, Nat.zero_add, dot_S128x128_S128x64_S128x64_1_0_0_1, addf_mat]
  refine mat_congr fun t _ p hp => ?_
  have h1 : 512 * (In.grp h).val + (64 * (In.sub h).val + p) = 64 * h.val + p := by simp only [In.grp, In.sub]; omega
  rw [yOut, h1, show (64 * h.val + p) / 64 = h.val by omega, show (64 * h.val + p) / 512 = h.val / 8 by omega]
  rfl

theorem after_mat (g : Fin 4) : D.toIn.after g = mat fun n q => D.after n (512 * g.val + q) := by
  unfold In.after
  rw [ds_mat, el_mat, bg_mat, xt_mat]
  simp only [slice_mat, row_mat, truncf_mat, Nat.zero_add, dot_S128x128_S128x512_S128x512_0_0_1_1, mulf_mat, addf_mat, cast_mat]
  exact mat_congr fun t _ q hq => by rw [after, group_of hq]

end Chunk

end Cert.KernelIdeal.Hand
-- ==== Proof.FwdPieces.lean ====
/- What the body of the forward recurrence leaves in memory, in its two cases (a sequence's first chunk starts the state at zero), as the same
   functions of what the point reads. -/
module

public import proofs.«01_k».proof.Proof.FwdBody
public import proofs.«01_k».proof.Proof.Gen.Kernel9Ideal.Frame.RunA
public import proofs.«01_k».proof.Proof.Gen.Kernel9Ideal.Frame.RunB

@[expose] public section

set_option maxRecDepth 65536
set_option maxHeartbeats 1000000

noncomputable section

namespace Cert.Kernel9Ideal.Hand

open Cert.Kernel9Ideal Cert.Kernel9Ideal.Gen Idealize.ShloMosaic Idealize.ShloMosaic.TcCoe Idealize.ShloMosaic.Tactic
open Cert.KernelIdeal.Hand (In)

/-- The columns of a group of a block of the state. -/
def colsRect (g : Fin 4) : Rect S128x2048 := Rect.unit ![0, 512 * g.val] ![128, 512] (In.inb512 g)

/-- The same operands with another state. -/
def withState (I : In) (d : Fin 4 → Vec Ideal S128x512 .f32) : In := { I with ds := d }

/-- A group's columns of what the stores `L` leave. -/
def groupOf (v : Memref sig .tc .vmem S128x2048 .f32) (L : List (View.Piece (Elt Ideal) S128x2048 .f32)) (g : Fin 4) : Vec Ideal S128x512 .f32 :=
  v.view.readCov L (colsRect g).toLoadRect

/-- The store that clears the state. -/
def clearPieces : List (View.Piece (Elt Ideal) S128x2048 .f32) :=
  [⟨Rect.unit ![0, 0] S128x2048.size inb_S128x2048_S128x2048_0_0, k0_pay3 (F := Ideal)⟩]

/-- The state's stores by the first `n` groups of a sequence's first chunk, which has first been cleared. -/
def startPieces (v : Memref sig .tc .vmem S128x2048 .f32) (I : In) : (n : ℕ) → n ≤ 4 → List (View.Piece (Elt Ideal) S128x2048 .f32)
  | 0, _ => clearPieces
  | n + 1, h =>
    ⟨colsRect ⟨n, h⟩,
      (withState I fun _ => groupOf v (startPieces v I n (Nat.le_of_succ_le h)) ⟨n, h⟩).after ⟨n, h⟩⟩
      :: startPieces v I n (Nat.le_of_succ_le h)

/-- What a sequence's first chunk reads of the state. -/
def started (v : Memref sig .tc .vmem S128x2048 .f32) (I : In) : In :=
  withState I fun g => groupOf v (startPieces v I g.val g.isLt.le) g

/-- The one store of the state before the chunk. -/
def savePieces (s : Vec Ideal S128x2048 .f32) : List (View.Piece (Elt Ideal) S1x128x2048 .f32) :=
  [⟨Rect.unit ![0, 0, 0] S1x128x2048.size inb_S1x128x2048_S1x128x2048_0_0_0, k0_pay4 (F := Ideal) s⟩]

section

variable (arg2 : Memref sig .tc .vmem S128x3072 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S32x2048 .bf16) (harg5 : arg5.IsWhole) (arg8 : Memref sig .tc .vmem S128x2048 .f32) (harg8 : arg8.IsWhole)
    (x0 : Vec Ideal S128x3072 .f32) (x1 : Vec Ideal S128x128 .f32) (x2 : Vec Ideal S1x128 .f32) (x3 : Vec Ideal S32x2048 .bf16) (xs0 : Vec Ideal S128x2048 .f32)

/-- What a point reads; the fields that only the gradient's body reads are those of `B`. -/
def rawIn (B : In) : In := { B with
  x := View.readAt (Elt Ideal) arg2.view (Rect.unit (s := S128x3072) ![0, 0] S128x3072.size inb_S128x3072_S128x3072_0_0).toLoadRect (harg2.unread x0)
  dt := View.readAt (Elt Ideal) arg3.view (Rect.unit (s := S128x128) ![0, 0] S128x128.size inb_S128x128_S128x128_0_0).toLoadRect (harg3.unread x1)
  al := View.readAt (Elt Ideal) arg4.view (Rect.unit (s := S1x128) ![0, 0] S1x128.size inb_S1x128_S1x128_0_0).toLoadRect (harg4.unread x2)
  ex := View.readAt (Elt Ideal) arg5.view (Rect.unit (s := S32x2048) ![0, 0] S32x2048.size inb_S32x2048_S32x2048_0_0).toLoadRect (harg5.unread x3)
  ds := fun g => View.readAt (Elt Ideal) arg8.view (colsRect g).toLoadRect (harg8.unread xs0) }

end

section

variable (c : Dev nD) (i : grid0.Coords) (arg2 : Memref sig .tc .vmem S128x3072 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S32x2048 .bf16) (harg5 : arg5.IsWhole) (arg6 : Memref sig .tc .vmem S128x2048 .f32) (harg6 : arg6.IsWhole) (arg7 : Memref sig .tc .vmem S1x128x2048 .f32) (harg7 : arg7.IsWhole) (arg8 : Memref sig .tc .vmem S128x2048 .f32) (harg8 : arg8.IsWhole)
    (x0 : Vec Ideal S128x3072 .f32) (x1 : Vec Ideal S128x128 .f32) (x2 : Vec Ideal S1x128 .f32) (x3 : Vec Ideal S32x2048 .bf16) (xs0 : Vec Ideal S128x2048 .f32) (B : In)

theorem step_y (hc0 : ¬cond0_0 i) :
    (kernelRun0_B (F := Ideal) c i arg2 harg2 arg3 harg3 arg4 harg4 arg5 harg5 arg6 harg6 arg7 harg7 arg8 harg8 hc0 x0 x1 x2 x3 xs0).1
      = (rawIn arg2 harg2 arg3 harg3 arg4 harg4 arg5 harg5 arg8 harg8 x0 x1 x2 x3 xs0 B).yPieces := by
  sl_kernel_rfl

theorem step_save (hc0 : ¬cond0_0 i) :
    (kernelRun0_B (F := Ideal) c i arg2 harg2 arg3 harg3 arg4 harg4 arg5 harg5 arg6 harg6 arg7 harg7 arg8 harg8 hc0 x0 x1 x2 x3 xs0).2.1
      = savePieces (View.readAt (Elt Ideal) arg8.view (Rect.unit (s := S128x2048) ![0, 0] S128x2048.size inb_S128x2048_S128x2048_0_0).toLoadRect (harg8.unread xs0)) := by
  sl_kernel_rfl

theorem step_after (hc0 : ¬cond0_0 i) :
    (kernelRun0_B (F := Ideal) c i arg2 harg2 arg3 harg3 arg4 harg4 arg5 harg5 arg6 harg6 arg7 harg7 arg8 harg8 hc0 x0 x1 x2 x3 xs0).2.2.1
      = (rawIn arg2 harg2 arg3 harg3 arg4 harg4 arg5 harg5 arg8 harg8 x0 x1 x2 x3 xs0 B).afterPieces := by
  sl_kernel_rfl

theorem start_y (hc0 : cond0_0 i) :
    (kernelRun0_A (F := Ideal) c i arg2 harg2 arg3 harg3 arg4 harg4 arg5 harg5 arg6 harg6 arg7 harg7 arg8 harg8 hc0 x0 x1 x2 x3).1
      = (started arg8 (rawIn arg2 harg2 arg3 harg3 arg4 harg4 arg5 harg5 arg8 harg8 x0 x1 x2 x3 xs0 B)).yPieces := by
  sl_kernel_rfl

theorem start_save (hc0 : cond0_0 i) :
    (kernelRun0_A (F := Ideal) c i arg2 harg2 arg3 harg3 arg4 harg4 arg5 harg5 arg6 harg6 arg7 harg7 arg8 harg8 hc0 x0 x1 x2 x3).2.1
      = savePieces (arg8.view.readCov clearPieces (Rect.unit (s := S128x2048) ![0, 0] S128x2048.size inb_S128x2048_S128x2048_0_0).toLoadRect) := by
  sl_kernel_rfl

theorem start_after (hc0 : cond0_0 i) :
    (kernelRun0_A (F := Ideal) c i arg2 harg2 arg3 harg3 arg4 harg4 arg5 harg5 arg6 harg6 arg7 harg7 arg8 harg8 hc0 x0 x1 x2 x3).2.2.1
      = startPieces arg8 (rawIn arg2 harg2 arg3 harg3 arg4 harg4 arg5 harg5 arg8 harg8 x0 x1 x2 x3 xs0 B) 4 le_rfl := by
  sl_kernel_rfl

end

end Cert.Kernel9Ideal.Hand
-- ==== Proof.FwdOut.lean ====
/- The results of each case of the forward recurrence on real operands, as blocks of real numbers. -/
module

public import proofs.«01_k».proof.Proof.FwdPieces
public import proofs.«01_k».proof.Proof.SsdOut
public import proofs.«01_k».proof.Proof.Gen.Kernel9Ideal.Frame

@[expose] public section

set_option maxRecDepth 16384

noncomputable section

namespace Cert.Kernel9Ideal.Hand

open Cert.Kernel9Ideal Cert.Kernel9Ideal.Gen Idealize.ShloMosaic Idealize.ShloMosaic.TcCoe
open Cert.KernelIdeal.Hand (In Chunk mat mat_congr mat_eq_at emb_ext canon_cols hz)

theorem hz3 : (![0, 0, 0] : Fin 3 → Nat) = fun _ => 0 := funext fun a => by fin_cases a <;> rfl

/-- A load of a whole block is the block. -/
theorem readCov_whole {R C : ℕ} (v : View sig .tc .vmem ⟨2, ![R, C]⟩ .f32) (L : List (View.Piece (Elt Ideal) ⟨2, ![R, C]⟩ .f32)) (inb) :
    v.readCov L (Rect.unit (s := ⟨2, ![R, C]⟩) ![0, 0] ![R, C] inb).toLoadRect = View.canon L := by
  rw [View.readCov_eq_canon']
  exact View.ld_unit_zero (S := ⟨2, ![R, C]⟩) hz inb (View.canon L)

theorem canon_y (D : Chunk) : View.canon D.toIn.yPieces = (mat D.yOut : FVec Ideal S128x2048 .f32) :=
  canon_cols (R := 128) (C := 2048) (w := 64) (N := 32) rfl (by decide) D.yOut _ D.yOut_mat In.inb64
theorem canon_after (D : Chunk) : View.canon D.toIn.afterPieces = (mat D.after : FVec Ideal S128x2048 .f32) :=
  canon_cols (R := 128) (C := 2048) (w := 512) (N := 4) rfl (by decide) D.after _ D.after_mat In.inb512

/-- The block of the states: the state before the chunk. -/
def saved (f : ℕ → ℕ → ℝ) : FVec Ideal S1x128x2048 .f32 := fun i => ((f (i 1).val (i 2).val : ℝ) : EReal)

theorem canon_save (f : ℕ → ℕ → ℝ) : View.canon (savePieces (mat f : FVec Ideal S128x2048 .f32)) = saved f := by
  unfold savePieces
  rw [View.canon_unit_zero (S := S1x128x2048) hz3]
  unfold k0_pay4
  funext i
  pointwise
  rfl

/-- The operands read hold the real numbers `D`. -/
structure Reads (D : Chunk) (x0 : Vec Ideal S128x3072 .f32) (x1 : Vec Ideal S128x128 .f32) (x2 : Vec Ideal S1x128 .f32) (x3 : Vec Ideal S32x2048 .bf16) : Prop where
  x : x0 = (mat D.x : FVec Ideal S128x3072 .f32)
  dt : x1 = (mat D.dt : FVec Ideal S128x128 .f32)
  al : x2 = (mat (fun _ j => D.al j) : FVec Ideal S1x128 .f32)
  ex : x3 = (mat (fun h p => Chunk.hot p h) : FVec Ideal S32x2048 .bf16)

section

variable {arg2 : Memref sig .tc .vmem S128x3072 .f32} {harg2 : arg2.IsWhole} {arg3 : Memref sig .tc .vmem S128x128 .f32} {harg3 : arg3.IsWhole} {arg4 : Memref sig .tc .vmem S1x128 .f32} {harg4 : arg4.IsWhole} {arg5 : Memref sig .tc .vmem S32x2048 .bf16} {harg5 : arg5.IsWhole} {arg8 : Memref sig .tc .vmem S128x2048 .f32} {harg8 : arg8.IsWhole}
  {D : Chunk} {x0 : Vec Ideal S128x3072 .f32} {x1 : Vec Ideal S128x128 .f32} {x2 : Vec Ideal S1x128 .f32} {x3 : Vec Ideal S32x2048 .bf16}

/-- What a point reads of those operands. -/
theorem rawIn_eq (H : Reads D x0 x1 x2 x3) (xs0 : Vec Ideal S128x2048 .f32) :
    rawIn arg2 harg2 arg3 harg3 arg4 harg4 arg5 harg5 arg8 harg8 x0 x1 x2 x3 xs0 D.toIn = withState D.toIn fun g => View.ld xs0 (colsRect g) := by
  obtain ⟨rfl, rfl, rfl, rfl⟩ := H
  unfold rawIn
  simp only [View.readAt_eq_ld, harg2.read_unread, harg3.read_unread, harg4.read_unread, harg5.read_unread, harg8.read_unread,
    View.ld_unit_zero (S := S128x3072) hz, View.ld_unit_zero (S := S128x128) hz, View.ld_unit_zero (S := S1x128) hz,
    View.ld_unit_zero (S := S32x2048) hz]
  rfl

theorem rawIn_running (H : Reads D x0 x1 x2 x3) :
    rawIn arg2 harg2 arg3 harg3 arg4 harg4 arg5 harg5 arg8 harg8 x0 x1 x2 x3 (mat D.ds : FVec Ideal S128x2048 .f32) D.toIn = D.toIn := by
  rw [rawIn_eq H]
  have : (fun g => View.ld (mat D.ds : FVec Ideal S128x2048 .f32) (colsRect g)) = D.toIn.ds := by
    funext g i
    show ((D.ds (0 + 1 * (i 0).val) (512 * g.val + 1 * (i 1).val) : ℝ) : EReal) = _
    rw [Nat.zero_add, Nat.one_mul, Nat.one_mul]
    rfl
  rw [this]
  rfl

theorem clear_mat : k0_pay3 (F := Ideal) = mat fun _ _ => 0 := by
  unfold k0_pay3; funext i; pointwise; rfl

theorem canon_clear : View.canon clearPieces = (mat (fun _ _ => 0) : FVec Ideal S128x2048 .f32) := by
  unfold clearPieces
  rw [View.canon_unit_zero (S := S128x2048) hz, clear_mat]

theorem groupOf_zero (v : Memref sig .tc .vmem S128x2048 .f32) (L : List (View.Piece (Elt Ideal) S128x2048 .f32)) (f : ℕ → ℕ → ℝ)
    (h : View.canon L = (mat f : FVec Ideal S128x2048 .f32)) (g : Fin 4) (hf : ∀ i p, 512 * g.val ≤ p → p < 512 * g.val + 512 → f i p = 0) :
    groupOf v L g = D.fresh.toIn.ds g := by
  unfold groupOf
  rw [View.readCov_eq_canon', h]
  funext j
  have hj : (j 1).val < 512 := (j 1).isLt
  show ((f _ (512 * g.val + 1 * (j 1).val) : ℝ) : EReal) = ((0 : ℝ) : EReal)
  exact congrArg _ (hf _ _ (by omega) (by omega))

/-- After the first `n` groups' stores the groups from `n` on still hold zero and those before it the state handed on. -/
theorem canon_start (v : Memref sig .tc .vmem S128x2048 .f32) (I : In) (hI : ∀ d, withState I d = withState D.toIn d) :
    ∀ (n : ℕ) (hn : n ≤ 4), View.canon (startPieces v I n hn) = (mat fun i p => if p < 512 * n then D.fresh.after i p else 0 : FVec Ideal S128x2048 .f32)
  | 0, _ => by
    unfold startPieces
    rw [canon_clear]
    exact mat_congr fun _ _ _ _ => by simp
  | n + 1, hn => by
    unfold startPieces
    have e : (withState I fun _ => groupOf v (startPieces v I n (Nat.le_of_succ_le hn)) ⟨n, hn⟩).after ⟨n, hn⟩ = D.fresh.toIn.after ⟨n, hn⟩ := by
      rw [hI, groupOf_zero (D := D) v _ _ (canon_start v I hI n (Nat.le_of_succ_le hn)) ⟨n, hn⟩ fun i p h _ => if_neg (Nat.not_lt.mpr h)]
      rfl
    rw [e, Chunk.after_mat]
    funext y
    have hy : (y 1).val < 2048 := (y 1).isLt
    have hy0 : (y 0).val < 128 := (y 0).isLt
    by_cases h : 512 * n ≤ (y 1).val ∧ (y 1).val < 512 * n + 512
    · have he : y = (colsRect ⟨n, hn⟩).emb (ix2 (⟨(y 0).val, hy0⟩ : Fin 128) (⟨(y 1).val - 512 * n, by omega⟩ : Fin 512)) :=
        emb_ext _ (by show (y 0).val = 0 + 1 * (y 0).val; omega) (by show (y 1).val = 512 * n + 1 * ((y 1).val - 512 * n); omega)
      conv_lhs => rw [he]
      refine (View.canon_cons_emb (colsRect ⟨n, hn⟩) _ _ _).trans ?_
      refine mat_eq_at _ _ _ _ ?_
      show D.fresh.after (y 0).val (512 * n + ((y 1).val - 512 * n)) = if (y 1).val < 512 * (n + 1) then D.fresh.after (y 0).val (y 1).val else 0
      rw [if_pos (by omega), Nat.add_sub_cancel' h.1]
    · rw [View.canon_cons_of_not_mem _ _ (by show y ∉ (Rect.unit (s := S128x2048) ![0, 512 * n] ![128, 512] (In.inb512 ⟨n, hn⟩)).set; rw [Rect.mem_set_unit]; intro hh; exact h (by simpa using hh 1)), canon_start v I hI n]
      refine mat_eq_at _ _ _ _ ?_
      simp only [show ((y 1).val < 512 * (n + 1) ↔ (y 1).val < 512 * n) by omega]

theorem started_eq (v : Memref sig .tc .vmem S128x2048 .f32) (I : In) (hI : ∀ d, withState I d = withState D.toIn d) :
    started v I = D.fresh.toIn := by
  unfold started
  rw [hI]
  have : (fun g : Fin 4 => groupOf v (startPieces v I g.val g.isLt.le) g) = D.fresh.toIn.ds :=
    funext fun g => groupOf_zero v _ _ (canon_start v I hI g.val g.isLt.le) g fun i p h _ => if_neg (Nat.not_lt.mpr h)
  rw [this]
  rfl

end

section

variable {c : Dev nD} {i : grid0.Coords} {arg2 : Memref sig .tc .vmem S128x3072 .f32} {harg2 : arg2.IsWhole} {arg3 : Memref sig .tc .vmem S128x128 .f32} {harg3 : arg3.IsWhole} {arg4 : Memref sig .tc .vmem S1x128 .f32} {harg4 : arg4.IsWhole} {arg5 : Memref sig .tc .vmem S32x2048 .bf16} {harg5 : arg5.IsWhole} {arg6 : Memref sig .tc .vmem S128x2048 .f32} {harg6 : arg6.IsWhole} {arg7 : Memref sig .tc .vmem S1x128x2048 .f32} {harg7 : arg7.IsWhole} {arg8 : Memref sig .tc .vmem S128x2048 .f32} {harg8 : arg8.IsWhole}
    {x0 : Vec Ideal S128x3072 .f32} {x1 : Vec Ideal S128x128 .f32} {x2 : Vec Ideal S1x128 .f32} {x3 : Vec Ideal S32x2048 .bf16} {D : Chunk}

/-- A point that takes over the state of the chunk before its own. -/
theorem step_out {hc0 : ¬cond0_0 i} {xs0 : Vec Ideal S128x2048 .f32} (H : Reads D x0 x1 x2 x3) (hds : xs0 = (mat D.ds : FVec Ideal S128x2048 .f32)) :
    (out0_B_4 (F := Ideal) c i arg2 harg2 arg3 harg3 arg4 harg4 arg5 harg5 arg6 harg6 arg7 harg7 arg8 harg8 hc0 x0 x1 x2 x3 xs0, out0_B_5 (F := Ideal) c i arg2 harg2 arg3 harg3 arg4 harg4 arg5 harg5 arg6 harg6 arg7 harg7 arg8 harg8 hc0 x0 x1 x2 x3 xs0, sout0_B_0 (F := Ideal) c i arg2 harg2 arg3 harg3 arg4 harg4 arg5 harg5 arg6 harg6 arg7 harg7 arg8 harg8 hc0 x0 x1 x2 x3 xs0)
      = ((mat D.yOut : FVec Ideal S128x2048 .f32), saved D.ds, (mat D.after : FVec Ideal S128x2048 .f32)) := by
  subst hds
  refine Prod.ext ?_ (Prod.ext ?_ ?_) <;> dsimp only
  · unfold out0_B_4
    rw [View.read_writes_eq_canon _ _ _ (fun y => cover0_B_4 (y := y) ..), step_y (B := D.toIn), rawIn_running H, canon_y]
  · unfold out0_B_5
    rw [View.read_writes_eq_canon _ _ _ (fun y => cover0_B_5 (y := y) ..), step_save]
    simp only [View.readAt_eq_ld, harg8.read_unread, View.ld_unit_zero (S := S128x2048) hz]
    exact canon_save D.ds
  · unfold sout0_B_0
    rw [View.read_writes_eq_canon _ _ _ (fun y => scover0_B_0 (y := y) ..), step_after (B := D.toIn), rawIn_running H, canon_after]

/-- A sequence's first point. -/
theorem start_out {hc0 : cond0_0 i} (H : Reads D x0 x1 x2 x3) :
    (out0_A_4 (F := Ideal) c i arg2 harg2 arg3 harg3 arg4 harg4 arg5 harg5 arg6 harg6 arg7 harg7 arg8 harg8 hc0 x0 x1 x2 x3, out0_A_5 (F := Ideal) c i arg2 harg2 arg3 harg3 arg4 harg4 arg5 harg5 arg6 harg6 arg7 harg7 arg8 harg8 hc0 x0 x1 x2 x3, sout0_A_0 (F := Ideal) c i arg2 harg2 arg3 harg3 arg4 harg4 arg5 harg5 arg6 harg6 arg7 harg7 arg8 harg8 hc0 x0 x1 x2 x3)
      = ((mat D.fresh.yOut : FVec Ideal S128x2048 .f32), saved D.fresh.ds, (mat D.fresh.after : FVec Ideal S128x2048 .f32)) := by
  have hI (d) := congrArg (fun I => withState I d) (rawIn_eq (arg2 := arg2) (harg2 := harg2) (arg3 := arg3) (harg3 := harg3) (arg4 := arg4) (harg4 := harg4) (arg5 := arg5) (harg5 := harg5) (arg8 := arg8) (harg8 := harg8) H (mat D.ds : FVec Ideal S128x2048 .f32))
  refine Prod.ext ?_ (Prod.ext ?_ ?_) <;> dsimp only
  · unfold out0_A_4
    rw [View.read_writes_eq_canon _ _ _ (fun y => cover0_A_4 (y := y) ..), start_y (xs0 := (mat D.ds : FVec Ideal S128x2048 .f32)) (B := D.toIn), started_eq arg8 _ hI, canon_y]
  · unfold out0_A_5
    rw [View.read_writes_eq_canon _ _ _ (fun y => cover0_A_5 (y := y) ..), start_save]
    exact (congrArg (fun v => View.canon (savePieces v)) ((readCov_whole (R := 128) (C := 2048) arg8.view clearPieces _).trans canon_clear)).trans (canon_save _)
  · unfold sout0_A_0
    rw [View.read_writes_eq_canon _ _ _ (fun y => scover0_A_0 (y := y) ..), start_after (xs0 := (mat D.ds : FVec Ideal S128x2048 .f32)) (B := D.toIn),
      canon_start (D := D) arg8 _ hI]
    exact mat_congr fun _ _ j hj => if_pos hj

end

end Cert.Kernel9Ideal.Hand
-- ==== Proof.FwdChunk.lean ====
/- What a chunk of the forward recurrence computes is its part of the whole sequence's output: the state stands for all the steps before
   it. -/
module

public import proofs.«01_k».proof.Proof.FwdBody
public import proofs.«01_k».proof.Proof.SsdChunk

@[expose] public section

noncomputable section

namespace Cert.Recurrence

open Finset

theorem state_start (la b x : ℕ → ℝ) : state la b x 0 = 0 := by simp [state]

/-- The state a chunk of `k` steps later: decayed by the chunk, plus what the chunk's steps add. -/
theorem state_step (la b x : ℕ → ℝ) (e k : ℕ) :
    state la b x (e + k) = state la b x e * Real.exp (pre la (e + k) - pre la e)
      + ∑ r ∈ range k, Real.exp (pre la (e + k) - pre la (e + r + 1)) * (b (e + r) * x (e + r)) := by
  rw [state, sum_range_add, state, sum_mul]
  refine congrArg₂ (fun a b : ℝ => a + b) (sum_congr rfl fun s _ => ?_) rfl
  have : Real.exp (pre la (e + k) - pre la (s + 1)) = Real.exp (pre la e - pre la (s + 1)) * Real.exp (pre la (e + k) - pre la e) := by
    rw [← Real.exp_add]; congr 1; ring
  rw [this]; ring

end Cert.Recurrence

namespace Cert.Ssd.Whole

open Finset Cert.Recurrence Cert.KernelIdeal.Hand

variable (W : Whole) (q k : ℕ)

/-- The output of step `t` in column `p` of head `h`: every step against every earlier step. -/
def out (q h p t : ℕ) : ℝ := ∑ s ∈ range 4096, W.sc q (h / 8) t s * W.w q h t s * W.xd q h p s

/-- Chunk `k` of sequence `q` with the state before it as the running state. -/
def run : Chunk := { W.chunk q k (fun _ => 0) with ds := (W.chunk q k fun _ => 0).st }

theorem run_yOut (hk : k < 32) (t : ℕ) (ht : t < 128) (p : ℕ) : (W.run q k).yOut t p = W.out q (p / 64) (p % 64) (128 * k + t) := by
  have hd (h t s : ℕ) : (W.run q k).dec h t s = W.w q h (128 * k + t) (128 * k + s) := W.chunk_dec q k (fun _ => 0) h t s
  have hx (t p : ℕ) : (W.run q k).xd t p = W.xd q (p / 64) (p % 64) (128 * k + t) := W.chunk_xd q k (fun _ => 0) t p
  have he : (W.run q k).ecs t p = _ := W.chunk_ecs q k (fun _ => 0) t p
  have hs := state_seen (W.la q (p / 64)) (fun s (j : Fin 128) => W.b q (p / 512) s j.val) (fun t (j : Fin 128) => W.c q (p / 512) t j.val)
    (W.xd q (p / 64) (p % 64)) (show 128 * k ≤ 128 * k + t by omega)
  rw [out, split_at hk, sum_eq_zero (s := Ico (128 * k + 128) 4096), add_zero, Chunk.yOut, add_comm, show p / 64 / 8 = p / 512 by omega]
  · refine congrArg₂ (fun a b : ℝ => a + b) ?_ (sum_congr rfl fun s _ => ?_)
    · rw [he, mul_comm, sum_range]
      refine hs.trans (sum_congr rfl fun s _ => ?_)
      rw [score_eq]; show W.w q _ _ _ * _ * _ = _; ring
    · rw [hd, hx]; rfl
  · intro s hs
    rw [w, wt_of_lt (by have := (mem_Ico.mp hs).1; omega)]
    ring

theorem run_after (n p : ℕ) : (W.run q k).after n p
    = state (W.la q (p / 64)) (fun s => W.b q (p / 512) s n) (W.xd q (p / 64) (p % 64)) (128 * k + 128) := by
  have hx (t p : ℕ) : (W.run q k).xd t p = W.xd q (p / 64) (p % 64) (128 * k + t) := W.chunk_xd q k (fun _ => 0) t p
  have he (t p : ℕ) : (W.run q k).ecs t p = _ := W.chunk_ecs q k (fun _ => 0) t p
  have hl (t p : ℕ) : (W.run q k).tail t p = _ := W.chunk_tail q k (fun _ => 0) t p
  rw [state_step, Chunk.after, he]
  refine congrArg₂ (fun a b : ℝ => a + b) rfl (sum_congr rfl fun t _ => ?_)
  rw [hx, hl]
  show W.b q (p / 512) (128 * k + t) n * _ = _
  ring

end Cert.Ssd.Whole
-- ==== Proof.FwdFold.lean ====
/- The forward recurrence over its grid: each point's blocks, and the two arrays after the last point. -/
module

public import proofs.«01_k».proof.Proof.FwdOut
public import proofs.«01_k».proof.Proof.FwdChunk
public import proofs.«01_k».proof.Proof.SsdFold
public import proofs.«01_k».proof.Proof.Gen.Kernel9Ideal.Value

@[expose] public section

set_option maxRecDepth 16384

noncomputable section

namespace Cert.Kernel9Ideal.Hand

open Cert.Kernel9Ideal Cert.Kernel9Ideal.Gen Idealize.ShloMosaic Idealize.ShloMosaic.TcCoe Idealize.SL.Sem
open Cert.Ssd Cert.Recurrence
open Cert.KernelIdeal.Hand (In Chunk mat mat_congr mat_eq_at stAt)

variable (m : (ℓ : Loc nD τ sig) → Buf (Elt Ideal) ℓ) (c : Dev nD) (W : Whole)

/-- What the call's operands hold when its first grid point begins. -/
structure Entry : Prop where
  x : V m c main_arg0 = fun i : S8192x3072.Idx => ((W.X (i 0).val (i 1).val : ℝ) : EReal)
  dt : V m c main_arg1 = fun i : S8192x128.Idx => ((W.Dt (i 0).val (i 1).val : ℝ) : EReal)
  al : V m c main_arg2 = fun i : S1x128.Idx => ((W.Al (i 1).val : ℝ) : EReal)
  ex : V m c main_v4 = fun i : S32x2048.Idx => ((Chunk.hot (i 1).val (i 0).val : ℝ) : EReal)

/-- The blocks that each point reads and writes, decided over the grid's points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (1 : Fin 2) = 0
    ∧ win0_3.index t (0 : Fin 2) = 0 ∧ win0_3.index t (1 : Fin 2) = 0 :=
  (by decide +kernel : ∀ t : Fin grid0.N, _)

theorem out_facts : ∀ t : Fin cfg0.N, win0_4.index t (0 : Fin 2) = t.val ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- Point `n`'s chunk: the chunks of a sequence are visited in their order. -/
def point (n : ℕ) : Chunk := W.run (n / 32) (n % 32)

theorem fresh_point (n : ℕ) (h : n % 32 = 0) : (point W n).fresh = point W n := by
  unfold Chunk.fresh point Whole.run Whole.chunk
  congr 1
  funext i p
  rw [h]
  exact (state_start (W.la (n / 32) (p / 64)) (fun s => W.b (n / 32) (p / 512) s i) (W.xd (n / 32) (p / 64) (p % 64))).symm

theorem next_point (n : ℕ) (h : ¬(n + 1) % 32 = 0) : (point W n).after = (point W (n + 1)).ds := by
  funext i p
  unfold point
  rw [W.run_after]
  show _ = state _ _ _ (128 * ((n + 1) % 32))
  rw [show (n + 1) / 32 = n / 32 by omega, show 128 * ((n + 1) % 32) = 128 * (n % 32) + 128 by omega]

variable {m c W}

/-- A point's rows of the inputs. -/
theorem read_x (H : Entry m c W) (t : Fin cfg0.N) (j : S128x3072.Idx) : (iblk m c 0 t : S128x3072.Idx → EReal) j = (((point W t.val).x (j 0).val (j 1).val : ℝ) : EReal) := by
  have hf := idx_facts t
  unfold iblk
  rw [View.read_apply]
  show V m c main_arg0 _ = _
  rw [H.x]
  refine congrArg (fun r : ℝ => (r : EReal)) (congrArg₂ W.X ?_ ?_)
  · show win0_0.index t (0 : Fin 2) * 128 + 1 * (j 0).val = 4096 * (t.val / 32) + (128 * (t.val % 32) + (j 0).val)
    rw [hf.1]; clear hf; omega
  · show win0_0.index t (1 : Fin 2) * 3072 + 1 * (j 1).val = (j 1).val
    rw [hf.2.1]; clear hf; omega

/-- Its rows of the step sizes. -/
theorem read_dt (H : Entry m c W) (t : Fin cfg0.N) (j : S128x128.Idx) : (iblk m c 1 t : S128x128.Idx → EReal) j = (((point W t.val).dt (j 0).val (j 1).val : ℝ) : EReal) := by
  have hf := idx_facts t
  unfold iblk
  rw [View.read_apply]
  show V m c main_arg1 _ = _
  rw [H.dt]
  refine congrArg (fun r : ℝ => (r : EReal)) (congrArg₂ W.Dt ?_ ?_)
  · show win0_1.index t (0 : Fin 2) * 128 + 1 * (j 0).val = 4096 * (t.val / 32) + (128 * (t.val % 32) + (j 0).val)
    rw [hf.2.2.1]; clear hf; omega
  · show win0_1.index t (1 : Fin 2) * 128 + 1 * (j 1).val = (j 1).val
    rw [hf.2.2.2.1]; clear hf; omega

/-- The decay rates' logarithms. -/
theorem read_al (H : Entry m c W) (t : Fin cfg0.N) (j : S1x128.Idx) : (iblk m c 2 t : S1x128.Idx → EReal) j = (((point W t.val).al (j 1).val : ℝ) : EReal) := by
  have hf := idx_facts t
  unfold iblk
  rw [View.read_apply]
  show V m c main_arg2 _ = _
  rw [H.al]
  refine congrArg (fun r : ℝ => (r : EReal)) (congrArg W.Al ?_)
  show win0_2.index t (1 : Fin 2) * 128 + 1 * (j 1).val = (j 1).val
  rw [hf.2.2.2.2.1]; clear hf; omega

/-- The heads' membership. -/
theorem read_ex (H : Entry m c W) (t : Fin cfg0.N) (j : S32x2048.Idx) : (iblk m c 3 t : S32x2048.Idx → EReal) j = ((Chunk.hot (j 1).val (j 0).val : ℝ) : EReal) := by
  have hf := idx_facts t
  unfold iblk
  rw [View.read_apply]
  show V m c main_v4 _ = _
  rw [H.ex]
  refine congrArg (fun r : ℝ => (r : EReal)) (congrArg₂ Chunk.hot ?_ ?_)
  · show win0_3.index t (1 : Fin 2) * 2048 + 1 * (j 1).val = (j 1).val
    rw [hf.2.2.2.2.2.2]; clear hf; omega
  · show win0_3.index t (0 : Fin 2) * 32 + 1 * (j 0).val = (j 0).val
    rw [hf.2.2.2.2.2.1]; clear hf; omega

/-- A point reads its chunk. -/
theorem reads (H : Entry m c W) (t : Fin cfg0.N) : Reads (point W t.val) (iblk m c 0 t) (iblk m c 1 t) (iblk m c 2 t) (iblk m c 3 t) :=
  ⟨funext (read_x H t), funext (read_dt H t), funext (read_al H t), funext (read_ex H t)⟩

/-- What every point leaves: its chunk's outputs, the state before the chunk, and the state carried on. -/
theorem outs (H : Entry m c W) : ∀ (n : ℕ) (h : n < cfg0.N), outsAt0 m c n h
    = ((mat (point W n).yOut : FVec Ideal S128x2048 .f32), saved (point W n).ds, (mat (point W n).after : FVec Ideal S128x2048 .f32)) := by
  intro n
  induction n with
  | zero =>
    intro h
    rw [outsAt0_A m c ⟨0, h⟩ rfl]
    refine (start_out (D := point W 0) (reads H ⟨0, h⟩)).trans ?_
    rw [fresh_point W 0 rfl]
  | succ n ih =>
    intro h
    by_cases h0 : (n + 1) % 32 = 0
    · rw [outsAt0_A m c ⟨n + 1, h⟩ h0]
      refine (start_out (D := point W (n + 1)) (reads H ⟨n + 1, h⟩)).trans ?_
      rw [fresh_point W (n + 1) h0]
    · rw [outsAt0_B m c ⟨n + 1, h⟩ h0]
      refine step_out (D := point W (n + 1)) (reads H ⟨n + 1, h⟩) ?_
      show (outsAt0 m c n (Nat.lt_of_succ_lt h)).2.2 = _
      rw [ih, ← next_point W n h0]

/-! ## The arrays after the last point -/

/-- The outputs at row `i`, column `j` of the array. -/
def rowOut (W : Whole) (i j : ℕ) : ℝ := W.out (i / 4096) (j / 64) (j % 64) (i % 4096)

theorem yOut_row (n s k : ℕ) (hs : s < 128) : (point W n).yOut s k = rowOut W (128 * n + s) k := by
  unfold rowOut point
  rw [W.run_yOut _ _ (Nat.mod_lt n (by omega)) s hs, show (128 * n + s) / 4096 = n / 32 by omega, show (128 * n + s) % 4096 = 128 * (n % 32) + s by omega]

theorem flushed_y (H : Entry m c W) (t : Fin cfg0.N) :
    (dats m 0 c).flushed 4 t = ((cfg0.win 4).blk t).view.read (Elt Ideal) (fun i : S8192x2048.Idx => ((rowOut W (i 0).val (i 1).val : ℝ) : EReal)) := by
  obtain ⟨e0, e1, -⟩ := out_facts t
  rw [Value.flushed4]
  funext y
  rw [View.read_apply]
  have hy : (y 0).val < 128 := (y 0).isLt
  show (outsAt0 m c t.val t.isLt).1 y = _
  rw [outs H]
  have b0 : (((cfg0.win 4).blk t).view.emb y 0).val = 128 * t.val + (y 0).val := by
    show win0_4.index t (0 : Fin 2) * 128 + 1 * (y 0).val = _
    rw [e0]; omega
  have b1 : (((cfg0.win 4).blk t).view.emb y 1).val = (y 1).val := by
    show win0_4.index t (1 : Fin 2) * 2048 + 1 * (y 1).val = _
    rw [e1]; omega
  refine congrArg (fun r : ℝ => (r : EReal)) ((yOut_row t.val _ _ hy).trans ?_)
  rw [b0, b1]

theorem emb5_0 (t : Fin cfg0.N) (j : S1x128x2048.Idx) : (((cfg0.win 5).blk t).view.emb j 0).val = win0_5.index t (0 : Fin 3) * 1 + 1 * (j 0).val := rfl
theorem emb5_1 (t : Fin cfg0.N) (j : S1x128x2048.Idx) : (((cfg0.win 5).blk t).view.emb j 1).val = win0_5.index t (1 : Fin 3) * 128 + 1 * (j 1).val := rfl
theorem emb5_2 (t : Fin cfg0.N) (j : S1x128x2048.Idx) : (((cfg0.win 5).blk t).view.emb j 2).val = win0_5.index t (2 : Fin 3) * 2048 + 1 * (j 2).val := rfl

theorem place5 (t : Fin cfg0.N) (j : S1x128x2048.Idx) : (((cfg0.win 5).blk t).view.emb j 0).val = t.val
    ∧ (((cfg0.win 5).blk t).view.emb j 1).val = (j 1).val ∧ (((cfg0.win 5).blk t).view.emb j 2).val = (j 2).val := by
  have hf := (out_facts t).2.2
  have hj : (j 0).val = 0 := Nat.lt_one_iff.mp (j 0).isLt
  rw [emb5_0, emb5_1, emb5_2, hf.1, hf.2.1, hf.2.2, hj]
  simp only [Nat.mul_one, Nat.mul_zero, Nat.add_zero, Nat.zero_mul, Nat.zero_add, Nat.one_mul, and_self]

theorem flushed_st (H : Entry m c W) (t : Fin cfg0.N) :
    (dats m 0 c).flushed 5 t = ((cfg0.win 5).blk t).view.read (Elt Ideal) (fun i : S64x128x2048.Idx => ((stAt W (i 0).val (i 1).val (i 2).val : ℝ) : EReal)) := by
  rw [Value.flushed5]
  funext y
  rw [View.read_apply]
  obtain ⟨b0, b1, b2⟩ := place5 t y
  show (outsAt0 m c t.val t.isLt).2.1 y = _
  rw [outs H]
  show saved (point W t.val).ds y = ((stAt W _ _ _ : ℝ) : EReal)
  rw [b0, b1, b2]
  rfl

/-- The point that writes a row. -/
def rowPoint (i : Fin 8192) : Fin cfg0.N := ⟨i.val / 128, by show _ < 64; have := i.isLt; omega⟩

/-- A row's place is in the block its point writes. -/
theorem mem_y (i : S8192x2048.Idx) : i ∈ ((cfg0.win 4).blk (rowPoint (i 0))).view.set := by
  show i ∈ ((View.whole main_v5_0).slice (win0_4.rect (rowPoint (i 0)))).set
  rw [View.set_slice_whole, Rect.mem_set_unit]
  have h0 : (i 0).val < 8192 := (i 0).isLt
  have h1 : (i 1).val < 2048 := (i 1).isLt
  have e0 : win0_4.index (rowPoint (i 0)) (0 : Fin 2) = (i 0).val / 128 := (out_facts (rowPoint (i 0))).1
  have e1 : win0_4.index (rowPoint (i 0)) (1 : Fin 2) = 0 := (out_facts (rowPoint (i 0))).2.1
  intro a
  fin_cases a
  · show win0_4.index (rowPoint (i 0)) (0 : Fin 2) * 128 ≤ (i 0).val ∧ (i 0).val < win0_4.index (rowPoint (i 0)) (0 : Fin 2) * 128 + 128
    rw [e0]; clear e0 e1; omega
  · show win0_4.index (rowPoint (i 0)) (1 : Fin 2) * 2048 ≤ (i 1).val ∧ (i 1).val < win0_4.index (rowPoint (i 0)) (1 : Fin 2) * 2048 + 2048
    rw [e1]; clear e0 e1; omega

/-- The array of the outputs. -/
theorem final_y (H : Entry m c W) : (dats m 0 c).arrAt 4 cfg0.N = fun i : S8192x2048.Idx => ((rowOut W (i 0).val (i 1).val : ℝ) : EReal) :=
  (dats m 0 c).arrAt_eq_of_cover 4 _ (fun t _ => flushed_y H t) (fun i => ⟨rowPoint (i 0), flush0_4 _, mem_y i⟩)

/-- The point that writes a state. -/
def statePoint (i : Fin 64) : Fin cfg0.N := ⟨i.val, i.isLt⟩

theorem mem_st (i : S64x128x2048.Idx) : i ∈ ((cfg0.win 5).blk (statePoint (i 0))).view.set := by
  show i ∈ ((View.whole main_v5_1).slice (win0_5.rect (statePoint (i 0)))).set
  rw [View.set_slice_whole, Rect.mem_set_unit]
  have h1 : (i 1).val < 128 := (i 1).isLt
  have h2 : (i 2).val < 2048 := (i 2).isLt
  have e0 : win0_5.index (statePoint (i 0)) (0 : Fin 3) = (i 0).val := (out_facts (statePoint (i 0))).2.2.1
  have e1 : win0_5.index (statePoint (i 0)) (1 : Fin 3) = 0 := (out_facts (statePoint (i 0))).2.2.2.1
  have e2 : win0_5.index (statePoint (i 0)) (2 : Fin 3) = 0 := (out_facts (statePoint (i 0))).2.2.2.2
  intro a
  fin_cases a
  · show win0_5.index (statePoint (i 0)) (0 : Fin 3) * 1 ≤ (i 0).val ∧ (i 0).val < win0_5.index (statePoint (i 0)) (0 : Fin 3) * 1 + 1
    rw [e0]; clear e0 e1 e2; omega
  · show win0_5.index (statePoint (i 0)) (1 : Fin 3) * 128 ≤ (i 1).val ∧ (i 1).val < win0_5.index (statePoint (i 0)) (1 : Fin 3) * 128 + 128
    rw [e1]; clear e0 e1 e2; omega
  · show win0_5.index (statePoint (i 0)) (2 : Fin 3) * 2048 ≤ (i 2).val ∧ (i 2).val < win0_5.index (statePoint (i 0)) (2 : Fin 3) * 2048 + 2048
    rw [e2]; clear e0 e1 e2; omega

/-- The array of the states. -/
theorem final_st (H : Entry m c W) : (dats m 0 c).arrAt 5 cfg0.N = fun i : S64x128x2048.Idx => ((stAt W (i 0).val (i 1).val (i 2).val : ℝ) : EReal) :=
  (dats m 0 c).arrAt_eq_of_cover 5 _ (fun t _ => flushed_st H t) (fun i => ⟨statePoint (i 0), flush0_5 _, mem_st i⟩)

end Cert.Kernel9Ideal.Hand
-- ==== Proof.FwdValue.lean ====
/- The forward recurrence's call against the reference, on real operands: its two results are the reference's. -/
module

public import proofs.«01_k».proof.Proof.FwdFold
public import proofs.«01_k».proof.Proof.SsdValue
public import proofs.«01_k».proof.Proof.Gen.Reference9Ideal.Read
public import proofs.«01_k».proof.Proof.Gen.Reference9Ideal.Run
public import proofs.«01_k».proof.Defs

@[expose] public section

set_option maxRecDepth 16384

noncomputable section

/-- The precondition's own side conditions. -/
theorem Cert.Pre_finite9.side : Cert.Pre_finite9.Facts := ⟨by decide, by decide, by decide⟩

/-! ## The reference -/

namespace Cert.Reference9Ideal.Hand

open Cert.Reference9Ideal Cert.Reference9Ideal.Read Idealize.ShloMosaic Idealize.ShloMosaic.TcCoe
open Cert.Ssd Cert.Recurrence Cert.Running
open Cert.ReferenceIdeal.Hand (ax adt aal real mul_real')

variable (W : Whole)

/-- Every step's output is the sum over the steps up to it. -/
theorem v36 (i) : val_main_v36 (F := Ideal) (ax W) (adt W) (aal W) i
    = ((W.out (i 0).val (8 * (i 1).val + (i 2).val) (i 3).val (i 4).val : ℝ) : EReal) := by
  have h2 : (i 2).val < 8 := (i 2).isLt
  rw [val_main_v36_apply]
  unfold Whole.out
  rw [show (8 * (i 1).val + (i 2).val) / 8 = (i 1).val by omega]
  exact sum_coe (fun s => W.sc (i 0).val (i 1).val (i 4).val s * W.w (i 0).val (8 * (i 1).val + (i 2).val) (i 4).val s * W.xd (i 0).val (8 * (i 1).val + (i 2).val) (i 3).val s) fun k =>
    (mul_real' (Cert.ReferenceIdeal.Hand.v35 W _) (Cert.ReferenceIdeal.Hand.v32 W _)).trans (real (mul_comm _ _))

theorem v38 (i) : val_main_v38 (F := Ideal) (ax W) (adt W) (aal W) i = ((Cert.Kernel9Ideal.Hand.rowOut W (i 0).val (i 1).val : ℝ) : EReal) := by
  have h1 : (i 1).val < 2048 := (i 1).isLt
  rw [val_main_v38_apply, val_main_v37_apply, v36]
  refine real ?_
  show W.out (((i 0).val * 2048 + (i 1).val) / 8388608) (8 * (((i 0).val * 2048 + (i 1).val) / 512 % 4) + ((i 0).val * 2048 + (i 1).val) / 64 % 8)
    (((i 0).val * 2048 + (i 1).val) % 64) (((i 0).val * 2048 + (i 1).val) / 2048 % 4096) = W.out ((i 0).val / 4096) ((i 1).val / 64) ((i 1).val % 64) ((i 0).val % 4096)
  rw [show ((i 0).val * 2048 + (i 1).val) / 8388608 = (i 0).val / 4096 by omega,
    show 8 * (((i 0).val * 2048 + (i 1).val) / 512 % 4) + ((i 0).val * 2048 + (i 1).val) / 64 % 8 = (i 1).val / 64 by omega,
    show ((i 0).val * 2048 + (i 1).val) % 64 = (i 1).val % 64 by omega,
    show ((i 0).val * 2048 + (i 1).val) / 2048 % 4096 = (i 0).val % 4096 by omega]

/-- The states are the backward call's prepared ones. -/
theorem v81 (i) : val_main_v81 (F := Ideal) (ax W) (adt W) (aal W) i = ((Cert.KernelIdeal.Hand.stAt W (i 0).val (i 1).val (i 2).val : ℝ) : EReal) :=
  (show val_main_v81 (F := Ideal) (ax W) (adt W) (aal W) i = Cert.KernelIdeal.Hand.states (ax W) (adt W) (aal W) i from rfl).trans
    (Cert.KernelIdeal.Hand.states_apply W i)

end Cert.Reference9Ideal.Hand

/-! ## The call -/

namespace Cert.Kernel9Ideal.Hand

open Cert.Kernel9Ideal Cert.Kernel9Ideal.Gen Idealize.ShloMosaic Idealize.ShloMosaic.TcCoe Idealize.SL.Sem
open Cert.Ssd Cert.Recurrence
open Cert.ReferenceIdeal.Hand (ax adt aal)
open Cert.KernelIdeal.Hand (entries entries_at entries_row real_of_pre members members_apply stAt)

variable (m : (ℓ : Loc nD τ sig) → Buf (Elt Ideal) ℓ) (c : Dev nD)

theorem entry_ex : V m c main_v4 = members := by
  entry_read
  simp only [hostOps0, hostOps0_1, hostOps0_2, List.flatten_cons, List.flatten_nil, List.append_nil, List.cons_append, List.nil_append]
  after_results
  rfl

/-- The call's arguments as real numbers; the forward pass has no gradient coming in. -/
def whole : Whole where
  X := entries (a := 8192) (b := 3072) (m ((c : Thread nD τ).loc main_arg0))
  Dt := entries (a := 8192) (b := 128) (m ((c : Thread nD τ).loc main_arg1))
  Al := entries (a := 1) (b := 128) (m ((c : Thread nD τ).loc main_arg2)) 0
  Dy := fun _ _ => 0
  Sk := fun _ => 0

/-- The arguments hold real numbers. -/
structure Real : Prop where
  x : m ((c : Thread nD τ).loc main_arg0) = ax (whole m c)
  dt : m ((c : Thread nD τ).loc main_arg1) = adt (whole m c)
  al : m ((c : Thread nD τ).loc main_arg2) = aal (whole m c)

theorem real_args (h : Pre_Kernel9Ideal_finite9 (hPre_finite9 := Cert.Pre_finite9.side) m) : Real m c where
  x := funext (entries_at (real_of_pre (s := S8192x3072) _ _ (h c).1))
  dt := funext (entries_at (real_of_pre (s := S8192x128) _ _ (h c).2.1))
  al := funext (entries_row (real_of_pre (s := S1x128) _ _ (h c).2.2))

variable {m c}

theorem entry (h : Real m c) : Entry m c (whole m c) where
  x := (V_main_arg0 m c).trans h.x
  dt := (V_main_arg1 m c).trans h.dt
  al := (V_main_arg2 m c).trans h.al
  ex := (entry_ex m c).trans (funext members_apply)

theorem algebraic : Cert.algebraic_Kernel9Ideal_Reference9Ideal_pre_finite9 (hPre_finite9 := Cert.Pre_finite9.side) := by
  intro m ρ m' ρ' hpre hagree
  have R : ∀ c, Real m c := fun c => real_args m c hpre
  refine ⟨fun c => fun i : S8192x2048.Idx => ((rowOut (whole m c) (i 0).val (i 1).val : ℝ) : EReal),
    fun c => fun i : S64x128x2048.Idx => ((stAt (whole m c) (i 0).val (i 1).val (i 2).val : ℝ) : EReal),
    (θ_run defs _ _).mono (fun _ h c => ⟨(h c).1.trans (final_y (entry (R c))), (h c).2.1.trans (final_st (entry (R c))), (h c).2.2⟩)
      (Value.run_blocks (F := Ideal) m ρ), ?_⟩
  refine (θ_run Cert.Reference9Ideal.defs _ _).mono (fun _ h c => ⟨(h c).1.trans ?_, (h c).2.1.trans ?_, (h c).2.2⟩)
    (Cert.Reference9Ideal.Value.run (F := Ideal) m' ρ')
  · refine (Cert.Reference9Ideal.Read.val_main_v38_eq (F := Ideal) _ _ _).trans ?_
    rw [(hagree c).1, (hagree c).2.1, (hagree c).2.2]
    exact (congr (congr (congrArg _ (R c).x) (R c).dt) (R c).al).trans (funext (Cert.Reference9Ideal.Hand.v38 (whole m c)))
  · refine (Cert.Reference9Ideal.Read.val_main_v81_eq (F := Ideal) _ _).trans ?_
    rw [(hagree c).1, (hagree c).2.1, (hagree c).2.2]
    exact (congr (congr (congrArg _ (R c).x) (R c).dt) (R c).al).trans (funext (Cert.Reference9Ideal.Hand.v81 (whole m c)))

end Cert.Kernel9Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.OutProjWeight
public import proofs.«01_k».proof.Proof.InProjInput
public import proofs.«01_k».proof.Proof.InProjWeight1
public import proofs.«01_k».proof.Proof.OutProjInput
public import proofs.«01_k».proof.Proof.InProjWeight0
public import proofs.«01_k».proof.Proof.OutProj
public import proofs.«01_k».proof.Proof.InProj
public import proofs.«01_k».proof.Proof.SsdValue
public import proofs.«01_k».proof.Proof.FwdValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_finite.side, Cert.Pre_finite9.side, by
  exact ⟨
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2.2.2, sem_eq_zero_of_no_sems rfl r.2⟩) (Cert.ReferenceIdeal.Value.run m ρ),
  fun m ρ _ => (θ_run Cert.ReferenceIdeal.defs _ _).mono (fun r h => ⟨fun c => (h c).2.2.2, sem_eq_zero_of_no_sems rfl r.2⟩) (Cert.ReferenceIdeal.Value.run m ρ),
  fun m ρ _ => Cert.Kernel2.Gen.frame m ρ,
  fun m ρ _ => Cert.Kernel2Ideal.Gen.frame m ρ,
  fun m ρ _ => (θ_run Cert.Reference2Ideal.defs _ _).mono (fun r h => ⟨fun c => (h c).2, sem_eq_zero_of_no_sems rfl r.2⟩) (Cert.Reference2Ideal.Value.run m ρ),
  fun m ρ _ => Cert.Kernel3.Gen.frame m ρ,
  fun m ρ _ => Cert.Kernel3Ideal.Gen.frame m ρ,
  fun m ρ _ => (θ_run Cert.Reference3Ideal.defs _ _).mono (fun r h => ⟨fun c => (h c).2, sem_eq_zero_of_no_sems rfl r.2⟩) (Cert.Reference3Ideal.Value.run m ρ),
  fun m ρ _ => Cert.Kernel4.Gen.frame m ρ,
  fun m ρ _ => Cert.Kernel4Ideal.Gen.frame m ρ,
  fun m ρ _ => (θ_run Cert.Reference4Ideal.defs _ _).mono (fun r h => ⟨fun c => (h c).2, sem_eq_zero_of_no_sems rfl r.2⟩) (Cert.Reference4Ideal.Value.run m ρ),
  fun m ρ _ => Cert.Kernel5.Gen.frame m ρ,
  fun m ρ _ => Cert.Kernel5Ideal.Gen.frame m ρ,
  fun m ρ _ => (θ_run Cert.Reference5Ideal.defs _ _).mono (fun r h => ⟨fun c => (h c).2, sem_eq_zero_of_no_sems rfl r.2⟩) (Cert.Reference5Ideal.Value.run m ρ),
  fun m ρ _ => Cert.Kernel6.Gen.frame m ρ,
  fun m ρ _ => Cert.Kernel6Ideal.Gen.frame m ρ,
  fun m ρ _ => (θ_run Cert.Reference6Ideal.defs _ _).mono (fun r h => ⟨fun c => (h c).2, sem_eq_zero_of_no_sems rfl r.2⟩) (Cert.Reference6Ideal.Value.run m ρ),
  fun m ρ _ => Cert.Kernel7.Gen.frame m ρ,
  fun m ρ _ => Cert.Kernel7Ideal.Gen.frame m ρ,
  fun m ρ _ => (θ_run Cert.Reference7Ideal.defs _ _).mono (fun r h => ⟨fun c => (h c).2, sem_eq_zero_of_no_sems rfl r.2⟩) (Cert.Reference7Ideal.Value.run m ρ),
  fun m ρ _ => Cert.Kernel8.Gen.frame m ρ,
  fun m ρ _ => Cert.Kernel8Ideal.Gen.frame m ρ,
  fun m ρ _ => (θ_run Cert.Reference8Ideal.defs _ _).mono (fun r h => ⟨fun c => (h c).2, sem_eq_zero_of_no_sems rfl r.2⟩) (Cert.Reference8Ideal.Value.run m ρ),
  fun m ρ _ => Cert.Kernel9.Gen.frame m ρ,
  fun m ρ _ => Cert.Kernel9Ideal.Gen.frame m ρ,
  fun m ρ _ => Cert.Kernel9Ideal.Gen.frame m ρ,
  fun m ρ _ => (θ_run Cert.Reference9Ideal.defs _ _).mono (fun r h => ⟨fun c => (h c).2.2, sem_eq_zero_of_no_sems rfl r.2⟩) (Cert.Reference9Ideal.Value.run m ρ),
  fun m ρ _ => (θ_run Cert.Reference9Ideal.defs _ _).mono (fun r h => ⟨fun c => (h c).2.2, sem_eq_zero_of_no_sems rfl r.2⟩) (Cert.Reference9Ideal.Value.run m ρ),
  IdealRules.named_const.statement Cert.KernelIdeal.κ "mask" .f32 0xF149F2CA#32 ⊥ rfl,
  trivial,
  Cert.Kernel2Ideal.Hand.algebraic,
  trivial,
  Cert.Kernel3Ideal.Hand.algebraic,
  trivial,
  Cert.Kernel4Ideal.Hand.algebraic,
  trivial,
  Cert.Kernel5Ideal.Hand.algebraic,
  trivial,
  Cert.Kernel6Ideal.Hand.algebraic,
  trivial,
  Cert.Kernel7Ideal.Hand.algebraic,
  trivial,
  Cert.Kernel8Ideal.Hand.algebraic,
  Cert.KernelIdeal.Hand.algebraic,
  IdealRules.named_const.statement Cert.Kernel9Ideal.κ "mask" .f32 0xF149F2CA#32 ⊥ rfl,
  Cert.Kernel9Ideal.Hand.algebraic⟩⟩

end Cert.Proof

end
